-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_plus_inf [hPre_no_plus_inf : Cert.Pre_no_plus_inf.Facts] (m : (ℓ : Loc Cert.KernelIdeal.nD Cert.KernelIdeal.τ Cert.KernelIdeal.sig) → Buf (Elt Ideal) ℓ) : Prop :=
  ∀ c : Dev Cert.KernelIdeal.nD,
    (Cert.Pre_no_plus_inf.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_plus_inf [hPre_no_plus_inf : Cert.Pre_no_plus_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_plus_inf.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_plus_inf [hKernelIdeal : Cert.KernelIdeal.Facts] [hPre_no_plus_inf : Cert.Pre_no_plus_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_plus_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_plus_inf [hReferenceIdeal : Cert.ReferenceIdeal.Facts] [hPre_no_plus_inf : Cert.Pre_no_plus_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_plus_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_plus_inf [hKernelIdeal : Cert.KernelIdeal.Facts] [hReferenceIdeal : Cert.ReferenceIdeal.Facts] [hPre_no_plus_inf : Cert.Pre_no_plus_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_plus_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v184)) (v1 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v184) = v0 c
          ∧ r.2.mem ((c.tc : Thread Cert.KernelIdeal.nD Cert.KernelIdeal.τ).loc Cert.KernelIdeal.main_v185) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_plus_inf : Cert.Pre_no_plus_inf.Facts),
    quiescent_Kernel (hKernel := hKernel)
    ∧ quiescent_KernelIdeal (hKernelIdeal := hKernelIdeal)
    ∧ quiescent_KernelIdeal_pre_no_plus_inf (hKernelIdeal := hKernelIdeal) (hPre_no_plus_inf := hPre_no_plus_inf)
    ∧ quiescent_ReferenceIdeal (hReferenceIdeal := hReferenceIdeal)
    ∧ quiescent_ReferenceIdeal_pre_no_plus_inf (hReferenceIdeal := hReferenceIdeal) (hPre_no_plus_inf := hPre_no_plus_inf)
    ∧ preserves_Kernel_KernelIdeal
    ∧ algebraic_KernelIdeal_ReferenceIdeal_pre_no_plus_inf (hKernelIdeal := hKernelIdeal) (hReferenceIdeal := hReferenceIdeal) (hPre_no_plus_inf := hPre_no_plus_inf)
-- ==== Pre_no_plus_inf.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) : IVec S_ 1 :=
  let main_cst : FVec F S_ .f32 := constant S_ .f32 0x7F800000#32
  let main_v0 : FVec F S128x100000 .f32 := broadcastInDim S128x100000 ![] bcast_S_S128x100000 main_cst
  let main_v1 : IVec S128x100000 1 := cmpf .olt main_arg0 main_v0
  let main_c : IVec S_ 1 := constantI S_ 1 1#1
  let main_v2 : IVec S_ 1 := (fun x v => Host.reduce IntOp.andi x v reducesTo_S128x100000_S_d0_1 h_S_) main_v1 main_c
  main_v2
-- ==== Kernel.lean ====
abbrev S128x100000 : Shape := ⟨2, ![128, 100000]⟩
abbrev S100000x128 : Shape := ⟨2, ![100000, 128]⟩
abbrev S_ : Shape := ⟨0, ![]⟩
abbrev S1x128 : Shape := ⟨2, ![1, 128]⟩
abbrev S2x2000x128 : Shape := ⟨3, ![2, 2000, 128]⟩
abbrev S3x2000x128 : Shape := ⟨3, ![3, 2000, 128]⟩
abbrev S50 : Shape := ⟨1, ![50]⟩
abbrev S2 : Shape := ⟨1, ![2]⟩
abbrev S3 : Shape := ⟨1, ![3]⟩
abbrev S1 : Shape := ⟨1, ![1]⟩
abbrev S2000x128 : Shape := ⟨2, ![2000, 128]⟩
abbrev S128 : Shape := ⟨1, ![128]⟩
abbrev S1x2000x128 : Shape := ⟨3, ![1, 2000, 128]⟩

abbrev nBuf : Space → Nat
  | .hbm => 245
  | .vmem => 7
  | .smem => 0
  | _ => 0

abbrev hbmTy0_0 (i : Nat) : BufTy := match i % 128 with
  | 0 => ⟨S128x100000, .f32⟩
  | 1 => ⟨S100000x128, .f32⟩
  | 2 => ⟨S100000x128, .i32⟩
  | 3 => ⟨S_, .i32⟩
  | 4 => ⟨S100000x128, .i32⟩
  | 5 => ⟨S100000x128, .i32⟩
  | 6 => ⟨S100000x128, .i32⟩
  | 7 => ⟨S100000x128, .i32⟩
  | 8 => ⟨S_, .i32⟩
  | 9 => ⟨S100000x128, .i32⟩
  | 10 => ⟨S_, .i32⟩
  | 11 => ⟨S100000x128, .i32⟩
  | 12 => ⟨S100000x128, .i32⟩
  | 13 => ⟨S100000x128, .i32⟩
  | 14 => ⟨S_, .i32⟩
  | 15 => ⟨S100000x128, .i32⟩
  | 16 => ⟨S100000x128, .i32⟩
  | 17 => ⟨S_, .i32⟩
  | 18 => ⟨S100000x128, .i32⟩
  | 19 => ⟨S100000x128, .i32⟩
  | 20 => ⟨S100000x128, .i32⟩
  | 21 => ⟨S100000x128, .i32⟩
  | 22 => ⟨S100000x128, .i32⟩
  | 23 => ⟨S_, .i32⟩
  | 24 => ⟨S100000x128, .i32⟩
  | 25 => ⟨S100000x128, .i32⟩
  | 26 => ⟨S_, .i32⟩
  | 27 => ⟨S100000x128, .i32⟩
  | 28 => ⟨S100000x128, .i32⟩
  | 29 => ⟨S100000x128, .i32⟩
  | 30 => ⟨S100000x128, .i32⟩
  | 31 => ⟨S100000x128, .i32⟩
  | 32 => ⟨S_, .i32⟩
  | 33 => ⟨S100000x128, .i32⟩
  | 34 => ⟨S100000x128, .i32⟩
  | 35 => ⟨S_, .i32⟩
  | 36 => ⟨S100000x128, .i32⟩
  | 37 => ⟨S100000x128, .i32⟩
  | 38 => ⟨S100000x128, .i32⟩
  | 39 => ⟨S100000x128, .i32⟩
  | 40 => ⟨S100000x128, .i32⟩
  | 41 => ⟨S_, .i32⟩
  | 42 => ⟨S100000x128, .i32⟩
  | 43 => ⟨S100000x128, .i32⟩
  | 44 => ⟨S_, .i32⟩
  | 45 => ⟨S100000x128, .i32⟩
  | 46 => ⟨S100000x128, .i32⟩
  | 47 => ⟨S100000x128, .i32⟩
  | 48 => ⟨S100000x128, .i32⟩
  | 49 => ⟨S_, .i32⟩
  | 50 => ⟨S100000x128, .i32⟩
  | 51 => ⟨S100000x128, .i32⟩
  | 52 => ⟨S_, .i32⟩
  | 53 => ⟨S100000x128, .i32⟩
  | 54 => ⟨S100000x128, .i32⟩
  | 55 => ⟨S100000x128, .i32⟩
  | 56 => ⟨S_, .i32⟩
  | 57 => ⟨S100000x128, .i32⟩
  | 58 => ⟨S100000x128, .i32⟩
  | 59 => ⟨S_, .i32⟩
  | 60 => ⟨S100000x128, .i32⟩
  | 61 => ⟨S100000x128, .i32⟩
  | 62 => ⟨S100000x128, .i32⟩
  | 63 => ⟨S100000x128, .i32⟩
  | 64 => ⟨S100000x128, .i32⟩
  | 65 => ⟨S_, .i32⟩
  | 66 => ⟨S100000x128, .i32⟩
  | 67 => ⟨S100000x128, .i32⟩
  | 68 => ⟨S_, .i32⟩
  | 69 => ⟨S100000x128, .i32⟩
  | 70 => ⟨S100000x128, .i32⟩
  | 71 => ⟨S100000x128, .i32⟩
  | 72 => ⟨S100000x128, .i32⟩
  | 73 => ⟨S100000x128, .i32⟩
  | 74 => ⟨S_, .i32⟩
  | 75 => ⟨S100000x128, .i32⟩
  | 76 => ⟨S100000x128, .i32⟩
  | 77 => ⟨S_, .i32⟩
  | 78 => ⟨S100000x128, .i32⟩
  | 79 => ⟨S100000x128, .i32⟩
  | 80 => ⟨S100000x128, .i32⟩
  | 81 => ⟨S100000x128, .i32⟩
  | 82 => ⟨S100000x128, .i32⟩
  | 83 => ⟨S_, .i32⟩
  | 84 => ⟨S100000x128, .i32⟩
  | 85 => ⟨S100000x128, .i32⟩
  | 86 => ⟨S_, .i32⟩
  | 87 => ⟨S100000x128, .i32⟩
  | 88 => ⟨S100000x128, .i32⟩
  | 89 => ⟨S100000x128, .i32⟩
  | 90 => ⟨S100000x128, .i32⟩
  | 91 => ⟨S_, .i32⟩
  | 92 => ⟨S100000x128, .i32⟩
  | 93 => ⟨S100000x128, .i32⟩
  | 94 => ⟨S_, .i32⟩
  | 95 => ⟨S100000x128, .i32⟩
  | 96 => ⟨S100000x128, .i32⟩
  | 97 => ⟨S100000x128, .i32⟩
  | 98 => ⟨S_, .i32⟩
  | 99 => ⟨S100000x128, .i32⟩
  | 100 => ⟨S100000x128, .i32⟩
  | 101 => ⟨S_, .i32⟩
  | 102 => ⟨S100000x128, .i32⟩
  | 103 => ⟨S100000x128, .i32⟩
  | 104 => ⟨S100000x128, .i32⟩
  | 105 => ⟨S100000x128, .i32⟩
  | 106 => ⟨S100000x128, .i32⟩
  | 107 => ⟨S_, .i32⟩
  | 108 => ⟨S100000x128, .i32⟩
  | 109 => ⟨S100000x128, .i32⟩
  | 110 => ⟨S_, .i32⟩
  | 111 => ⟨S100000x128, .i32⟩
  | 112 => ⟨S100000x128, .i32⟩
  | 113 => ⟨S100000x128, .i32⟩
  | 114 => ⟨S100000x128, .i32⟩
  | 115 => ⟨S100000x128, .i32⟩
  | 116 => ⟨S_, .i32⟩
  | 117 => ⟨S100000x128, .i32⟩
  | 118 => ⟨S100000x128, .i32⟩
  | 119 => ⟨S_, .i32⟩
  | 120 => ⟨S100000x128, .i32⟩
  | 121 => ⟨S100000x128, .i32⟩
  | 122 => ⟨S100000x128, .i32⟩
  | 123 => ⟨S100000x128, .i32⟩
  | 124 => ⟨S100000x128, .i32⟩
  | 125 => ⟨S_, .i32⟩
  | 126 => ⟨S100000x128, .i32⟩
  | 127 => ⟨S100000x128, .i32⟩
  | _ => ⟨S128x100000, .f32⟩

abbrev hbmTy0_1 (i : Nat) : BufTy := match i % 128 with
  | 0 => ⟨S_, .i32⟩
  | 1 => ⟨S100000x128, .i32⟩
  | 2 => ⟨S100000x128, .i32⟩
  | 3 => ⟨S100000x128, .i32⟩
  | 4 => ⟨S100000x128, .i32⟩
  | 5 => ⟨S_, .i32⟩
  | 6 => ⟨S100000x128, .i32⟩
  | 7 => ⟨S100000x128, .i32⟩
  | 8 => ⟨S_, .i32⟩
  | 9 => ⟨S100000x128, .i32⟩
  | 10 => ⟨S100000x128, .i32⟩
  | 11 => ⟨S100000x128, .i32⟩
  | 12 => ⟨S_, .i32⟩
  | 13 => ⟨S100000x128, .i32⟩
  | 14 => ⟨S100000x128, .i32⟩
  | 15 => ⟨S_, .i32⟩
  | 16 => ⟨S100000x128, .i32⟩
  | 17 => ⟨S100000x128, .i32⟩
  | 18 => ⟨S100000x128, .i32⟩
  | 19 => ⟨S100000x128, .i32⟩
  | 20 => ⟨S100000x128, .i32⟩
  | 21 => ⟨S_, .i32⟩
  | 22 => ⟨S100000x128, .i32⟩
  | 23 => ⟨S100000x128, .i32⟩
  | 24 => ⟨S_, .i32⟩
  | 25 => ⟨S100000x128, .i32⟩
  | 26 => ⟨S100000x128, .i32⟩
  | 27 => ⟨S100000x128, .i32⟩
  | 28 => ⟨S100000x128, .i32⟩
  | 29 => ⟨S100000x128, .i32⟩
  | 30 => ⟨S_, .i32⟩
  | 31 => ⟨S100000x128, .i32⟩
  | 32 => ⟨S100000x128, .i32⟩
  | 33 => ⟨S_, .i32⟩
  | 34 => ⟨S100000x128, .i32⟩
  | 35 => ⟨S100000x128, .i32⟩
  | 36 => ⟨S100000x128, .i32⟩
  | 37 => ⟨S100000x128, .i32⟩
  | 38 => ⟨S100000x128, .i32⟩
  | 39 => ⟨S_, .i32⟩
  | 40 => ⟨S100000x128, .i32⟩
  | 41 => ⟨S100000x128, .i32⟩
  | 42 => ⟨S_, .i32⟩
  | 43 => ⟨S100000x128, .i32⟩
  | 44 => ⟨S100000x128, .i32⟩
  | 45 => ⟨S100000x128, .i32⟩
  | 46 => ⟨S100000x128, .i32⟩
  | 47 => ⟨S_, .i32⟩
  | 48 => ⟨S100000x128, .i32⟩
  | 49 => ⟨S100000x128, .i32⟩
  | 50 => ⟨S_, .i32⟩
  | 51 => ⟨S100000x128, .i32⟩
  | 52 => ⟨S100000x128, .i32⟩
  | 53 => ⟨S100000x128, .i32⟩
  | 54 => ⟨S_, .i32⟩
  | 55 => ⟨S100000x128, .i32⟩
  | 56 => ⟨S100000x128, .i32⟩
  | 57 => ⟨S_, .i32⟩
  | 58 => ⟨S100000x128, .i32⟩
  | 59 => ⟨S100000x128, .i32⟩
  | 60 => ⟨S100000x128, .i32⟩
  | 61 => ⟨S100000x128, .i32⟩
  | 62 => ⟨S100000x128, .i32⟩
  | 63 => ⟨S_, .i32⟩
  | 64 => ⟨S100000x128, .i32⟩
  | 65 => ⟨S100000x128, .i32⟩
  | 66 => ⟨S_, .i32⟩
  | 67 => ⟨S100000x128, .i32⟩
  | 68 => ⟨S100000x128, .i32⟩
  | 69 => ⟨S100000x128, .i32⟩
  | 70 => ⟨S100000x128, .i32⟩
  | 71 => ⟨S100000x128, .i32⟩
  | 72 => ⟨S_, .i32⟩
  | 73 => ⟨S100000x128, .i32⟩
  | 74 => ⟨S100000x128, .i32⟩
  | 75 => ⟨S_, .i32⟩
  | 76 => ⟨S100000x128, .i32⟩
  | 77 => ⟨S100000x128, .i32⟩
  | 78 => ⟨S100000x128, .i32⟩
  | 79 => ⟨S100000x128, .i32⟩
  | 80 => ⟨S100000x128, .i32⟩
  | 81 => ⟨S_, .i32⟩
  | 82 => ⟨S100000x128, .i32⟩
  | 83 => ⟨S100000x128, .i32⟩
  | 84 => ⟨S_, .i32⟩
  | 85 => ⟨S100000x128, .i32⟩
  | 86 => ⟨S100000x128, .i32⟩
  | 87 => ⟨S100000x128, .i32⟩
  | 88 => ⟨S100000x128, .i32⟩
  | 89 => ⟨S_, .i32⟩
  | 90 => ⟨S100000x128, .i32⟩
  | 91 => ⟨S100000x128, .i32⟩
  | 92 => ⟨S_, .i32⟩
  | 93 => ⟨S100000x128, .i32⟩
  | 94 => ⟨S100000x128, .i32⟩
  | 95 => ⟨S100000x128, .i32⟩
  | 96 => ⟨S_, .i32⟩
  | 97 => ⟨S100000x128, .i32⟩
  | 98 => ⟨S100000x128, .i32⟩
  | 99 => ⟨S_, .i32⟩
  | 100 => ⟨S100000x128, .i32⟩
  | 101 => ⟨S100000x128, .i32⟩
  | 102 => ⟨S100000x128, .f32⟩
  | 103 => ⟨S_, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x128, .f32⟩
  | 110 => ⟨S100000x128, .f32⟩
  | 111 => ⟨S100000x128, .f32⟩
  | 112 => ⟨S100000x128, .f32⟩
  | 113 => ⟨S100000x128, .f32⟩
  | 114 => ⟨S1x128, .i32⟩
  | 115 => ⟨S128x100000, .f32⟩
  | 116 => ⟨S128, .i32⟩
  | _ => ⟨S128x100000, .f32⟩

abbrev hbmTy (i : Nat) : BufTy := match i / 128 with
  | 0 => hbmTy0_0 i
  | 1 => hbmTy0_1 i
  | _ => ⟨S128x100000, .f32⟩

abbrev bufTy : (tb : Table) → Fin (tcTables nBuf tb) → BufTy
  | .hbm, ⟨i, _⟩ => hbmTy i
  | .local _ .vmem, ⟨0, _⟩ => ⟨S1x128, .i32⟩
  | .local _ .vmem, ⟨1, _⟩ => ⟨S100000x128, .f32⟩
  | .local _ .vmem, ⟨2, _⟩ => ⟨S2x2000x128, .f32⟩
  | .local _ .vmem, ⟨3, _⟩ => ⟨S3x2000x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_4 : Ref sig .tc := ⟨.hbm, 23, rfl⟩
abbrev main_v17 : Ref sig .tc := ⟨.hbm, 24, rfl⟩
abbrev main_v18 : Ref sig .tc := ⟨.hbm, 25, rfl⟩
abbrev main_c_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_6 : Ref sig .tc := ⟨.hbm, 32, rfl⟩
abbrev main_v24 : Ref sig .tc := ⟨.hbm, 33, rfl⟩
abbrev main_v25 : Ref sig .tc := ⟨.hbm, 34, rfl⟩
abbrev main_c_7 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_8 : Ref sig .tc := ⟨.hbm, 41, rfl⟩
abbrev main_v31 : Ref sig .tc := ⟨.hbm, 42, rfl⟩
abbrev main_v32 : Ref sig .tc := ⟨.hbm, 43, rfl⟩
abbrev main_c_9 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_10 : Ref sig .tc := ⟨.hbm, 49, rfl⟩
abbrev main_v37 : Ref sig .tc := ⟨.hbm, 50, rfl⟩
abbrev main_v38 : Ref sig .tc := ⟨.hbm, 51, rfl⟩
abbrev main_c_11 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_12 : Ref sig .tc := ⟨.hbm, 56, rfl⟩
abbrev main_v42 : Ref sig .tc := ⟨.hbm, 57, rfl⟩
abbrev main_v43 : Ref sig .tc := ⟨.hbm, 58, rfl⟩
abbrev main_c_13 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_14 : Ref sig .tc := ⟨.hbm, 65, rfl⟩
abbrev main_v49 : Ref sig .tc := ⟨.hbm, 66, rfl⟩
abbrev main_v50 : Ref sig .tc := ⟨.hbm, 67, rfl⟩
abbrev main_c_15 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_16 : Ref sig .tc := ⟨.hbm, 74, rfl⟩
abbrev main_v56 : Ref sig .tc := ⟨.hbm, 75, rfl⟩
abbrev main_v57 : Ref sig .tc := ⟨.hbm, 76, rfl⟩
abbrev main_c_17 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_18 : Ref sig .tc := ⟨.hbm, 83, rfl⟩
abbrev main_v63 : Ref sig .tc := ⟨.hbm, 84, rfl⟩
abbrev main_v64 : Ref sig .tc := ⟨.hbm, 85, rfl⟩
abbrev main_c_19 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_20 : Ref sig .tc := ⟨.hbm, 91, rfl⟩
abbrev main_v69 : Ref sig .tc := ⟨.hbm, 92, rfl⟩
abbrev main_v70 : Ref sig .tc := ⟨.hbm, 93, rfl⟩
abbrev main_c_21 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_22 : Ref sig .tc := ⟨.hbm, 98, rfl⟩
abbrev main_v74 : Ref sig .tc := ⟨.hbm, 99, rfl⟩
abbrev main_v75 : Ref sig .tc := ⟨.hbm, 100, rfl⟩
abbrev main_c_23 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_24 : Ref sig .tc := ⟨.hbm, 107, rfl⟩
abbrev main_v81 : Ref sig .tc := ⟨.hbm, 108, rfl⟩
abbrev main_v82 : Ref sig .tc := ⟨.hbm, 109, rfl⟩
abbrev main_c_25 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_26 : Ref sig .tc := ⟨.hbm, 116, rfl⟩
abbrev main_v88 : Ref sig .tc := ⟨.hbm, 117, rfl⟩
abbrev main_v89 : Ref sig .tc := ⟨.hbm, 118, rfl⟩
abbrev main_c_27 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_c_28 : Ref sig .tc := ⟨.hbm, 125, rfl⟩
abbrev main_v95 : Ref sig .tc := ⟨.hbm, 126, rfl⟩
abbrev main_v96 : Ref sig .tc := ⟨.hbm, 127, rfl⟩
abbrev main_c_29 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_c_30 : Ref sig .tc := ⟨.hbm, 133, rfl⟩
abbrev main_v101 : Ref sig .tc := ⟨.hbm, 134, rfl⟩
abbrev main_v102 : Ref sig .tc := ⟨.hbm, 135, rfl⟩
abbrev main_c_31 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_c_32 : Ref sig .tc := ⟨.hbm, 140, rfl⟩
abbrev main_v106 : Ref sig .tc := ⟨.hbm, 141, rfl⟩
abbrev main_v107 : Ref sig .tc := ⟨.hbm, 142, rfl⟩
abbrev main_c_33 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_c_34 : Ref sig .tc := ⟨.hbm, 149, rfl⟩
abbrev main_v113 : Ref sig .tc := ⟨.hbm, 150, rfl⟩
abbrev main_v114 : Ref sig .tc := ⟨.hbm, 151, rfl⟩
abbrev main_c_35 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_c_36 : Ref sig .tc := ⟨.hbm, 158, rfl⟩
abbrev main_v120 : Ref sig .tc := ⟨.hbm, 159, rfl⟩
abbrev main_v121 : Ref sig .tc := ⟨.hbm, 160, rfl⟩
abbrev main_c_37 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_c_38 : Ref sig .tc := ⟨.hbm, 167, rfl⟩
abbrev main_v127 : Ref sig .tc := ⟨.hbm, 168, rfl⟩
abbrev main_v128 : Ref sig .tc := ⟨.hbm, 169, rfl⟩
abbrev main_c_39 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_c_40 : Ref sig .tc := ⟨.hbm, 175, rfl⟩
abbrev main_v133 : Ref sig .tc := ⟨.hbm, 176, rfl⟩
abbrev main_v134 : Ref sig .tc := ⟨.hbm, 177, rfl⟩
abbrev main_c_41 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_c_42 : Ref sig .tc := ⟨.hbm, 182, rfl⟩
abbrev main_v138 : Ref sig .tc := ⟨.hbm, 183, rfl⟩
abbrev main_v139 : Ref sig .tc := ⟨.hbm, 184, rfl⟩
abbrev main_c_43 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_c_44 : Ref sig .tc := ⟨.hbm, 191, rfl⟩
abbrev main_v145 : Ref sig .tc := ⟨.hbm, 192, rfl⟩
abbrev main_v146 : Ref sig .tc := ⟨.hbm, 193, rfl⟩
abbrev main_c_45 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_c_46 : Ref sig .tc := ⟨.hbm, 200, rfl⟩
abbrev main_v152 : Ref sig .tc := ⟨.hbm, 201, rfl⟩
abbrev main_v153 : Ref sig .tc := ⟨.hbm, 202, rfl⟩
abbrev main_c_47 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_c_48 : Ref sig .tc := ⟨.hbm, 209, rfl⟩
abbrev main_v159 : Ref sig .tc := ⟨.hbm, 210, rfl⟩
abbrev main_v160 : Ref sig .tc := ⟨.hbm, 211, rfl⟩
abbrev main_c_49 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_c_50 : Ref sig .tc := ⟨.hbm, 217, rfl⟩
abbrev main_v165 : Ref sig .tc := ⟨.hbm, 218, rfl⟩
abbrev main_v166 : Ref sig .tc := ⟨.hbm, 219, rfl⟩
abbrev main_c_51 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_c_52 : Ref sig .tc := ⟨.hbm, 224, rfl⟩
abbrev main_v170 : Ref sig .tc := ⟨.hbm, 225, rfl⟩
abbrev main_v171 : Ref sig .tc := ⟨.hbm, 226, rfl⟩
abbrev main_c_53 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_cst : Ref sig .tc := ⟨.hbm, 231, rfl⟩
abbrev main_v175 : Ref sig .tc := ⟨.hbm, 232, rfl⟩
abbrev main_v176 : Ref sig .tc := ⟨.hbm, 233, rfl⟩
abbrev main_cst_54 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183_0 : Ref sig .tc := ⟨.hbm, 241, rfl⟩
abbrev main_v183_1 : Ref sig .tc := ⟨.hbm, 242, rfl⟩
abbrev main_v184 : Ref sig .tc := ⟨.hbm, 243, rfl⟩
abbrev main_v185 : Ref sig .tc := ⟨.hbm, 244, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c50_i32 : BitVec 32 := 50#32
  let v3 : BitVec 1 := Scalar.cmpi .slt arg0 c50_i32
  let v4 : BitVec 32 := Scalar.extui v3
  let c0_i32_1 : BitVec 32 := 0#32
  let v5 : BitVec 1 := Scalar.cmpi .ne v4 c0_i32_1
  v5

def k0_off1 (i : grid0.Coords) : Fin 1 → Nat :=
  let arg0 : BitVec 32 := BitVec.ofNat 32 (i 0).val
  ![arg0.toNat]
def k0_off2 (i : grid0.Coords) : Fin 2 → Nat :=
  let arg0 : BitVec 32 := BitVec.ofNat 32 (i 0).val
  let c2000_i32_4 : BitVec 32 := 2000#32
  let v10 : BitVec 32 := Scalar.muli arg0 c2000_i32_4
  let c0_i32_5 : BitVec 32 := 0#32
  ![v10.toNat, 0]
def k0_off3 (i : grid0.Coords) : Fin 2 → Nat :=
  let arg0 : BitVec 32 := BitVec.ofNat 32 (i 0).val
  let c2000_i32_7 : BitVec 32 := 2000#32
  let v15 : BitVec 32 := Scalar.muli arg0 c2000_i32_7
  let v16 : Index := Scalar.indexCast v15
  let c0 : Index := 0#32
  ![v16.toNat, 0]
def k0_cond5 (i : grid0.Coords) : BitVec 1 :=
  let arg0 : BitVec 32 := BitVec.ofNat 32 (i 0).val
  let c6_i32 : BitVec 32 := 6#32
  let v26 : BitVec 32 := Scalar.addi arg0 c6_i32
  let c50_i32_12 : BitVec 32 := 50#32
  let v27 : BitVec 1 := Scalar.cmpi .slt v26 c50_i32_12
  let v28 : BitVec 32 := Scalar.extui v27
  let c0_i32_13 : BitVec 32 := 0#32
  let v29 : BitVec 1 := Scalar.cmpi .ne v28 c0_i32_13
  v29

def k0_off4 (i : grid0.Coords) : Fin 1 → Nat :=
  let arg0 : BitVec 32 := BitVec.ofNat 32 (i 0).val
  let c6_i32_15 : BitVec 32 := 6#32
  let v33 : BitVec 32 := Scalar.addi arg0 c6_i32_15
  ![v33.toNat]
def k0_off5 (i : grid0.Coords) : Fin 2 → Nat :=
  let arg0 : BitVec 32 := BitVec.ofNat 32 (i 0).val
  let c6_i32_15 : BitVec 32 := 6#32
  let v33 : BitVec 32 := Scalar.addi arg0 c6_i32_15
  let c2000_i32_17 : BitVec 32 := 2000#32
  let v35 : BitVec 32 := Scalar.muli v33 c2000_i32_17
  let c0_i32_18 : BitVec 32 := 0#32
  ![v35.toNat, 0]
def k0_cond7 (i : grid0.Coords) : BitVec 1 :=
  let arg0 : BitVec 32 := BitVec.ofNat 32 (i 0).val
  let c50_i32_2 : BitVec 32 := 50#32
  let v6 : BitVec 1 := Scalar.cmpi .sge arg0 c50_i32_2
  let v7 : BitVec 32 := Scalar.extui v6
  let c0_i32_3 : BitVec 32 := 0#32
  let v8 : BitVec 1 := Scalar.cmpi .ne v7 c0_i32_3
  v8

def k0_cond8 (i : grid0.Coords) : BitVec 1 :=
  let arg0 : BitVec 32 := BitVec.ofNat 32 (i 0).val
  let c50_i32_4 : BitVec 32 := 50#32
  let v9 : BitVec 32 := Scalar.subi arg0 c50_i32_4
  let c3_i32_5 : BitVec 32 := 3#32
  let v11 : BitVec 1 := Scalar.cmpi .sge v9 c3_i32_5
  let v12 : BitVec 32 := Scalar.extui v11
  let c0_i32_6 : BitVec 32 := 0#32
  let v13 : BitVec 1 := Scalar.cmpi .ne v12 c0_i32_6
  v13

def k0_off6 (i : grid0.Coords) : Fin 1 → Nat :=
  let arg0 : BitVec 32 := BitVec.ofNat 32 (i 0).val
  let c50_i32_4 : BitVec 32 := 50#32
  let v9 : BitVec 32 := Scalar.subi arg0 c50_i32_4
  let c3_i32 : BitVec 32 := 3#32
  let v10 : BitVec 32 := Scalar.remsi v9 c3_i32
  ![v10.toNat]
def k0_off7 (i : grid0.Coords) : Fin 2 → Nat :=
  let arg0 : BitVec 32 := BitVec.ofNat 32 (i 0).val
  let c50_i32_4 : BitVec 32 := 50#32
  let v9 : BitVec 32 := Scalar.subi arg0 c50_i32_4
  let c3_i32_34 : BitVec 32 := 3#32
  let v72 : BitVec 32 := Scalar.subi v9 c3_i32_34
  let c2000_i32_35 : BitVec 32 := 2000#32
  let v73 : BitVec 32 := Scalar.muli v72 c2000_i32_35
  let c0_i32_36 : BitVec 32 := 0#32
  ![v73.toNat, 0]
def k0_off8 (i : grid0.Coords) : Fin 3 → Nat :=
  let arg0 : BitVec 32 := BitVec.ofNat 32 (i 0).val
  let c50_i32_4 : BitVec 32 := 50#32
  let v9 : BitVec 32 := Scalar.subi arg0 c50_i32_4
  let c3_i32 : BitVec 32 := 3#32
  let v10 : BitVec 32 := Scalar.remsi v9 c3_i32
  let c0_i32_37 : BitVec 32 := 0#32
  let c0_i32_38 : BitVec 32 := 0#32
  ![v10.toNat, 0, 0]
def k0_off9 (i : grid0.Coords) : Fin 1 → Nat :=
  let arg0 : BitVec 32 := BitVec.ofNat 32 (i 0).val
  let c50_i32_4 : BitVec 32 := 50#32
  let v9 : BitVec 32 := Scalar.subi arg0 c50_i32_4
  let c2_i32 : BitVec 32 := 2#32
  let v14 : BitVec 32 := Scalar.remsi v9 c2_i32
  ![v14.toNat]
def k0_off10 (i : grid0.Coords) : Fin 3 → Nat :=
  let arg0 : BitVec 32 := BitVec.ofNat 32 (i 0).val
  let c50_i32_4 : BitVec 32 := 50#32
  let v9 : BitVec 32 := Scalar.subi arg0 c50_i32_4
  let c2_i32 : BitVec 32 := 2#32
  let v14 : BitVec 32 := Scalar.remsi v9 c2_i32
  let c0_i32_7 : BitVec 32 := 0#32
  let c0_i32_8 : BitVec 32 := 0#32
  ![v14.toNat, 0, 0]
def k0_off11 (i : grid0.Coords) : Fin 2 → Nat :=
  let arg0 : BitVec 32 := BitVec.ofNat 32 (i 0).val
  let c50_i32_4 : BitVec 32 := 50#32
  let v9 : BitVec 32 := Scalar.subi arg0 c50_i32_4
  let c2000_i32 : BitVec 32 := 2000#32
  let v15 : BitVec 32 := Scalar.muli v9 c2000_i32
  let c0_i32_9 : BitVec 32 := 0#32
  ![v15.toNat, 0]
def k0_off12 (i : grid0.Coords) : Fin 2 → Nat :=
  let arg0 : BitVec 32 := BitVec.ofNat 32 (i 0).val
  let c50_i32_4 : BitVec 32 := 50#32
  let v9 : BitVec 32 := Scalar.subi arg0 c50_i32_4
  let c2000_i32_10 : BitVec 32 := 2000#32
  let v21 : BitVec 32 := Scalar.muli v9 c2000_i32_10
  let v22 : Index := Scalar.indexCast v21
  let c0 : Index := 0#32
  ![v22.toNat, 0]
def k0_off13 (i : grid0.Coords) : Fin 3 → Nat :=
  let arg0 : BitVec 32 := BitVec.ofNat 32 (i 0).val
  let c50_i32_4 : BitVec 32 := 50#32
  let v9 : BitVec 32 := Scalar.subi arg0 c50_i32_4
  let c2_i32 : BitVec 32 := 2#32
  let v14 : BitVec 32 := Scalar.remsi v9 c2_i32
  let v24 : Index := Scalar.indexCast v14
  let c0_11 : Index := 0#32
  let c0_12 : Index := 0#32
  ![v24.toNat, 0, 0]
def k0_off14 (i : grid0.Coords) : Fin 3 → Nat :=
  let arg0 : BitVec 32 := BitVec.ofNat 32 (i 0).val
  let c50_i32_4 : BitVec 32 := 50#32
  let v9 : BitVec 32 := Scalar.subi arg0 c50_i32_4
  let c3_i32 : BitVec 32 := 3#32
  let v10 : BitVec 32 := Scalar.remsi v9 c3_i32
  let v55 : Index := Scalar.indexCast v10
  let c0_24 : Index := 0#32
  let c0_25 : Index := 0#32
  ![v55.toNat, 0, 0]
def k0_off15 (i : grid0.Coords) : Fin 1 → Nat :=
  let arg0 : BitVec 32 := BitVec.ofNat 32 (i 0).val
  let c50_i32_4 : BitVec 32 := 50#32
  let v9 : BitVec 32 := Scalar.subi arg0 c50_i32_4
  let c3_i32 : BitVec 32 := 3#32
  let v10 : BitVec 32 := Scalar.remsi v9 c3_i32
  ![v10.toNat]
def k0_off16 (i : grid0.Coords) : Fin 3 → Nat :=
  let arg0 : BitVec 32 := BitVec.ofNat 32 (i 0).val
  let c50_i32_4 : BitVec 32 := 50#32
  let v9 : BitVec 32 := Scalar.subi arg0 c50_i32_4
  let c3_i32 : BitVec 32 := 3#32
  let v10 : BitVec 32 := Scalar.remsi v9 c3_i32
  let c0_i32_28 : BitVec 32 := 0#32
  let c0_i32_29 : BitVec 32 := 0#32
  ![v10.toNat, 0, 0]
def k0_cond11 (i : grid0.Coords) : BitVec 1 :=
  let arg0 : BitVec 32 := BitVec.ofNat 32 (i 0).val
  let c50_i32_4 : BitVec 32 := 50#32
  let v9 : BitVec 32 := Scalar.subi arg0 c50_i32_4
  let c2_i32_30 : BitVec 32 := 2#32
  let v65 : BitVec 32 := Scalar.addi v9 c2_i32_30
  let c50_i32_31 : BitVec 32 := 50#32
  let v66 : BitVec 1 := Scalar.cmpi .slt v65 c50_i32_31
  let v67 : BitVec 32 := Scalar.extui v66
  let c0_i32_32 : BitVec 32 := 0#32
  let v68 : BitVec 1 := Scalar.cmpi .ne v67 c0_i32_32
  v68

def k0_off17 (i : grid0.Coords) : Fin 1 → Nat :=
  let arg0 : BitVec 32 := BitVec.ofNat 32 (i 0).val
  let c50_i32_4 : BitVec 32 := 50#32
  let v9 : BitVec 32 := Scalar.subi arg0 c50_i32_4
  let c2_i32 : BitVec 32 := 2#32
  let v14 : BitVec 32 := Scalar.remsi v9 c2_i32
  ![v14.toNat]
def k0_off18 (i : grid0.Coords) : Fin 3 → Nat :=
  let arg0 : BitVec 32 := BitVec.ofNat 32 (i 0).val
  let c50_i32_4 : BitVec 32 := 50#32
  let v9 : BitVec 32 := Scalar.subi arg0 c50_i32_4
  let c2_i32 : BitVec 32 := 2#32
  let v14 : BitVec 32 := Scalar.remsi v9 c2_i32
  let c0_i32_36 : BitVec 32 := 0#32
  let c0_i32_37 : BitVec 32 := 0#32
  ![v14.toNat, 0, 0]
def k0_off19 (i : grid0.Coords) : Fin 2 → Nat :=
  let arg0 : BitVec 32 := BitVec.ofNat 32 (i 0).val
  let c50_i32_4 : BitVec 32 := 50#32
  let v9 : BitVec 32 := Scalar.subi arg0 c50_i32_4
  let c2_i32_34 : BitVec 32 := 2#32
  let v72 : BitVec 32 := Scalar.addi v9 c2_i32_34
  let c2000_i32_35 : BitVec 32 := 2000#32
  let v73 : BitVec 32 := Scalar.muli v72 c2000_i32_35
  let c0_i32_38 : BitVec 32 := 0#32
  ![v73.toNat, 0]
def k0_cond12 (i : grid0.Coords) : BitVec 1 :=
  let arg0 : BitVec 32 := BitVec.ofNat 32 (i 0).val
  let c99_i32 : BitVec 32 := 99#32
  let v69 : BitVec 1 := Scalar.cmpi .eq arg0 c99_i32
  let v70 : BitVec 32 := Scalar.extui v69
  let c0_i32_33 : BitVec 32 := 0#32
  let v71 : BitVec 1 := Scalar.cmpi .ne v70 c0_i32_33
  v71

def k0_off20 (i : grid0.Coords) (c1_i32 : BitVec 32) : Fin 1 → Nat :=
  let arg0 : BitVec 32 := BitVec.ofNat 32 (i 0).val
  let c50_i32_4 : BitVec 32 := 50#32
  let v9 : BitVec 32 := Scalar.subi arg0 c50_i32_4
  let v73 : BitVec 32 := Scalar.addi v9 c1_i32
  let c3_i32_35 : BitVec 32 := 3#32
  let v74 : BitVec 32 := Scalar.remsi v73 c3_i32_35
  ![v74.toNat]
def k0_off21 (i : grid0.Coords) (c2_i32_34 : BitVec 32) : Fin 2 → Nat :=
  let arg0 : BitVec 32 := BitVec.ofNat 32 (i 0).val
  let c50_i32_4 : BitVec 32 := 50#32
  let v9 : BitVec 32 := Scalar.subi arg0 c50_i32_4
  let v72 : BitVec 32 := Scalar.subi v9 c2_i32_34
  let c2000_i32_36 : BitVec 32 := 2000#32
  let v75 : BitVec 32 := Scalar.muli v72 c2000_i32_36
  let c0_i32_37 : BitVec 32 := 0#32
  ![v75.toNat, 0]
def k0_off22 (i : grid0.Coords) (c1_i32 : BitVec 32) : Fin 3 → Nat :=
  let arg0 : BitVec 32 := BitVec.ofNat 32 (i 0).val
  let c50_i32_4 : BitVec 32 := 50#32
  let v9 : BitVec 32 := Scalar.subi arg0 c50_i32_4
  let v73 : BitVec 32 := Scalar.addi v9 c1_i32
  let c3_i32_35 : BitVec 32 := 3#32
  let v74 : BitVec 32 := Scalar.remsi v73 c3_i32_35
  let c0_i32_38 : BitVec 32 := 0#32
  let c0_i32_39 : BitVec 32 := 0#32
  ![v74.toNat, 0, 0]
def k0_off23 (i : grid0.Coords) : Fin 1 → Nat :=
  let arg0 : BitVec 32 := BitVec.ofNat 32 (i 0).val
  let c50_i32_4 : BitVec 32 := 50#32
  let v9 : BitVec 32 := Scalar.subi arg0 c50_i32_4
  let c3_i32 : BitVec 32 := 3#32
  let v10 : BitVec 32 := Scalar.remsi v9 c3_i32
  ![v10.toNat]
def k0_off24 (i : grid0.Coords) : Fin 2 → Nat :=
  let arg0 : BitVec 32 := BitVec.ofNat 32 (i 0).val
  let c50_i32_4 : BitVec 32 := 50#32
  let v9 : BitVec 32 := Scalar.subi arg0 c50_i32_4
  let c2000_i32_47 : BitVec 32 := 2000#32
  let v90 : BitVec 32 := Scalar.muli v9 c2000_i32_47
  let c0_i32_48 : BitVec 32 := 0#32
  ![v90.toNat, 0]
def k0_off25 (i : grid0.Coords) : Fin 3 → Nat :=
  let arg0 : BitVec 32 := BitVec.ofNat 32 (i 0).val
  let c50_i32_4 : BitVec 32 := 50#32
  let v9 : BitVec 32 := Scalar.subi arg0 c50_i32_4
  let c3_i32 : BitVec 32 := 3#32
  let v10 : BitVec 32 := Scalar.remsi v9 c3_i32
  let c0_i32_49 : BitVec 32 := 0#32
  let c0_i32_50 : BitVec 32 := 0#32
  ![v10.toNat, 0, 0]
def k0_cond9 (i : grid0.Coords) : BitVec 1 :=
  let arg0 : BitVec 32 := BitVec.ofNat 32 (i 0).val
  let c50_i32_4 : BitVec 32 := 50#32
  let v9 : BitVec 32 := Scalar.subi arg0 c50_i32_4
  let c0_i32_15 : BitVec 32 := 0#32
  let v40 : BitVec 1 := Scalar.cmpi .eq v9 c0_i32_15
  let v41 : BitVec 32 := Scalar.extui v40
  let c0_i32_16 : BitVec 32 := 0#32
  let v42 : BitVec 1 := Scalar.cmpi .ne v41 c0_i32_16
  v42

def k0_cond10 (i : grid0.Coords) : BitVec 1 :=
  let arg0 : BitVec 32 := BitVec.ofNat 32 (i 0).val
  let c50_i32_4 : BitVec 32 := 50#32
  let v9 : BitVec 32 := Scalar.subi arg0 c50_i32_4
  let c0_i32_17 : BitVec 32 := 0#32
  let v43 : BitVec 1 := Scalar.cmpi .sgt v9 c0_i32_17
  let v44 : BitVec 32 := Scalar.extui v43
  let c0_i32_18 : BitVec 32 := 0#32
  let v45 : BitVec 1 := Scalar.cmpi .ne v44 c0_i32_18
  v45

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S1 : Shape := ⟨1, ![1]⟩
abbrev S2 : Shape := ⟨1, ![2]⟩
abbrev S1x1 : Shape := ⟨2, ![1, 1]⟩

abbrev nBuf : Space → Nat
  | .hbm => 311
  | .vmem => 0
  | .smem => 0
  | _ => 0

abbrev hbmTy0_0 (i : Nat) : BufTy := match i % 128 with
  | 0 => ⟨S128x100000, .f32⟩
  | 1 => ⟨S_, .f32⟩
  | 2 => ⟨S128, .f32⟩
  | 3 => ⟨S_, .f32⟩
  | 4 => ⟨S128, .f32⟩
  | 5 => ⟨S128, .f32⟩
  | 6 => ⟨S128x1, .f32⟩
  | 7 => ⟨S128x100000, .f32⟩
  | 8 => ⟨S128x100000, .f32⟩
  | 9 => ⟨S128x100000, .f32⟩
  | 10 => ⟨S_, .f32⟩
  | 11 => ⟨S128, .f32⟩
  | 12 => ⟨S128x1, .f32⟩
  | 13 => ⟨S128x100000, .f32⟩
  | 14 => ⟨S128x100000, .f32⟩
  | 15 => ⟨S_, .f32⟩
  | 16 => ⟨S128x100000, .f32⟩
  | 17 => ⟨S128x100000, .f32⟩
  | 18 => ⟨S_, .f32⟩
  | 19 => ⟨S128, .f32⟩
  | 20 => ⟨S128x1, .f32⟩
  | 21 => ⟨S128x100000, .f32⟩
  | 22 => ⟨S128x100000, .f32⟩
  | 23 => ⟨S_, .i32⟩
  | 24 => ⟨S_, .i32⟩
  | 25 => ⟨S_, .i32⟩
  | 26 => ⟨S_, .i32⟩
  | 27 => ⟨S1, .i32⟩
  | 28 => ⟨S_, .i32⟩
  | 29 => ⟨S_, .i32⟩
  | 30 => ⟨S_, .i32⟩
  | 31 => ⟨S1, .i32⟩
  | 32 => ⟨S2, .i32⟩
  | 33 => ⟨S_, .f32⟩
  | 34 => ⟨S_, .f32⟩
  | 35 => ⟨S_, .f32⟩
  | 36 => ⟨S_, .f32⟩
  | 37 => ⟨S1x1, .f32⟩
  | 38 => ⟨S1x1, .f32⟩
  | 39 => ⟨S1, .i32⟩
  | 40 => ⟨S_, .i32⟩
  | 41 => ⟨S1, .i32⟩
  | 42 => ⟨S_, .i32⟩
  | 43 => ⟨S128x100000, .i64⟩
  | 44 => ⟨S128x100000, .i64⟩
  | 45 => ⟨S_, .i64⟩
  | 46 => ⟨S128x100000, .i64⟩
  | 47 => ⟨S128x100000, .i64⟩
  | 48 => ⟨S_, .i64⟩
  | 49 => ⟨S128x100000, .i64⟩
  | 50 => ⟨S128x100000, .i64⟩
  | 51 => ⟨S128x100000, .i64⟩
  | 52 => ⟨S_, .i64⟩
  | 53 => ⟨S128x100000, .i64⟩
  | 54 => ⟨S128x100000, .i64⟩
  | 55 => ⟨S128x100000, .i32⟩
  | 56 => ⟨S128x100000, .i32⟩
  | 57 => ⟨S_, .i32⟩
  | 58 => ⟨S_, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S128x100000, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S128x100000, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S_, .i32⟩
  | 33 => ⟨S128x100000, .i32⟩
  | 34 => ⟨S128x100000, .i32⟩
  | 35 => ⟨S_, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S128x100000, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S_, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S128x100000, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S_, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S_, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S_, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S128x100000, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S_, .i32⟩
  | 12 => ⟨S128x100000, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S_, .i32⟩
  | 21 => ⟨S128x100000, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S128x100000, .f32⟩
  | 31 => ⟨S_, .f32⟩
  | 32 => ⟨S128x100000, .f32⟩
  | 33 => ⟨S128x100000, .f32⟩
  | 34 => ⟨S1x1, .f32⟩
  | 35 => ⟨S128x100000, .f32⟩
  | 36 => ⟨S128x100000, .f32⟩
  | 37 => ⟨S128x100000, .f32⟩
  | 38 => ⟨S128x100000, .f32⟩
  | 39 => ⟨S128x100000, .f32⟩
  | 40 => ⟨S128x100000, .f32⟩
  | 41 => ⟨S_, .f32⟩
  | 42 => ⟨S128x100000, .f32⟩
  | 43 => ⟨S128x100000, .f32⟩
  | 44 => ⟨S128x100000, .f32⟩
  | 45 => ⟨S128x100000, .f32⟩
  | 46 => ⟨S128x100000, .f32⟩
  | 47 => ⟨S128x100000, .f32⟩
  | 48 => ⟨S128x100000, .f32⟩
  | 49 => ⟨S128x100000, .f32⟩
  | 50 => ⟨S128x100000, .i32⟩
  | 51 => ⟨S_, .f32⟩
  | 52 => ⟨S_, .i32⟩
  | 53 => ⟨S128, .f32⟩
  | 54 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_cst_7 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_c : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_c_1 : Ref sig .tc := ⟨.hbm, 52, rfl⟩
abbrev main_call0_v15 : Ref sig .tc := ⟨.hbm, 53, rfl⟩
abbrev main_call0_v16 : Ref sig .tc := ⟨.hbm, 54, rfl⟩
abbrev main_call0_v17 : Ref sig .tc := ⟨.hbm, 55, rfl⟩
abbrev main_call0_v18 : Ref sig .tc := ⟨.hbm, 56, rfl⟩
abbrev main_call0_call0_v0 : Ref sig .tc := ⟨.hbm, 57, rfl⟩
abbrev main_call0_call0_c : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_c_0 : Ref sig .tc := ⟨.hbm, 65, rfl⟩
abbrev main_call0_call0_v7 : Ref sig .tc := ⟨.hbm, 66, rfl⟩
abbrev main_call0_call0_v8 : Ref sig .tc := ⟨.hbm, 67, rfl⟩
abbrev main_call0_call0_c_1 : Ref sig .tc := ⟨.hbm, 68, rfl⟩
abbrev main_call0_call0_v9 : Ref sig .tc := ⟨.hbm, 69, rfl⟩
abbrev main_call0_call0_v10 : Ref sig .tc := ⟨.hbm, 70, rfl⟩
abbrev main_call0_call0_v11 : Ref sig .tc := ⟨.hbm, 71, rfl⟩
abbrev main_call0_call0_v12 : Ref sig .tc := ⟨.hbm, 72, rfl⟩
abbrev main_call0_call0_v13 : Ref sig .tc := ⟨.hbm, 73, rfl⟩
abbrev main_call0_call0_c_2 : Ref sig .tc := ⟨.hbm, 74, rfl⟩
abbrev main_call0_call0_v14 : Ref sig .tc := ⟨.hbm, 75, rfl⟩
abbrev main_call0_call0_v15 : Ref sig .tc := ⟨.hbm, 76, rfl⟩
abbrev main_call0_call0_c_3 : Ref sig .tc := ⟨.hbm, 77, rfl⟩
abbrev main_call0_call0_v16 : Ref sig .tc := ⟨.hbm, 78, rfl⟩
abbrev main_call0_call0_v17 : Ref sig .tc := ⟨.hbm, 79, rfl⟩
abbrev main_call0_call0_v18 : Ref sig .tc := ⟨.hbm, 80, rfl⟩
abbrev main_call0_call0_v19 : Ref sig .tc := ⟨.hbm, 81, rfl⟩
abbrev main_call0_call0_v20 : Ref sig .tc := ⟨.hbm, 82, rfl⟩
abbrev main_call0_call0_c_4 : Ref sig .tc := ⟨.hbm, 83, rfl⟩
abbrev main_call0_call0_v21 : Ref sig .tc := ⟨.hbm, 84, rfl⟩
abbrev main_call0_call0_v22 : Ref sig .tc := ⟨.hbm, 85, rfl⟩
abbrev main_call0_call0_c_5 : Ref sig .tc := ⟨.hbm, 86, rfl⟩
abbrev main_call0_call0_v23 : Ref sig .tc := ⟨.hbm, 87, rfl⟩
abbrev main_call0_call0_v24 : Ref sig .tc := ⟨.hbm, 88, rfl⟩
abbrev main_call0_call0_v25 : Ref sig .tc := ⟨.hbm, 89, rfl⟩
abbrev main_call0_call0_v26 : Ref sig .tc := ⟨.hbm, 90, rfl⟩
abbrev main_call0_call0_v27 : Ref sig .tc := ⟨.hbm, 91, rfl⟩
abbrev main_call0_call0_c_6 : Ref sig .tc := ⟨.hbm, 92, rfl⟩
abbrev main_call0_call0_v28 : Ref sig .tc := ⟨.hbm, 93, rfl⟩
abbrev main_call0_call0_v29 : Ref sig .tc := ⟨.hbm, 94, rfl⟩
abbrev main_call0_call0_c_7 : Ref sig .tc := ⟨.hbm, 95, rfl⟩
abbrev main_call0_call0_v30 : Ref sig .tc := ⟨.hbm, 96, rfl⟩
abbrev main_call0_call0_v31 : Ref sig .tc := ⟨.hbm, 97, rfl⟩
abbrev main_call0_call0_v32 : Ref sig .tc := ⟨.hbm, 98, rfl⟩
abbrev main_call0_call0_v33 : Ref sig .tc := ⟨.hbm, 99, rfl⟩
abbrev main_call0_call0_v34 : Ref sig .tc := ⟨.hbm, 100, rfl⟩
abbrev main_call0_call0_v35 : Ref sig .tc := ⟨.hbm, 101, rfl⟩
abbrev main_call0_call0_v36 : Ref sig .tc := ⟨.hbm, 102, rfl⟩
abbrev main_call0_call0_v37 : Ref sig .tc := ⟨.hbm, 103, rfl⟩
abbrev main_call0_call0_c_8 : Ref sig .tc := ⟨.hbm, 104, rfl⟩
abbrev main_call0_call0_v38 : Ref sig .tc := ⟨.hbm, 105, rfl⟩
abbrev main_call0_call0_v39 : Ref sig .tc := ⟨.hbm, 106, rfl⟩
abbrev main_call0_call0_v40 : Ref sig .tc := ⟨.hbm, 107, rfl⟩
abbrev main_call0_call0_c_9 : Ref sig .tc := ⟨.hbm, 108, rfl⟩
abbrev main_call0_call0_v41 : Ref sig .tc := ⟨.hbm, 109, rfl⟩
abbrev main_call0_call0_v42 : Ref sig .tc := ⟨.hbm, 110, rfl⟩
abbrev main_call0_call0_c_10 : Ref sig .tc := ⟨.hbm, 111, rfl⟩
abbrev main_call0_call0_v43 : Ref sig .tc := ⟨.hbm, 112, rfl⟩
abbrev main_call0_call0_v44 : Ref sig .tc := ⟨.hbm, 113, rfl⟩
abbrev main_call0_call0_v45 : Ref sig .tc := ⟨.hbm, 114, rfl⟩
abbrev main_call0_call0_v46 : Ref sig .tc := ⟨.hbm, 115, rfl⟩
abbrev main_call0_call0_v47 : Ref sig .tc := ⟨.hbm, 116, rfl⟩
abbrev main_call0_call0_c_11 : Ref sig .tc := ⟨.hbm, 117, rfl⟩
abbrev main_call0_call0_v48 : Ref sig .tc := ⟨.hbm, 118, rfl⟩
abbrev main_call0_call0_v49 : Ref sig .tc := ⟨.hbm, 119, rfl⟩
abbrev main_call0_call0_c_12 : Ref sig .tc := ⟨.hbm, 120, rfl⟩
abbrev main_call0_call0_v50 : Ref sig .tc := ⟨.hbm, 121, rfl⟩
abbrev main_call0_call0_v51 : Ref sig .tc := ⟨.hbm, 122, rfl⟩
abbrev main_call0_call0_v52 : Ref sig .tc := ⟨.hbm, 123, rfl⟩
abbrev main_call0_call0_v53 : Ref sig .tc := ⟨.hbm, 124, rfl⟩
abbrev main_call0_call0_v54 : Ref sig .tc := ⟨.hbm, 125, rfl⟩
abbrev main_call0_call0_c_13 : Ref sig .tc := ⟨.hbm, 126, rfl⟩
abbrev main_call0_call0_v55 : Ref sig .tc := ⟨.hbm, 127, rfl⟩
abbrev main_call0_call0_v56 : Ref sig .tc := ⟨.hbm, 128, rfl⟩
abbrev main_call0_call0_c_14 : Ref sig .tc := ⟨.hbm, 129, rfl⟩
abbrev main_call0_call0_v57 : Ref sig .tc := ⟨.hbm, 130, rfl⟩
abbrev main_call0_call0_v58 : Ref sig .tc := ⟨.hbm, 131, rfl⟩
abbrev main_call0_call0_v59 : Ref sig .tc := ⟨.hbm, 132, rfl⟩
abbrev main_call0_call0_v60 : Ref sig .tc := ⟨.hbm, 133, rfl⟩
abbrev main_call0_call0_v61 : Ref sig .tc := ⟨.hbm, 134, rfl⟩
abbrev main_call0_call0_c_15 : Ref sig .tc := ⟨.hbm, 135, rfl⟩
abbrev main_call0_call0_v62 : Ref sig .tc := ⟨.hbm, 136, rfl⟩
abbrev main_call0_call0_v63 : Ref sig .tc := ⟨.hbm, 137, rfl⟩
abbrev main_call0_call0_c_16 : Ref sig .tc := ⟨.hbm, 138, rfl⟩
abbrev main_call0_call0_v64 : Ref sig .tc := ⟨.hbm, 139, rfl⟩
abbrev main_call0_call0_v65 : Ref sig .tc := ⟨.hbm, 140, rfl⟩
abbrev main_call0_call0_v66 : Ref sig .tc := ⟨.hbm, 141, rfl⟩
abbrev main_call0_call0_v67 : Ref sig .tc := ⟨.hbm, 142, rfl⟩
abbrev main_call0_call0_v68 : Ref sig .tc := ⟨.hbm, 143, rfl⟩
abbrev main_call0_call0_v69 : Ref sig .tc := ⟨.hbm, 144, rfl⟩
abbrev main_call0_call0_v70 : Ref sig .tc := ⟨.hbm, 145, rfl⟩
abbrev main_call0_call0_v71 : Ref sig .tc := ⟨.hbm, 146, rfl⟩
abbrev main_call0_call0_c_17 : Ref sig .tc := ⟨.hbm, 147, rfl⟩
abbrev main_call0_call0_v72 : Ref sig .tc := ⟨.hbm, 148, rfl⟩
abbrev main_call0_call0_v73 : Ref sig .tc := ⟨.hbm, 149, rfl⟩
abbrev main_call0_call0_v74 : Ref sig .tc := ⟨.hbm, 150, rfl⟩
abbrev main_call0_call0_c_18 : Ref sig .tc := ⟨.hbm, 151, rfl⟩
abbrev main_call0_call0_v75 : Ref sig .tc := ⟨.hbm, 152, rfl⟩
abbrev main_call0_call0_v76 : Ref sig .tc := ⟨.hbm, 153, rfl⟩
abbrev main_call0_call0_c_19 : Ref sig .tc := ⟨.hbm, 154, rfl⟩
abbrev main_call0_call0_v77 : Ref sig .tc := ⟨.hbm, 155, rfl⟩
abbrev main_call0_call0_v78 : Ref sig .tc := ⟨.hbm, 156, rfl⟩
abbrev main_call0_call0_v79 : Ref sig .tc := ⟨.hbm, 157, rfl⟩
abbrev main_call0_call0_v80 : Ref sig .tc := ⟨.hbm, 158, rfl⟩
abbrev main_call0_call0_v81 : Ref sig .tc := ⟨.hbm, 159, rfl⟩
abbrev main_call0_call0_c_20 : Ref sig .tc := ⟨.hbm, 160, rfl⟩
abbrev main_call0_call0_v82 : Ref sig .tc := ⟨.hbm, 161, rfl⟩
abbrev main_call0_call0_v83 : Ref sig .tc := ⟨.hbm, 162, rfl⟩
abbrev main_call0_call0_c_21 : Ref sig .tc := ⟨.hbm, 163, rfl⟩
abbrev main_call0_call0_v84 : Ref sig .tc := ⟨.hbm, 164, rfl⟩
abbrev main_call0_call0_v85 : Ref sig .tc := ⟨.hbm, 165, rfl⟩
abbrev main_call0_call0_v86 : Ref sig .tc := ⟨.hbm, 166, rfl⟩
abbrev main_call0_call0_v87 : Ref sig .tc := ⟨.hbm, 167, rfl⟩
abbrev main_call0_call0_v88 : Ref sig .tc := ⟨.hbm, 168, rfl⟩
abbrev main_call0_call0_c_22 : Ref sig .tc := ⟨.hbm, 169, rfl⟩
abbrev main_call0_call0_v89 : Ref sig .tc := ⟨.hbm, 170, rfl⟩
abbrev main_call0_call0_v90 : Ref sig .tc := ⟨.hbm, 171, rfl⟩
abbrev main_call0_call0_c_23 : Ref sig .tc := ⟨.hbm, 172, rfl⟩
abbrev main_call0_call0_v91 : Ref sig .tc := ⟨.hbm, 173, rfl⟩
abbrev main_call0_call0_v92 : Ref sig .tc := ⟨.hbm, 174, rfl⟩
abbrev main_call0_call0_v93 : Ref sig .tc := ⟨.hbm, 175, rfl⟩
abbrev main_call0_call0_v94 : Ref sig .tc := ⟨.hbm, 176, rfl⟩
abbrev main_call0_call0_v95 : Ref sig .tc := ⟨.hbm, 177, rfl⟩
abbrev main_call0_call0_c_24 : Ref sig .tc := ⟨.hbm, 178, rfl⟩
abbrev main_call0_call0_v96 : Ref sig .tc := ⟨.hbm, 179, rfl⟩
abbrev main_call0_call0_v97 : Ref sig .tc := ⟨.hbm, 180, rfl⟩
abbrev main_call0_call0_c_25 : Ref sig .tc := ⟨.hbm, 181, rfl⟩
abbrev main_call0_call0_v98 : Ref sig .tc := ⟨.hbm, 182, rfl⟩
abbrev main_call0_call0_v99 : Ref sig .tc := ⟨.hbm, 183, rfl⟩
abbrev main_call0_call0_v100 : Ref sig .tc := ⟨.hbm, 184, rfl⟩
abbrev main_call0_call0_v101 : Ref sig .tc := ⟨.hbm, 185, rfl⟩
abbrev main_call0_call0_v102 : Ref sig .tc := ⟨.hbm, 186, rfl⟩
abbrev main_call0_call0_v103 : Ref sig .tc := ⟨.hbm, 187, rfl⟩
abbrev main_call0_call0_v104 : Ref sig .tc := ⟨.hbm, 188, rfl⟩
abbrev main_call0_call0_v105 : Ref sig .tc := ⟨.hbm, 189, rfl⟩
abbrev main_call0_call0_c_26 : Ref sig .tc := ⟨.hbm, 190, rfl⟩
abbrev main_call0_call0_v106 : Ref sig .tc := ⟨.hbm, 191, rfl⟩
abbrev main_call0_call0_v107 : Ref sig .tc := ⟨.hbm, 192, rfl⟩
abbrev main_call0_call0_v108 : Ref sig .tc := ⟨.hbm, 193, rfl⟩
abbrev main_call0_call0_c_27 : Ref sig .tc := ⟨.hbm, 194, rfl⟩
abbrev main_call0_call0_v109 : Ref sig .tc := ⟨.hbm, 195, rfl⟩
abbrev main_call0_call0_v110 : Ref sig .tc := ⟨.hbm, 196, rfl⟩
abbrev main_call0_call0_c_28 : Ref sig .tc := ⟨.hbm, 197, rfl⟩
abbrev main_call0_call0_v111 : Ref sig .tc := ⟨.hbm, 198, rfl⟩
abbrev main_call0_call0_v112 : Ref sig .tc := ⟨.hbm, 199, rfl⟩
abbrev main_call0_call0_v113 : Ref sig .tc := ⟨.hbm, 200, rfl⟩
abbrev main_call0_call0_v114 : Ref sig .tc := ⟨.hbm, 201, rfl⟩
abbrev main_call0_call0_v115 : Ref sig .tc := ⟨.hbm, 202, rfl⟩
abbrev main_call0_call0_c_29 : Ref sig .tc := ⟨.hbm, 203, rfl⟩
abbrev main_call0_call0_v116 : Ref sig .tc := ⟨.hbm, 204, rfl⟩
abbrev main_call0_call0_v117 : Ref sig .tc := ⟨.hbm, 205, rfl⟩
abbrev main_call0_call0_c_30 : Ref sig .tc := ⟨.hbm, 206, rfl⟩
abbrev main_call0_call0_v118 : Ref sig .tc := ⟨.hbm, 207, rfl⟩
abbrev main_call0_call0_v119 : Ref sig .tc := ⟨.hbm, 208, rfl⟩
abbrev main_call0_call0_v120 : Ref sig .tc := ⟨.hbm, 209, rfl⟩
abbrev main_call0_call0_v121 : Ref sig .tc := ⟨.hbm, 210, rfl⟩
abbrev main_call0_call0_v122 : Ref sig .tc := ⟨.hbm, 211, rfl⟩
abbrev main_call0_call0_c_31 : Ref sig .tc := ⟨.hbm, 212, rfl⟩
abbrev main_call0_call0_v123 : Ref sig .tc := ⟨.hbm, 213, rfl⟩
abbrev main_call0_call0_v124 : Ref sig .tc := ⟨.hbm, 214, rfl⟩
abbrev main_call0_call0_c_32 : Ref sig .tc := ⟨.hbm, 215, rfl⟩
abbrev main_call0_call0_v125 : Ref sig .tc := ⟨.hbm, 216, rfl⟩
abbrev main_call0_call0_v126 : Ref sig .tc := ⟨.hbm, 217, rfl⟩
abbrev main_call0_call0_v127 : Ref sig .tc := ⟨.hbm, 218, rfl⟩
abbrev main_call0_call0_v128 : Ref sig .tc := ⟨.hbm, 219, rfl⟩
abbrev main_call0_call0_v129 : Ref sig .tc := ⟨.hbm, 220, rfl⟩
abbrev main_call0_call0_c_33 : Ref sig .tc := ⟨.hbm, 221, rfl⟩
abbrev main_call0_call0_v130 : Ref sig .tc := ⟨.hbm, 222, rfl⟩
abbrev main_call0_call0_v131 : Ref sig .tc := ⟨.hbm, 223, rfl⟩
abbrev main_call0_call0_c_34 : Ref sig .tc := ⟨.hbm, 224, rfl⟩
abbrev main_call0_call0_v132 : Ref sig .tc := ⟨.hbm, 225, rfl⟩
abbrev main_call0_call0_v133 : Ref sig .tc := ⟨.hbm, 226, rfl⟩
abbrev main_call0_call0_v134 : Ref sig .tc := ⟨.hbm, 227, rfl⟩
abbrev main_call0_call0_v135 : Ref sig .tc := ⟨.hbm, 228, rfl⟩
abbrev main_call0_call0_v136 : Ref sig .tc := ⟨.hbm, 229, rfl⟩
abbrev main_call0_call0_v137 : Ref sig .tc := ⟨.hbm, 230, rfl⟩
abbrev main_call0_call0_v138 : Ref sig .tc := ⟨.hbm, 231, rfl⟩
abbrev main_call0_call0_v139 : Ref sig .tc := ⟨.hbm, 232, rfl⟩
abbrev main_call0_call0_c_35 : Ref sig .tc := ⟨.hbm, 233, rfl⟩
abbrev main_call0_call0_v140 : Ref sig .tc := ⟨.hbm, 234, rfl⟩
abbrev main_call0_call0_v141 : Ref sig .tc := ⟨.hbm, 235, rfl⟩
abbrev main_call0_call0_v142 : Ref sig .tc := ⟨.hbm, 236, rfl⟩
abbrev main_call0_call0_c_36 : Ref sig .tc := ⟨.hbm, 237, rfl⟩
abbrev main_call0_call0_v143 : Ref sig .tc := ⟨.hbm, 238, rfl⟩
abbrev main_call0_call0_v144 : Ref sig .tc := ⟨.hbm, 239, rfl⟩
abbrev main_call0_call0_c_37 : Ref sig .tc := ⟨.hbm, 240, rfl⟩
abbrev main_call0_call0_v145 : Ref sig .tc := ⟨.hbm, 241, rfl⟩
abbrev main_call0_call0_v146 : Ref sig .tc := ⟨.hbm, 242, rfl⟩
abbrev main_call0_call0_v147 : Ref sig .tc := ⟨.hbm, 243, rfl⟩
abbrev main_call0_call0_v148 : Ref sig .tc := ⟨.hbm, 244, rfl⟩
abbrev main_call0_call0_v149 : Ref sig .tc := ⟨.hbm, 245, rfl⟩
abbrev main_call0_call0_c_38 : Ref sig .tc := ⟨.hbm, 246, rfl⟩
abbrev main_call0_call0_v150 : Ref sig .tc := ⟨.hbm, 247, rfl⟩
abbrev main_call0_call0_v151 : Ref sig .tc := ⟨.hbm, 248, rfl⟩
abbrev main_call0_call0_c_39 : Ref sig .tc := ⟨.hbm, 249, rfl⟩
abbrev main_call0_call0_v152 : Ref sig .tc := ⟨.hbm, 250, rfl⟩
abbrev main_call0_call0_v153 : Ref sig .tc := ⟨.hbm, 251, rfl⟩
abbrev main_call0_call0_v154 : Ref sig .tc := ⟨.hbm, 252, rfl⟩
abbrev main_call0_call0_v155 : Ref sig .tc := ⟨.hbm, 253, rfl⟩
abbrev main_call0_call0_v156 : Ref sig .tc := ⟨.hbm, 254, rfl⟩
abbrev main_call0_call0_c_40 : Ref sig .tc := ⟨.hbm, 255, rfl⟩
abbrev main_call0_call0_v157 : Ref sig .tc := ⟨.hbm, 256, rfl⟩
abbrev main_call0_call0_v158 : Ref sig .tc := ⟨.hbm, 257, rfl⟩
abbrev main_call0_call0_c_41 : Ref sig .tc := ⟨.hbm, 258, rfl⟩
abbrev main_call0_call0_v159 : Ref sig .tc := ⟨.hbm, 259, rfl⟩
abbrev main_call0_call0_v160 : Ref sig .tc := ⟨.hbm, 260, rfl⟩
abbrev main_call0_call0_v161 : Ref sig .tc := ⟨.hbm, 261, rfl⟩
abbrev main_call0_call0_v162 : Ref sig .tc := ⟨.hbm, 262, rfl⟩
abbrev main_call0_call0_v163 : Ref sig .tc := ⟨.hbm, 263, rfl⟩
abbrev main_call0_call0_c_42 : Ref sig .tc := ⟨.hbm, 264, rfl⟩
abbrev main_call0_call0_v164 : Ref sig .tc := ⟨.hbm, 265, rfl⟩
abbrev main_call0_call0_v165 : Ref sig .tc := ⟨.hbm, 266, rfl⟩
abbrev main_call0_call0_c_43 : Ref sig .tc := ⟨.hbm, 267, rfl⟩
abbrev main_call0_call0_v166 : Ref sig .tc := ⟨.hbm, 268, rfl⟩
abbrev main_call0_call0_v167 : Ref sig .tc := ⟨.hbm, 269, rfl⟩
abbrev main_call0_call0_v168 : Ref sig .tc := ⟨.hbm, 270, rfl⟩
abbrev main_call0_call0_v169 : Ref sig .tc := ⟨.hbm, 271, rfl⟩
abbrev main_call0_call0_v170 : Ref sig .tc := ⟨.hbm, 272, rfl⟩
abbrev main_call0_v19_0 : Ref sig .tc := ⟨.hbm, 273, rfl⟩
abbrev main_call0_call0_v172 : Ref sig .tc := ⟨.hbm, 274, rfl⟩
abbrev main_call0_call0_v173 : Ref sig .tc := ⟨.hbm, 275, rfl⟩
abbrev main_call0_call0_c_44 : Ref sig .tc := ⟨.hbm, 276, rfl⟩
abbrev main_call0_call0_v174 : Ref sig .tc := ⟨.hbm, 277, rfl⟩
abbrev main_call0_v19_1 : Ref sig .tc := ⟨.hbm, 278, rfl⟩
abbrev main_call0_v20 : Ref sig .tc := ⟨.hbm, 279, rfl⟩
abbrev main_call0_c_2 : Ref sig .tc := ⟨.hbm, 280, rfl⟩
abbrev main_call0_v21 : Ref sig .tc := ⟨.hbm, 281, rfl⟩
abbrev main_call0_v22 : Ref sig .tc := ⟨.hbm, 282, rfl⟩
abbrev main_call0_c_3 : Ref sig .tc := ⟨.hbm, 283, rfl⟩
abbrev main_call0_v23 : Ref sig .tc := ⟨.hbm, 284, rfl⟩
abbrev main_call0_v24 : Ref sig .tc := ⟨.hbm, 285, rfl⟩
abbrev main_call0_v25 : Ref sig .tc := ⟨.hbm, 286, rfl⟩
abbrev main_call0_cst : Ref sig .tc := ⟨.hbm, 287, rfl⟩
abbrev main_call0_v26 : Ref sig .tc := ⟨.hbm, 288, rfl⟩
abbrev main_call0_v27 : Ref sig .tc := ⟨.hbm, 289, rfl⟩
abbrev main_call0_v28 : Ref sig .tc := ⟨.hbm, 290, rfl⟩
abbrev main_call0_v29 : Ref sig .tc := ⟨.hbm, 291, rfl⟩
abbrev main_call0_v30 : Ref sig .tc := ⟨.hbm, 292, rfl⟩
abbrev main_call0_v31 : Ref sig .tc := ⟨.hbm, 293, rfl⟩
abbrev main_call0_v32 : Ref sig .tc := ⟨.hbm, 294, rfl⟩
abbrev main_call0_v33 : Ref sig .tc := ⟨.hbm, 295, rfl⟩
abbrev main_v24 : Ref sig .tc := ⟨.hbm, 296, rfl⟩
abbrev main_cst_8 : Ref sig .tc := ⟨.hbm, 297, rfl⟩
abbrev main_v25 : Ref sig .tc := ⟨.hbm, 298, rfl⟩
abbrev main_v26 : Ref sig .tc := ⟨.hbm, 299, rfl⟩
abbrev main_v27 : Ref sig .tc := ⟨.hbm, 300, rfl⟩
abbrev main_v28 : Ref sig .tc := ⟨.hbm, 301, rfl⟩
abbrev main_v29 : Ref sig .tc := ⟨.hbm, 302, rfl⟩
abbrev main_v30 : Ref sig .tc := ⟨.hbm, 303, rfl⟩
abbrev main_v31 : Ref sig .tc := ⟨.hbm, 304, rfl⟩
abbrev main_v32 : Ref sig .tc := ⟨.hbm, 305, rfl⟩
abbrev main_call1_v0 : Ref sig .tc := ⟨.hbm, 306, rfl⟩
abbrev main_call1_cst : Ref sig .tc := ⟨.hbm, 307, rfl⟩
abbrev main_call1_c : Ref sig .tc := ⟨.hbm, 308, rfl⟩
abbrev main_call1_v1_0 : Ref sig .tc := ⟨.hbm, 309, rfl⟩
abbrev main_v33 : Ref sig .tc := ⟨.hbm, 310, rfl⟩

abbrev nD : Nat := 1
abbrev τ : Topo := Topo.v7x

variable {F : FTy → Type} [FloatOps F]
-- ==== Proof.KI.Names.lean ====
/-
  Canonical names for the pieces the kernel's copies move: block `b` of `x`, of the table and of the output, slot `s`
  of each scratch buffer, and the semaphore of each copy — with the printed offsets in closed form.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev xM : Memref sig .tc .hbm S100000x128 .f32 := Memref.whole main_v0
abbrev gM : Memref sig .tc .hbm S100000x128 .f32 := Memref.whole main_v182
abbrev oM : Memref sig .tc .hbm S100000x128 .f32 := Memref.whole main_v183_0
abbrev xbM : Memref sig .tc .vmem S100000x128 .f32 := Memref.whole cc0_scratch0
abbrev gbM : Memref sig .tc .vmem S2x2000x128 .f32 := Memref.whole cc0_scratch1
abbrev pbM : Memref sig .tc .vmem S3x2000x128 .f32 := Memref.whole cc0_scratch2
abbrev mM : Memref sig .tc .vmem S1x128 .f32 := Memref.whole cc0_scratch3
abbrev lM : Memref sig .tc .vmem S1x128 .f32 := Memref.whole cc0_scratch4
abbrev bM : Memref sig .tc .vmem S1x128 .f32 := Memref.whole cc0_scratch5

abbrev blkOff (b : Fin 50) : Fin 2 → Nat := ![2000 * b.val, 0]
theorem blkOff_inb (b : Fin 50) : ∀ a, blkOff b a + S2000x128.size a ≤ S100000x128.size a := by
  have := b.isLt; intro a; fin_cases a
  · show 2000 * b.val + 2000 ≤ 100000; omega
  · show 0 + 128 ≤ 128; omega
abbrev slotOff {n : Nat} (s : Fin n) : Fin 3 → Nat := ![s.val, 0, 0]
theorem slotOff_inb2 (s : Fin 2) : ∀ a, slotOff s a + S1x2000x128.size a ≤ S2x2000x128.size a := by
  have := s.isLt; intro a; fin_cases a
  · show s.val + 1 ≤ 2; omega
  · show 0 + 2000 ≤ 2000; omega
  · show 0 + 128 ≤ 128; omega
theorem slotOff_inb3 (s : Fin 3) : ∀ a, slotOff s a + S1x2000x128.size a ≤ S3x2000x128.size a := by
  have := s.isLt; intro a; fin_cases a
  · show s.val + 1 ≤ 3; omega
  · show 0 + 2000 ≤ 2000; omega
  · show 0 + 128 ≤ 128; omega
abbrev semOff {n : Nat} (s : Fin n) : Fin 1 → Nat := ![s.val]
theorem semOff_inb50 (s : Fin 50) : ∀ a, semOff s a + S1.size a ≤ S50.size a := by
  have := s.isLt; intro a; fin_cases a; show s.val + 1 ≤ 50; omega
theorem semOff_inb2 (s : Fin 2) : ∀ a, semOff s a + S1.size a ≤ S2.size a := by
  have := s.isLt; intro a; fin_cases a; show s.val + 1 ≤ 2; omega
theorem semOff_inb3 (s : Fin 3) : ∀ a, semOff s a + S1.size a ≤ S3.size a := by
  have := s.isLt; intro a; fin_cases a; show s.val + 1 ≤ 3; omega

/-- Block `b` of an HBM array of 100000 rows. -/
def xsrc (b : Fin 50) : Memref sig .tc .hbm S2000x128 .f32 :=
  xM.slice (Rect.unit (s := S100000x128) (blkOff b) S2000x128.size (blkOff_inb b)) (fun _ => rfl)
/-- Block `b` of the table. -/
def gsrc (b : Fin 50) : Memref sig .tc .hbm S2000x128 .f32 :=
  gM.slice (Rect.unit (s := S100000x128) (blkOff b) S2000x128.size (blkOff_inb b)) (fun _ => rfl)
/-- Block `b` of the output. -/
def pdst (b : Fin 50) : Memref sig .tc .hbm S2000x128 .f32 :=
  oM.slice (Rect.unit (s := S100000x128) (blkOff b) S2000x128.size (blkOff_inb b)) (fun _ => rfl)
/-- Block `b` of the scratch copy of `x`. -/
def xslot (b : Fin 50) : Memref sig .tc .vmem S2000x128 .f32 :=
  xbM.slice (Rect.unit (s := S100000x128) (blkOff b) S2000x128.size (blkOff_inb b)) (fun _ => rfl)
/-- Slot `s` of the table's buffer. -/
def gslot (s : Fin 2) : Memref sig .tc .vmem S2000x128 .f32 :=
  (gbM.slice (Rect.unit (s := S2x2000x128) (slotOff s) S1x2000x128.size (slotOff_inb2 s)) (fun _ => rfl)).squeeze S2000x128 squeezes_S1x2000x128_S2000x128
/-- Slot `s` of the output's buffer. -/
def pslot (s : Fin 3) : Memref sig .tc .vmem S2000x128 .f32 :=
  (pbM.slice (Rect.unit (s := S3x2000x128) (slotOff s) S1x2000x128.size (slotOff_inb3 s)) (fun _ => rfl)).squeeze S2000x128 squeezes_S1x2000x128_S2000x128
/-- The semaphores of the copies of `x`, of the table and of the output. -/
def xsm (b : Fin 50) : DmaSems sig S_ := (cc0_scratch6.slice (Rect.unit (s := S50) (semOff b) S1.size (semOff_inb50 b))).squeeze S_ squeezes_S1_S_
def gsm (s : Fin 2) : DmaSems sig S_ := (cc0_scratch7.slice (Rect.unit (s := S2) (semOff s) S1.size (semOff_inb2 s))).squeeze S_ squeezes_S1_S_
def psm (s : Fin 3) : DmaSems sig S_ := (cc0_scratch8.slice (Rect.unit (s := S3) (semOff s) S1.size (semOff_inb3 s))).squeeze S_ squeezes_S1_S_

instance (b : Fin 50) : ClosedOff (blkOff b) := ⟨blkOff b, rfl⟩
instance (s : Fin 2) : ClosedOff (slotOff s) := ⟨slotOff s, rfl⟩
instance (s : Fin 3) : ClosedOff (slotOff s) := ⟨slotOff s, rfl⟩

section
variable {off : Fin 2 → Nat} {b : Fin 50}
theorem xsrc_congr (e : off = blkOff b) (hh hs) :
    xM.slice (Rect.unit (s := S100000x128) off S2000x128.size hh) hs = xsrc b := Memref.slice_unit_congr _ e _ _ _ (fun _ => rfl)
theorem gsrc_congr (e : off = blkOff b) (hh hs) :
    gM.slice (Rect.unit (s := S100000x128) off S2000x128.size hh) hs = gsrc b := Memref.slice_unit_congr _ e _ _ _ (fun _ => rfl)
theorem pdst_congr (e : off = blkOff b) (hh hs) :
    oM.slice (Rect.unit (s := S100000x128) off S2000x128.size hh) hs = pdst b := Memref.slice_unit_congr _ e _ _ _ (fun _ => rfl)
theorem xslot_congr (e : off = blkOff b) (hh hs) :
    xbM.slice (Rect.unit (s := S100000x128) off S2000x128.size hh) hs = xslot b := Memref.slice_unit_congr _ e _ _ _ (fun _ => rfl)
end
theorem gslot_congr {off : Fin 3 → Nat} {s : Fin 2} (e : off = slotOff s) (hh hs) :
    (gbM.slice (Rect.unit (s := S2x2000x128) off S1x2000x128.size hh) hs).squeeze S2000x128 squeezes_S1x2000x128_S2000x128 = gslot s :=
  congrArg (fun M : Memref sig .tc .vmem S1x2000x128 .f32 => M.squeeze S2000x128 squeezes_S1x2000x128_S2000x128) (Memref.slice_unit_congr _ e _ _ _ _)
theorem pslot_congr {off : Fin 3 → Nat} {s : Fin 3} (e : off = slotOff s) (hh hs) :
    (pbM.slice (Rect.unit (s := S3x2000x128) off S1x2000x128.size hh) hs).squeeze S2000x128 squeezes_S1x2000x128_S2000x128 = pslot s :=
  congrArg (fun M : Memref sig .tc .vmem S1x2000x128 .f32 => M.squeeze S2000x128 squeezes_S1x2000x128_S2000x128) (Memref.slice_unit_congr _ e _ _ _ _)
theorem xsm_congr {off : Fin 1 → Nat} {b : Fin 50} (e : off = semOff b) (hh) :
    (cc0_scratch6.slice (Rect.unit (s := S50) off S1.size hh)).squeeze S_ squeezes_S1_S_ = xsm b :=
  congrArg (fun A : DmaSems sig S1 => A.squeeze S_ squeezes_S1_S_) (SemArray.slice_unit_congr _ e _ _)
theorem gsm_congr {off : Fin 1 → Nat} {s : Fin 2} (e : off = semOff s) (hh) :
    (cc0_scratch7.slice (Rect.unit (s := S2) off S1.size hh)).squeeze S_ squeezes_S1_S_ = gsm s :=
  congrArg (fun A : DmaSems sig S1 => A.squeeze S_ squeezes_S1_S_) (SemArray.slice_unit_congr _ e _ _)
theorem psm_congr {off : Fin 1 → Nat} {s : Fin 3} (e : off = semOff s) (hh) :
    (cc0_scratch8.slice (Rect.unit (s := S3) off S1.size hh)).squeeze S_ squeezes_S1_S_ = psm s :=
  congrArg (fun A : DmaSems sig S1 => A.squeeze S_ squeezes_S1_S_) (SemArray.slice_unit_congr _ e _ _)

/-! ## The conditions and the offsets at a point -/

theorem i_lt (i : grid0.Coords) : (i 0).val < 100 := (i 0).isLt

/-- The word conditions of the body, read off the point's number. -/
theorem c1_iff : ∀ i : grid0.Coords, (Scalar.cmpi .ne (Scalar.extui (Scalar.cmpi .eq (BitVec.ofNat 32 (i 0).val) 0#32) : BitVec 32) 0#32 = 1#1) ↔ (i 0).val = 0 := by decide +kernel
theorem c2_iff : ∀ i : grid0.Coords, k0_cond2 i = 1#1 ↔ (i 0).val < 50 := by decide +kernel
theorem c4_iff : ∀ i : grid0.Coords, (Scalar.cmpi .ne (Scalar.extui (Scalar.cmpi .sgt (BitVec.ofNat 32 (i 0).val) 0#32) : BitVec 32) 0#32 = 1#1) ↔ 0 < (i 0).val := by decide +kernel
theorem c5_iff : ∀ i : grid0.Coords, k0_cond5 i = 1#1 ↔ (i 0).val + 6 < 50 := by decide +kernel
theorem c6_iff : ∀ i : grid0.Coords, (Scalar.cmpi .ne (Scalar.extui (Scalar.cmpi .eq (BitVec.ofNat 32 (i 0).val) 49#32) : BitVec 32) 0#32 = 1#1) ↔ (i 0).val = 49 := by decide +kernel
theorem c7_iff : ∀ i : grid0.Coords, k0_cond7 i = 1#1 ↔ 50 ≤ (i 0).val := by decide +kernel
theorem c8_iff : ∀ i : grid0.Coords, k0_cond8 i = 1#1 ↔ 53 ≤ (i 0).val := by decide +kernel
theorem c9_iff : ∀ i : grid0.Coords, k0_cond9 i = 1#1 ↔ (i 0).val = 50 := by decide +kernel
theorem c10_iff : ∀ i : grid0.Coords, k0_cond10 i = 1#1 ↔ 50 < (i 0).val := by decide +kernel
theorem c11_iff : ∀ i : grid0.Coords, k0_cond11 i = 1#1 ↔ (i 0).val < 98 := by decide +kernel
theorem c12_iff : ∀ i : grid0.Coords, k0_cond12 i = 1#1 ↔ (i 0).val = 99 := by decide +kernel

theorem o6 : ∀ i : grid0.Coords, 50 ≤ (i 0).val → k0_off6 i = ![((i 0).val - 50) % 3] := by decide +kernel
theorem o7 : ∀ i : grid0.Coords, 53 ≤ (i 0).val → k0_off7 i = ![2000 * ((i 0).val - 53), 0] := by decide +kernel
theorem o8 : ∀ i : grid0.Coords, 50 ≤ (i 0).val → k0_off8 i = ![((i 0).val - 50) % 3, 0, 0] := by decide +kernel
theorem o9 : ∀ i : grid0.Coords, 50 ≤ (i 0).val → k0_off9 i = ![((i 0).val - 50) % 2] := by decide +kernel
theorem o10 : ∀ i : grid0.Coords, 50 ≤ (i 0).val → k0_off10 i = ![((i 0).val - 50) % 2, 0, 0] := by decide +kernel
theorem o11 : ∀ i : grid0.Coords, 50 ≤ (i 0).val → k0_off11 i = ![2000 * ((i 0).val - 50), 0] := by decide +kernel
theorem o12 : ∀ i : grid0.Coords, 50 ≤ (i 0).val → k0_off12 i = ![2000 * ((i 0).val - 50), 0] := by decide +kernel
theorem o13 : ∀ i : grid0.Coords, 50 ≤ (i 0).val → k0_off13 i = ![((i 0).val - 50) % 2, 0, 0] := by decide +kernel
theorem o14 : ∀ i : grid0.Coords, 50 ≤ (i 0).val → k0_off14 i = ![((i 0).val - 50) % 3, 0, 0] := by decide +kernel
theorem o15 : ∀ i : grid0.Coords, 50 ≤ (i 0).val → k0_off15 i = ![((i 0).val - 50) % 3] := by decide +kernel
theorem o16 : ∀ i : grid0.Coords, 50 ≤ (i 0).val → k0_off16 i = ![((i 0).val - 50) % 3, 0, 0] := by decide +kernel
theorem o17 : ∀ i : grid0.Coords, 50 ≤ (i 0).val → k0_off17 i = ![((i 0).val - 50) % 2] := by decide +kernel
theorem o18 : ∀ i : grid0.Coords, 50 ≤ (i 0).val → k0_off18 i = ![((i 0).val - 50) % 2, 0, 0] := by decide +kernel
theorem o19 : ∀ i : grid0.Coords, 50 ≤ (i 0).val → k0_off19 i = ![2000 * ((i 0).val - 48), 0] := by decide +kernel
theorem o20 : ∀ i : grid0.Coords, (i 0).val = 99 → k0_off20 i 1#32 = ![2] ∧ k0_off20 i 2#32 = ![0] := by decide +kernel
theorem o21 : ∀ i : grid0.Coords, (i 0).val = 99 → k0_off21 i 1#32 = ![2000 * 48, 0] ∧ k0_off21 i 2#32 = ![2000 * 47, 0] := by decide +kernel
theorem o22 : ∀ i : grid0.Coords, (i 0).val = 99 → k0_off22 i 1#32 = ![2, 0, 0] ∧ k0_off22 i 2#32 = ![0, 0, 0] := by decide +kernel
theorem o23 : ∀ i : grid0.Coords, (i 0).val = 99 → k0_off23 i = ![1] := by decide +kernel
theorem o24 : ∀ i : grid0.Coords, (i 0).val = 99 → k0_off24 i = ![2000 * 49, 0] := by decide +kernel
theorem o25 : ∀ i : grid0.Coords, (i 0).val = 99 → k0_off25 i = ![1, 0, 0] := by decide +kernel

end Cert.KernelIdeal.Hand
-- ==== Proof.KI.Pieces.lean ====
/-
  The resources the kernel's points pass on: blocks and slots held on their own elements, and the copies in flight.
-/
module

public import proofs.«01_k».proof.Proof.KI.Names

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

abbrev 𝒱₀ : Variants := Variants.none

section Pieces
variable (X : Buf (Elt F) (xM.view.loc (c : Thread nD τ))) (GT : Buf (Elt F) (gM.view.loc (c : Thread nD τ)))

/-- Block `b` of `x` in HBM, on its elements. -/
abbrev xhome (b : Fin 50) : sProp 𝕄 := (xsrc b).view.loc (c : Thread nD τ) ↦[(xsrc b).view.set]{fullShare} X
/-- Block `b` of the scratch copy, at contents `f`. -/
abbrev xheld (b : Fin 50) (f : Buf (Elt F) ((xslot b).view.loc (c : Thread nD τ))) : sProp 𝕄 :=
  (xslot b).view.loc (c : Thread nD τ) ↦[(xslot b).view.set]{fullShare} f
/-- Block `b` on its way into the scratch. -/
abbrev xfly (b : Fin 50) : sProp 𝕄 :=
  Transfers.Flight countersEmb (c : Thread nD τ) (SemLoc.dma (xsm b).sem) () 32000 iprop(xheld c b X ∗ xhome c X b)
abbrev xcell (b : Fin 50) : sProp 𝕄 := semVal ((c : Thread nD τ), SemLoc.dma (xsm b).sem) 0

abbrev ghome (b : Fin 50) : sProp 𝕄 := (gsrc b).view.loc (c : Thread nD τ) ↦[(gsrc b).view.set]{fullShare} GT
abbrev gheld (s : Fin 2) (f : Buf (Elt F) ((gslot s).view.loc (c : Thread nD τ))) : sProp 𝕄 :=
  (gslot s).view.loc (c : Thread nD τ) ↦[(gslot s).view.set]{fullShare} f
abbrev gcell (s : Fin 2) : sProp 𝕄 := semVal ((c : Thread nD τ), SemLoc.dma (gsm s).sem) 0

abbrev phome (b : Fin 50) (f : Buf (Elt F) ((pdst b).view.loc (c : Thread nD τ))) : sProp 𝕄 :=
  (pdst b).view.loc (c : Thread nD τ) ↦[(pdst b).view.set]{fullShare} f
abbrev pheld (s : Fin 3) (f : Buf (Elt F) ((pslot s).view.loc (c : Thread nD τ))) : sProp 𝕄 :=
  (pslot s).view.loc (c : Thread nD τ) ↦[(pslot s).view.set]{fullShare} f
abbrev pcell (s : Fin 3) : sProp 𝕄 := semVal ((c : Thread nD τ), SemLoc.dma (psm s).sem) 0

/-- A small scratch buffer held whole. -/
abbrev mP (f : Buf (Elt F) (mM.view.loc (c : Thread nD τ))) : sProp 𝕄 := mM.view.loc (c : Thread nD τ) ↦{fullShare} f
abbrev lP (f : Buf (Elt F) (lM.view.loc (c : Thread nD τ))) : sProp 𝕄 := lM.view.loc (c : Thread nD τ) ↦{fullShare} f
abbrev bP (f : Buf (Elt F) (bM.view.loc (c : Thread nD τ))) : sProp 𝕄 := bM.view.loc (c : Thread nD τ) ↦{fullShare} f

end Pieces

/-! ## Values -/

/-- Contents on a view's own elements matter only as they are read. -/
theorem pt_read {κ : Kind} {sp : Space} {s : Shape} {e : EltTy} (t : Thread nD τ) (v : View sig t.2.kind sp s e) (q : PosShare TreeShare)
    {f g : Buf (Elt F) (v.loc t)} (h : v.read (Elt F) f = v.read (Elt F) g) :
    (v.loc t ↦[v.set]{q} f : sProp 𝕄) = v.loc t ↦[v.set]{q} g := by
  refine pointsTo_congr fun i hi => ?_
  obtain ⟨x, -, rfl⟩ := Finset.mem_map.mp hi
  have := congrFun h x
  exact (_root_.cast_bijective _).1 this

/-- Block `b` of `x`, as the body loads it. -/
def xblk (X : S100000x128.Idx → Elt F .f32) (b : Fin 50) : Vec F S2000x128 .f32 :=
  View.readAt (Elt F) xbM.view (Rect.unit (s := S100000x128) (blkOff b) S2000x128.size (blkOff_inb b)).toLoadRect X
/-- Block `b` of the table. -/
def gblk (GT : S100000x128.Idx → Elt F .f32) (b : Fin 50) : Vec F S2000x128 .f32 :=
  View.readAt (Elt F) gM.view (Rect.unit (s := S100000x128) (blkOff b) S2000x128.size (blkOff_inb b)).toLoadRect GT
/-- A block with a leading axis of one, and such a block without it. -/
def lead (w : Vec F S2000x128 .f32) : Vec F S1x2000x128 .f32 := fun y => w ((Shape.reshapeEquiv squeezes_S1x2000x128_S2000x128.numel_eq).symm y)
def unlead (w : Vec F S1x2000x128 .f32) : Vec F S2000x128 .f32 := fun y => w (Shape.reshapeEquiv squeezes_S1x2000x128_S2000x128.numel_eq y)

section
variable (X GT : S100000x128.Idx → Elt F .f32)
/-- The running maximum after `n` blocks; -/
def mAt : ℕ → Vec F S1x128 .f32
  | 0 => fun _ => FloatOps.ofBits .f32 0
  | n + 1 => if n = 0 then k0_pay2 (xblk X 0) else k0_pay6 (xblk X (Ring.bk 50 n)) (mAt n)
/-- the running sum; -/
def lAt : ℕ → Vec F S1x128 .f32
  | 0 => fun _ => FloatOps.ofBits .f32 0
  | n + 1 => if n = 0 then k0_pay3 (xblk X 0) else k0_pay5 (xblk X (Ring.bk 50 n)) (mAt X n) (lAt n)
/-- block `b` of the probabilities; -/
def pblk (b : Fin 50) : Vec F S2000x128 .f32 := unlead (k0_pay10 (xblk X b) (mAt X 50) (lAt X 50))
/-- the running best score; -/
def bvAt : ℕ → Vec F S1x128 .f32
  | 0 => fun _ => FloatOps.ofBits .f32 0
  | n + 1 => if n = 0 then k0_pay14 (xblk X 0) (lead (gblk GT 0))
      else k0_pay8 (k0_pay12 (xblk X (Ring.bk 50 n)) (lead (gblk GT (Ring.bk 50 n)))) (bvAt n)
/-- and the running best row. -/
def aAt : ℕ → Vec F S1x128 .i32
  | 0 => fun _ => 0#32
  | n + 1 => if n = 0 then k0_pay13 50#32 (xblk X 0) (lead (gblk GT 0))
      else k0_pay9 (k0_pay12 (xblk X (Ring.bk 50 n)) (lead (gblk GT (Ring.bk 50 n))))
        (k0_pay13 (BitVec.ofNat 32 (50 + n)) (xblk X (Ring.bk 50 n)) (lead (gblk GT (Ring.bk 50 n)))) (bvAt X GT n) (aAt n)
end

theorem unit_emb (y : S1x128.Idx) : (Rect.unit (s := S1x128) ![0, 0] S1x128.size inb_S1x128_S1x128_0_0).emb y = y := by
  funext a; refine Fin.ext ?_; fin_cases a <;> simp [Rect.emb, Rect.unit]
theorem rd_small {sp : Space} {e : EltTy} (M : Memref sig .tc sp S1x128 e) (f : M.view.ty.Contents (Elt F)) :
    View.readAt (Elt F) M.view (Rect.unit (s := S1x128) ![0, 0] S1x128.size inb_S1x128_S1x128_0_0).toLoadRect f = M.view.read (Elt F) f := by
  funext y
  show M.view.read (Elt F) f ((Rect.unit (s := S1x128) ![0, 0] S1x128.size inb_S1x128_S1x128_0_0).emb y) = _
  rw [unit_emb]
theorem wr_small {sp : Space} {e : EltTy} (M : Memref sig .tc sp S1x128 e) (f : M.view.ty.Contents (Elt F)) (v : S1x128.Idx → Elt F e)
    (L : List (View.Piece (Elt F) S1x128 e)) :
    M.view.read (Elt F) (M.view.writes (Elt F) f (⟨Rect.unit (s := S1x128) ![0, 0] S1x128.size inb_S1x128_S1x128_0_0, v⟩ :: L)) = v := by
  funext y
  have h := View.read_writes_cons_emb M.view f (Rect.unit (s := S1x128) ![0, 0] S1x128.size inb_S1x128_S1x128_0_0) v L y
  rwa [unit_emb] at h

abbrev gfly (GT : Buf (Elt F) (gM.view.loc (c : Thread nD τ))) (s : Fin 2) (b : Fin 50) : sProp 𝕄 :=
  Transfers.Flight countersEmb (c : Thread nD τ) (SemLoc.dma (gsm s).sem) () 32000 iprop(gheld c s ((gslot s).view.rep (gblk GT b)) ∗ ghome c GT b)
abbrev pfly (s : Fin 3) (b : Fin 50) (w : Vec F S2000x128 .f32) : sProp 𝕄 :=
  Transfers.Flight countersEmb (c : Thread nD τ) (SemLoc.dma (psm s).sem) () 32000 iprop(phome c b ((pdst b).view.rep w) ∗ pheld c s ((pslot s).view.rep w))

/-- The body at point `i`, its window's buffer `arg4`. -/
abbrev bodyW (i : grid0.Coords) (arg4 : Memref sig .tc .vmem S1x128 .i32) (harg4 : arg4.IsWhole) : Prog (TpuEff nD τ sig (Elt F) Λ₀ .tc) PUnit :=
  cc0__manual_kernel i xM (Memref.isWhole_whole _) gM (Memref.isWhole_whole _) oM (Memref.isWhole_whole _) arg4 harg4
    xbM (Memref.isWhole_whole _) gbM (Memref.isWhole_whole _) pbM (Memref.isWhole_whole _) mM (Memref.isWhole_whole _)
    lM (Memref.isWhole_whole _) bM (Memref.isWhole_whole _) cc0_scratch6 cc0_scratch7 cc0_scratch8

end Cert.KernelIdeal.Hand
-- ==== Proof.KI.Flights.lean ====
/-
  A copy just issued, restated at the contents its block is known by.
-/
module

public import proofs.«01_k».proof.Proof.KI.Pieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)
variable (X GT : S100000x128.Idx → Elt F .f32)

theorem pt_m (f : Buf (Elt F) (mM.view.loc (c : Thread nD τ))) (v : S1x128.Idx → Elt F .f32) (L) :
    (mM.view.writes (Elt F) f (⟨Rect.unit (s := S1x128) ![0, 0] S1x128.size inb_S1x128_S1x128_0_0, v⟩ :: L)) = v := wr_small mM f v L
theorem pt_l (f : Buf (Elt F) (lM.view.loc (c : Thread nD τ))) (v : S1x128.Idx → Elt F .f32) (L) :
    (lM.view.writes (Elt F) f (⟨Rect.unit (s := S1x128) ![0, 0] S1x128.size inb_S1x128_S1x128_0_0, v⟩ :: L)) = v := wr_small lM f v L
theorem pt_b (f : Buf (Elt F) (bM.view.loc (c : Thread nD τ))) (v : S1x128.Idx → Elt F .f32) (L) :
    (bM.view.writes (Elt F) f (⟨Rect.unit (s := S1x128) ![0, 0] S1x128.size inb_S1x128_S1x128_0_0, v⟩ :: L)) = v := wr_small bM f v L

theorem xblk_at {off : Fin 2 → ℕ} {b : Fin 50} (e : off = blkOff b) (hh) :
    View.readAt (Elt F) xbM.view (Rect.unit (s := S100000x128) off S2000x128.size hh).toLoadRect X = xblk X b := by subst e; rfl

theorem xblk_landed {off : Fin 2 → ℕ} {b : Fin 50} (e : off = blkOff b) (hh) (f : Buf (Elt F) ((xslot b).view.loc (c : Thread nD τ))) :
    View.readAt (Elt F) xbM.view (Rect.unit (s := S100000x128) off S2000x128.size hh).toLoadRect
      ((xslot b).view.writes (Elt F) f [⟨Rect.whole S2000x128, ReadAs.same.apply ((xsrc b).view.read (Elt F) X)⟩]) = xblk X b := by
  subst e; exact View.read_writes_whole (xslot b).view f _

/-- A landed block of `x`, restated at `x`'s own contents. -/
theorem x_land (b : Fin 50) (f : Buf (Elt F) ((xslot b).view.loc (c : Thread nD τ))) :
    (xheld c b ((xslot b).view.writes (Elt F) f [⟨Rect.whole S2000x128, ReadAs.same.apply ((xsrc b).view.read (Elt F) X)⟩]) : sProp 𝕄) = xheld c b X :=
  pt_read (κ := .tc) (c : Thread nD τ) (xslot b).view fullShare (by rw [View.read_writes_whole]; rfl)

/-- A copy of a block of `x`, restated at `x`'s own contents. -/
theorem x_fly (b : Fin 50) (f : Buf (Elt F) ((xslot b).view.loc (c : Thread nD τ))) :
    (Transfers.Flight countersEmb (c : Thread nD τ) (SemLoc.dma (xsm b).sem) () 32000
      iprop((xheld c b ((xslot b).view.writes (Elt F) f [⟨Rect.whole S2000x128, ReadAs.same.apply ((xsrc b).view.read (Elt F) X)⟩])) ∗ xhome c X b) : sProp 𝕄)
      ⊢ xfly c X b := by
  refine Transfers.Flight_mono countersEmb (c : Thread nD τ) ?_
  rw [x_land]

/-- A copy of a block of the table into a slot, restated over no earlier contents. -/
theorem g_fly (s : Fin 2) (b : Fin 50) (f : Buf (Elt F) ((gslot s).view.loc (c : Thread nD τ))) (L : List (View.Piece (Elt F) S2000x128 .f32)) :
    (Transfers.Flight countersEmb (c : Thread nD τ) (SemLoc.dma (gsm s).sem) () 32000
      iprop((gheld c s ((gslot s).view.writes (Elt F) f (⟨Rect.whole S2000x128, ReadAs.same.apply ((gsrc b).view.read (Elt F) GT)⟩ :: L))) ∗ ghome c GT b) : sProp 𝕄)
      ⊢ gfly c GT s b := by
  refine Transfers.Flight_mono countersEmb (c : Thread nD τ) ?_
  have e : (gheld c s ((gslot s).view.writes (Elt F) f (⟨Rect.whole S2000x128, ReadAs.same.apply ((gsrc b).view.read (Elt F) GT)⟩ :: L)) : sProp 𝕄)
      = gheld c s ((gslot s).view.rep (gblk GT b)) :=
    pt_read (κ := .tc) (c : Thread nD τ) (gslot s).view fullShare (by
      rw [View.read_rep, ← View.write_univ_eq_writes_whole, View.read_write_univ]; rfl)
  rw [e]

/-- What the whole buffer reads at a slot is what the slot reads, with its leading axis. -/
theorem g_at {off : Fin 3 → ℕ} {s : Fin 2} (e : off = slotOff s) (hh) (w : Vec F S2000x128 .f32) :
    View.readAt (Elt F) gbM.view (Rect.unit (s := S2x2000x128) off S1x2000x128.size hh).toLoadRect ((gslot s).view.rep w) = lead w := by
  subst e
  have h := View.read_rep (Val := Elt F) (gslot s).view w
  funext y
  have h' := congrFun h ((Shape.reshapeEquiv squeezes_S1x2000x128_S2000x128.numel_eq).symm y)
  unfold lead
  rw [← h']
  show View.read (Elt F) gbM.view _ _ = View.read (Elt F) gbM.view _ ((Rect.unit (s := S2x2000x128) (slotOff s) S1x2000x128.size hh).emb
    (Shape.reshapeEquiv squeezes_S1x2000x128_S2000x128.numel_eq ((Shape.reshapeEquiv squeezes_S1x2000x128_S2000x128.numel_eq).symm y)))
  rw [Equiv.apply_symm_apply]; rfl

/-- A block of the output as a slot's copy left it, restated at what the slot held. -/
theorem p_landed {off : Fin 3 → ℕ} (s : Fin 3) (e : off = slotOff s) (hh) (b : Fin 50) (f : Buf (Elt F) ((pslot s).view.loc (c : Thread nD τ)))
    (fd : Buf (Elt F) ((pdst b).view.loc (c : Thread nD τ))) (w : Vec F S1x2000x128 .f32) (d : Vec F S2000x128 .f32)
    (hd : d = ReadAs.same.apply ((pslot s).view.read (Elt F) (pbM.view.writes (Elt F) f [⟨Rect.unit (s := S3x2000x128) off S1x2000x128.size hh, w⟩]))) :
    (phome c b ((pdst b).view.writes (Elt F) fd [⟨Rect.whole S2000x128, d⟩]) : sProp 𝕄) ⊢ phome c b ((pdst b).view.rep (unlead w)) := by
  subst e hd
  refine .of_eq (pt_read (κ := .tc) (c : Thread nD τ) (pdst b).view fullShare ?_)
  rw [View.read_rep, View.read_writes_whole]
  funext y
  exact View.read_writes_cons_emb pbM.view f (Rect.unit (s := S3x2000x128) (slotOff s) S1x2000x128.size hh) w []
    (Shape.reshapeEquiv squeezes_S1x2000x128_S2000x128.numel_eq y)

/-- A copy of a slot out to a block of the output, restated at what the slot held. -/
theorem p_fly {off : Fin 3 → ℕ} (s : Fin 3) (e : off = slotOff s) (hh) (b : Fin 50) (f : Buf (Elt F) ((pslot s).view.loc (c : Thread nD τ)))
    (fd : Buf (Elt F) ((pdst b).view.loc (c : Thread nD τ))) (w : Vec F S1x2000x128 .f32) :
    (Transfers.Flight countersEmb (c : Thread nD τ) (SemLoc.dma (psm s).sem) () 32000
      iprop((phome c b ((pdst b).view.writes (Elt F) fd [⟨Rect.whole S2000x128, ReadAs.same.apply ((pslot s).view.read (Elt F)
          (pbM.view.writes (Elt F) f [⟨Rect.unit (s := S3x2000x128) off S1x2000x128.size hh, w⟩]))⟩]))
        ∗ pheld c s (pbM.view.writes (Elt F) f [⟨Rect.unit (s := S3x2000x128) off S1x2000x128.size hh, w⟩])) : sProp 𝕄)
      ⊢ pfly c s b (unlead w) := by
  refine Transfers.Flight_mono countersEmb (c : Thread nD τ) ?_
  subst e
  have e : (phome c b ((pdst b).view.writes (Elt F) fd [⟨Rect.whole S2000x128, ReadAs.same.apply ((pslot s).view.read (Elt F)
          (pbM.view.writes (Elt F) f [⟨Rect.unit (s := S3x2000x128) (slotOff s) S1x2000x128.size hh, w⟩]))⟩]) : sProp 𝕄)
      = phome c b ((pdst b).view.rep (unlead w)) :=
    pt_read (κ := .tc) (c : Thread nD τ) (pdst b).view fullShare (by
      rw [View.read_rep, View.read_writes_whole]
      funext y
      exact View.read_writes_cons_emb pbM.view f (Rect.unit (s := S3x2000x128) (slotOff s) S1x2000x128.size hh) w []
        (Shape.reshapeEquiv squeezes_S1x2000x128_S2000x128.numel_eq y))
  have e' : (pheld c s (pbM.view.writes (Elt F) f [⟨Rect.unit (s := S3x2000x128) (slotOff s) S1x2000x128.size hh, w⟩]) : sProp 𝕄)
      = pheld c s ((pslot s).view.rep (unlead w)) :=
    pt_read (κ := .tc) (c : Thread nD τ) (pslot s).view fullShare (by
      rw [View.read_rep]
      funext y
      exact View.read_writes_cons_emb pbM.view f (Rect.unit (s := S3x2000x128) (slotOff s) S1x2000x128.size hh) w []
        (Shape.reshapeEquiv squeezes_S1x2000x128_S2000x128.numel_eq y))
  rw [e, e']

end Cert.KernelIdeal.Hand
-- ==== Proof.KI.RunA.lean ====
/-
  The body at the first point.
-/
module

public import proofs.«01_k».proof.Proof.KI.Flights

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg4 : Memref sig .tc .vmem S1x128 .i32) (harg4 : arg4.IsWhole)
variable (X GT : S100000x128.Idx → Elt F .f32)

/-- The first point: it starts the copies of blocks 0 to 6 and takes block 0. -/
theorem runA (hb : (i 0).val = 0)
    (W : Finset (SemLoc sig × Unit)) (vm vl : Vec F S1x128 .f32) :
    iprop((xcell c 0 ∗ (∃ f, xheld c 0 f) ∗ xhome c X 0) ∗ (xcell c 1 ∗ (∃ f, xheld c 1 f) ∗ xhome c X 1) ∗ (xcell c 2 ∗ (∃ f, xheld c 2 f) ∗ xhome c X 2) ∗ (xcell c 3 ∗ (∃ f, xheld c 3 f) ∗ xhome c X 3) ∗ (xcell c 4 ∗ (∃ f, xheld c 4 f) ∗ xhome c X 4) ∗ (xcell c 5 ∗ (∃ f, xheld c 5 f) ∗ xhome c X 5) ∗ (xcell c 6 ∗ (∃ f, xheld c 6 f) ∗ xhome c X 6)
        ∗ mP c vm ∗ lP c vl ∗ owes (c : Thread nD τ) 0 W)
      ⊢ wp frame (wpE (defs₀ (F := F)) 𝒱₀ (c : Thread nD τ) none) Set.univ (bodyW i arg4 harg4)
        fun _ => (iprop((xcell c 0 ∗ xheld c 0 X ∗ xhome c X 0) ∗ xfly c X 1 ∗ xfly c X 2 ∗ xfly c X 3 ∗ xfly c X 4 ∗ xfly c X 5 ∗ xfly c X 6 ∗ mP c (k0_pay2 (xblk X 0)) ∗ lP c (k0_pay3 (xblk X 0))
          ∗ ∃ W, owes (c : Thread nD τ) 0 W) : sProp 𝕄) := by
  have h1 := (c1_iff i).2 (by omega)
  have h2 := (c2_iff i).2 (by omega)
  have n4 := mt (c4_iff i).1 (by omega)
  have h5 := (c5_iff i).2 (by omega)
  have n6 := mt (c6_iff i).1 (by omega)
  have n7 := mt (c7_iff i).1 (by omega)
  have hcanona0 := xsm_congr (b := 0) rfl inb_S50_S1_0
  have hcanonb0 := xsrc_congr (b := 0) rfl inb_S100000x128_S2000x128_0_0 (fun _ => rfl)
  have hcanonc0 := xslot_congr (b := 0) rfl inb_S100000x128_S2000x128_0_0 (fun _ => rfl)
  have hcanona1 := xsm_congr (b := 1) rfl inb_S50_S1_1
  have hcanonb1 := xsrc_congr (b := 1) rfl inb_S100000x128_S2000x128_2000_0 (fun _ => rfl)
  have hcanonc1 := xslot_congr (b := 1) rfl inb_S100000x128_S2000x128_2000_0 (fun _ => rfl)
  have hcanona2 := xsm_congr (b := 2) rfl inb_S50_S1_2
  have hcanonb2 := xsrc_congr (b := 2) rfl inb_S100000x128_S2000x128_4000_0 (fun _ => rfl)
  have hcanonc2 := xslot_congr (b := 2) rfl inb_S100000x128_S2000x128_4000_0 (fun _ => rfl)
  have hcanona3 := xsm_congr (b := 3) rfl inb_S50_S1_3
  have hcanonb3 := xsrc_congr (b := 3) rfl inb_S100000x128_S2000x128_6000_0 (fun _ => rfl)
  have hcanonc3 := xslot_congr (b := 3) rfl inb_S100000x128_S2000x128_6000_0 (fun _ => rfl)
  have hcanona4 := xsm_congr (b := 4) rfl inb_S50_S1_4
  have hcanonb4 := xsrc_congr (b := 4) rfl inb_S100000x128_S2000x128_8000_0 (fun _ => rfl)
  have hcanonc4 := xslot_congr (b := 4) rfl inb_S100000x128_S2000x128_8000_0 (fun _ => rfl)
  have hcanona5 := xsm_congr (b := 5) rfl inb_S50_S1_5
  have hcanonb5 := xsrc_congr (b := 5) rfl inb_S100000x128_S2000x128_10000_0 (fun _ => rfl)
  have hcanonc5 := xslot_congr (b := 5) rfl inb_S100000x128_S2000x128_10000_0 (fun _ => rfl)
  have e2 : k0_off2 i = blkOff 0 := by rw [k0_off2_eq i, hb]; rfl
  have e3 : k0_off3 i = blkOff 0 := by rw [k0_off3_eq i, hb]; rfl
  have hcanon1 := xsm_congr (b := 0) (by rw [k0_off1_eq i, hb]; rfl) (k0_off1_inb i h2)
  have hcanon2 := xsrc_congr e2 (k0_off2_inb i h2) (fun _ => rfl)
  have hcanon3 := xslot_congr e2 (k0_off2_inb i h2) (fun _ => rfl)
  letI : ClosedOff (k0_off3 i) := ⟨blkOff 0, e3⟩
  have ev := xblk_at X e3 (k0_off3_inb i h2)
  have e5 : k0_off5 i = blkOff 6 := by rw [k0_off5_eq i, hb]; rfl
  have hcanon4 := xsm_congr (b := 6) (by rw [k0_off4_eq i, hb]; rfl) (k0_off4_inb i h2 h5)
  have hcanon5 := xsrc_congr e5 (k0_off5_inb i h2 h5) (fun _ => rfl)
  have hcanon6 := xslot_congr e5 (k0_off5_inb i h2 h5) (fun _ => rfl)
  iintro ⟨⟨Hc0, ⟨%f0, Hs0⟩, Hh0⟩, ⟨Hc1, ⟨%f1, Hs1⟩, Hh1⟩, ⟨Hc2, ⟨%f2, Hs2⟩, Hh2⟩, ⟨Hc3, ⟨%f3, Hs3⟩, Hh3⟩, ⟨Hc4, ⟨%f4, Hs4⟩, Hh4⟩, ⟨Hc5, ⟨%f5, Hs5⟩, Hh5⟩, ⟨Hc6, ⟨%f6, Hs6⟩, Hh6⟩, Hm, Hl, HW⟩
  unfold bodyW
  rw [cc0__manual_kernel_eq_skeleton]
  unfold cc0__manual_kernel_skel
  sl_unfold [k0_part1]
  sl_exec
  sl_step
  have e0 : runA.sl.v17 i X h2 = xblk X 0 := xblk_landed c X e3 _ _
  rw [e0, pt_m c, pt_l c]
  isplitl [Hc0 Hs0 Hh0]
  · isplitl [Hc0]; · iexact Hc0
    isplitl [Hs0]; · rw [← x_land c X 0 (xslot 0).view.junk]; iexact Hs0
    iexact Hh0
  isplitl [Hc1]
  · iapply (x_fly c X 1 f1); iexact Hc1
  isplitl [Hc2]
  · iapply (x_fly c X 2 f2); iexact Hc2
  isplitl [Hc3]
  · iapply (x_fly c X 3 f3); iexact Hc3
  isplitl [Hc4]
  · iapply (x_fly c X 4 f4); iexact Hc4
  isplitl [Hc5]
  · iapply (x_fly c X 5 f5); iexact Hc5
  isplitl [Hc6]
  · iapply (x_fly c X 6 f6); iexact Hc6
  isplitl [Hm]; · iexact Hm
  isplitl [Hl]; · iexact Hl
  iexists _; iexact HW

end Cert.KernelIdeal.Hand
-- ==== Proof.KI.RunB.lean ====
/-
  The body at a point of the first phase after its first.
-/
module

public import proofs.«01_k».proof.Proof.KI.Flights

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg4 : Memref sig .tc .vmem S1x128 .i32) (harg4 : arg4.IsWhole)
variable (X GT : S100000x128.Idx → Elt F .f32)

/-- A point of the first phase that starts the copy of block `b'`. -/
theorem runB (b b' : Fin 50) (hb : (i 0).val = b.val) (hb' : b'.val = b.val + 6) (h0 : 0 < b.val)
    (W : Finset (SemLoc sig × Unit)) (vm vl : Vec F S1x128 .f32) :
    iprop(xfly c X b ∗ (xcell c b' ∗ (∃ f, xheld c b' f) ∗ xhome c X b') ∗ mP c vm ∗ lP c vl ∗ owes (c : Thread nD τ) 0 W)
      ⊢ wp frame (wpE (defs₀ (F := F)) 𝒱₀ (c : Thread nD τ) none) Set.univ (bodyW i arg4 harg4)
        fun _ => (iprop((xcell c b ∗ xheld c b X ∗ xhome c X b) ∗ xfly c X b' ∗ mP c (k0_pay6 (xblk X b) vm) ∗ lP c (k0_pay5 (xblk X b) vm vl)
          ∗ ∃ W, owes (c : Thread nD τ) 0 W) : sProp 𝕄) := by
  have hlt := b'.isLt
  have n1 := mt (c1_iff i).1 (by omega)
  have h2 := (c2_iff i).2 (by omega)
  have h4 := (c4_iff i).2 (by omega)
  have h5 := (c5_iff i).2 (by omega)
  have n6 := mt (c6_iff i).1 (by omega)
  have n7 := mt (c7_iff i).1 (by omega)
  have e2 : k0_off2 i = blkOff b := by rw [k0_off2_eq i, hb]
  have e3 : k0_off3 i = blkOff b := by rw [k0_off3_eq i, hb]
  have hcanon1 := xsm_congr (b := b) (by rw [k0_off1_eq i, hb]) (k0_off1_inb i h2)
  have hcanon2 := xsrc_congr e2 (k0_off2_inb i h2) (fun _ => rfl)
  have hcanon3 := xslot_congr e2 (k0_off2_inb i h2) (fun _ => rfl)
  letI : ClosedOff (k0_off3 i) := ⟨blkOff b, e3⟩
  have ev := xblk_at X e3 (k0_off3_inb i h2)
  have e5 : k0_off5 i = blkOff b' := by rw [k0_off5_eq i, hb, blkOff, hb']; rfl
  have hcanon4 := xsm_congr (b := b') (by rw [k0_off4_eq i, hb, semOff, hb']) (k0_off4_inb i h2 h5)
  have hcanon5 := xsrc_congr e5 (k0_off5_inb i h2 h5) (fun _ => rfl)
  have hcanon6 := xslot_congr e5 (k0_off5_inb i h2 h5) (fun _ => rfl)
  iintro ⟨HFx, ⟨Hxc', ⟨%f, Hxs'⟩, Hxh'⟩, Hm, Hl, HW⟩
  unfold bodyW
  rw [cc0__manual_kernel_eq_skeleton]
  unfold cc0__manual_kernel_skel
  sl_exec
  sl_step
  isplitl [HFx HFx_dst HFx_src]
  · isplitl [HFx]; · iexact HFx
    isplitl [HFx_dst]; · iexact HFx_dst
    iexact HFx_src
  isplitl [Hxc']
  · iapply (x_fly c X b' f); iexact Hxc'
  rw [rd_small, rd_small, pt_m c, pt_l c]
  isplitl [Hm]; · iexact Hm
  isplitl [Hl]; · iexact Hl
  iexists _; iexact HW

/-- A point of the first phase that starts no copy. -/
theorem runC (b : Fin 50) (hb : (i 0).val = b.val) (h0 : 44 ≤ b.val) (h49 : b.val < 49)
    (W : Finset (SemLoc sig × Unit)) (vm vl : Vec F S1x128 .f32) :
    iprop(xfly c X b ∗ mP c vm ∗ lP c vl ∗ owes (c : Thread nD τ) 0 W)
      ⊢ wp frame (wpE (defs₀ (F := F)) 𝒱₀ (c : Thread nD τ) none) Set.univ (bodyW i arg4 harg4)
        fun _ => (iprop((xcell c b ∗ xheld c b X ∗ xhome c X b) ∗ mP c (k0_pay6 (xblk X b) vm) ∗ lP c (k0_pay5 (xblk X b) vm vl)
          ∗ ∃ W, owes (c : Thread nD τ) 0 W) : sProp 𝕄) := by
  have n1 := mt (c1_iff i).1 (by omega)
  have h2 := (c2_iff i).2 (by omega)
  have h4 := (c4_iff i).2 (by omega)
  have n5 := mt (c5_iff i).1 (by omega)
  have n6 := mt (c6_iff i).1 (by omega)
  have n7 := mt (c7_iff i).1 (by omega)
  have e2 : k0_off2 i = blkOff b := by rw [k0_off2_eq i, hb]
  have e3 : k0_off3 i = blkOff b := by rw [k0_off3_eq i, hb]
  have hcanon1 := xsm_congr (b := b) (by rw [k0_off1_eq i, hb]) (k0_off1_inb i h2)
  have hcanon2 := xsrc_congr e2 (k0_off2_inb i h2) (fun _ => rfl)
  have hcanon3 := xslot_congr e2 (k0_off2_inb i h2) (fun _ => rfl)
  letI : ClosedOff (k0_off3 i) := ⟨blkOff b, e3⟩
  have ev := xblk_at X e3 (k0_off3_inb i h2)
  iintro ⟨HFx, Hm, Hl, HW⟩
  unfold bodyW
  rw [cc0__manual_kernel_eq_skeleton]
  unfold cc0__manual_kernel_skel
  sl_exec
  sl_step
  isplitl [HFx HFx_dst HFx_src]
  · isplitl [HFx]; · iexact HFx
    isplitl [HFx_dst]; · iexact HFx_dst
    iexact HFx_src
  rw [rd_small, rd_small, pt_m c, pt_l c]
  isplitl [Hm]; · iexact Hm
  isplitl [Hl]; · iexact Hl
  iexists _; iexact HW

/-- The last point of the first phase: it starts the table's first two copies. -/
theorem runD (b : Fin 50) (hb : (i 0).val = b.val) (h49 : b.val = 49)
    (W : Finset (SemLoc sig × Unit)) (vm vl : Vec F S1x128 .f32) :
    iprop(xfly c X b ∗ (gcell c 0 ∗ (∃ f, gheld c 0 f) ∗ ghome c GT 0) ∗ (gcell c 1 ∗ (∃ f, gheld c 1 f) ∗ ghome c GT 1)
        ∗ mP c vm ∗ lP c vl ∗ owes (c : Thread nD τ) 0 W)
      ⊢ wp frame (wpE (defs₀ (F := F)) 𝒱₀ (c : Thread nD τ) none) Set.univ (bodyW i arg4 harg4)
        fun _ => (iprop((xcell c b ∗ xheld c b X ∗ xhome c X b) ∗ gfly c GT 0 0 ∗ gfly c GT 1 1 ∗ mP c (k0_pay6 (xblk X b) vm) ∗ lP c (k0_pay5 (xblk X b) vm vl)
          ∗ ∃ W, owes (c : Thread nD τ) 0 W) : sProp 𝕄) := by
  have n1 := mt (c1_iff i).1 (by omega)
  have h2 := (c2_iff i).2 (by omega)
  have h4 := (c4_iff i).2 (by omega)
  have n5 := mt (c5_iff i).1 (by omega)
  have h6 := (c6_iff i).2 (by omega)
  have n7 := mt (c7_iff i).1 (by omega)
  have e2 : k0_off2 i = blkOff b := by rw [k0_off2_eq i, hb]
  have e3 : k0_off3 i = blkOff b := by rw [k0_off3_eq i, hb]
  have hcanon1 := xsm_congr (b := b) (by rw [k0_off1_eq i, hb]) (k0_off1_inb i h2)
  have hcanon2 := xsrc_congr e2 (k0_off2_inb i h2) (fun _ => rfl)
  have hcanon3 := xslot_congr e2 (k0_off2_inb i h2) (fun _ => rfl)
  letI : ClosedOff (k0_off3 i) := ⟨blkOff b, e3⟩
  have ev := xblk_at X e3 (k0_off3_inb i h2)
  have hcanon4 := gsm_congr (s := 0) rfl inb_S2_S1_0
  have hcanon5 := gsm_congr (s := 1) rfl inb_S2_S1_1
  have hcanon6 := gslot_congr (s := 0) rfl inb_S2x2000x128_S1x2000x128_0_0_0 (fun _ => rfl)
  have hcanon7 := gslot_congr (s := 1) rfl inb_S2x2000x128_S1x2000x128_1_0_0 (fun _ => rfl)
  have hcanon8 := gsrc_congr (b := 0) rfl inb_S100000x128_S2000x128_0_0 (fun _ => rfl)
  have hcanon9 := gsrc_congr (b := 1) rfl inb_S100000x128_S2000x128_2000_0 (fun _ => rfl)
  iintro ⟨HFx, ⟨Hc0, ⟨%f0, Hs0⟩, Hg0⟩, ⟨Hc1, ⟨%f1, Hs1⟩, Hg1⟩, Hm, Hl, HW⟩
  unfold bodyW
  rw [cc0__manual_kernel_eq_skeleton]
  unfold cc0__manual_kernel_skel
  sl_exec
  sl_step
  isplitl [HFx HFx_dst HFx_src]
  · isplitl [HFx]; · iexact HFx
    isplitl [HFx_dst]; · iexact HFx_dst
    iexact HFx_src
  isplitl [Hc0]
  · iapply (g_fly c GT 0 0 f0 []); iexact Hc0
  isplitl [Hc1]
  · iapply (g_fly c GT 1 1 f1 []); iexact Hc1
  rw [rd_small, rd_small, pt_m c, pt_l c]
  isplitl [Hm]; · iexact Hm
  isplitl [Hl]; · iexact Hl
  iexists _; iexact HW

end Cert.KernelIdeal.Hand
-- ==== Proof.KI.RunE.lean ====
/-
  The body at the points of the second phase.
-/
module

public import proofs.«01_k».proof.Proof.KI.Flights

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg4 : Memref sig .tc .vmem S1x128 .i32) (harg4 : arg4.IsWhole)
variable (X GT : S100000x128.Idx → Elt F .f32)

/-- The first point of the second phase. -/
theorem runE (b : Fin 50) (sg : Fin 2) (sp : Fin 3) (b2 : Fin 50) (hb : (i 0).val = 50 + b.val) (hsg : sg.val = b.val % 2) (hsp : sp.val = b.val % 3) (hb2 : b2.val = b.val + 2) (h0 : b.val = 0)
    (W : Finset (SemLoc sig × Unit)) (vm vl vb : Vec F S1x128 .f32) (va : Vec F S1x128 .i32) :
    iprop(xheld c b X ∗ gfly c GT sg b ∗ ghome c GT b2 ∗ (pcell c sp ∗ ∃ f, pheld c sp f) ∗ (∃ f, phome c b f) ∗ mP c vm ∗ lP c vl ∗ bP c vb ∗ owns (c : Thread nD τ) arg4 fullShare va ∗ owes (c : Thread nD τ) 0 W)
      ⊢ wp frame (wpE (defs₀ (F := F)) 𝒱₀ (c : Thread nD τ) none) Set.univ (bodyW i arg4 harg4)
        fun _ => (iprop(xheld c b X ∗ gfly c GT sg b2 ∗ ghome c GT b ∗ pfly c sp b (unlead (k0_pay10 (xblk X b) vm vl)) ∗ mP c vm ∗ lP c vl ∗ bP c (k0_pay14 (xblk X b) (lead (gblk GT b))) ∗ owns (c : Thread nD τ) arg4 fullShare (k0_pay13 (BitVec.ofNat 32 (i 0).val) (xblk X b) (lead (gblk GT b))) ∗ ∃ W, owes (c : Thread nD τ) 0 W) : sProp 𝕄) := by
  have n1 := mt (c1_iff i).1 (by omega)
  have n2 := mt (c2_iff i).1 (by omega)
  have h7 := (c7_iff i).2 (by omega)
  have n8 := mt (c8_iff i).1 (by omega)
  have h9 := (c9_iff i).2 (by omega)
  have n10 := mt (c10_iff i).1 (by omega)
  have h11 := (c11_iff i).2 (by omega)
  have n12 := mt (c12_iff i).1 (by omega)
  have hlt := b.isLt
  have h50 : 50 ≤ (i 0).val := by omega
  have hj : (i 0).val - 50 = b.val := by omega
  have e11 : k0_off11 i = blkOff b := by rw [o11 i h50, hj]
  have e12 : k0_off12 i = blkOff b := by rw [o12 i h50, hj]
  have e10 : k0_off10 i = slotOff sg := by rw [o10 i h50, hj, slotOff, hsg]
  have e13 : k0_off13 i = slotOff sg := by rw [o13 i h50, hj, slotOff, hsg]
  have e14 : k0_off14 i = slotOff sp := by rw [o14 i h50, hj, slotOff, hsp]
  have e16 : k0_off16 i = slotOff sp := by rw [o16 i h50, hj, slotOff, hsp]
  have hcanon1 := gsm_congr (s := sg) (by rw [o9 i h50, hj, semOff, hsg]) (k0_off9_inb i h7)
  have hcanon2 := gslot_congr e10 (k0_off10_inb i h7) (fun _ => rfl)
  have hcanon3 := gsrc_congr e11 (k0_off11_inb i h7) (fun _ => rfl)
  have hcanon4 := psm_congr (s := sp) (by rw [o15 i h50, hj, semOff, hsp]) (k0_off15_inb i h7)
  have hcanon5 := pslot_congr e16 (k0_off16_inb i h7) (fun _ => rfl)
  have hcanon6 := pdst_congr e11 (k0_off11_inb i h7) (fun _ => rfl)
  letI : ClosedOff (k0_off12 i) := ⟨blkOff b, e12⟩
  letI : ClosedOff (k0_off13 i) := ⟨slotOff sg, e13⟩
  letI : ClosedOff (k0_off14 i) := ⟨slotOff sp, e14⟩
  have ex := xblk_at X e12 (k0_off12_inb i h7)
  have eg := g_at e13 (k0_off13_inb i h7) (gblk GT b)
  have e18 : k0_off18 i = slotOff sg := by rw [o18 i h50, hj, slotOff, hsg]
  have e19 : k0_off19 i = blkOff b2 := by rw [o19 i h50, blkOff, hb2, show (i 0).val - 48 = b.val + 2 by omega]
  have hcanon7 := gsm_congr (s := sg) (by rw [o17 i h50, hj, semOff, hsg]) (k0_off17_inb i h7 h11)
  have hcanon8 := gslot_congr e18 (k0_off18_inb i h7 h11) (fun _ => rfl)
  have hcanon9 := gsrc_congr e19 (k0_off19_inb i h7 h11) (fun _ => rfl)
  unfold Idealize.ShloMosaic.owns
  iintro ⟨Hx, Hfg, Hg2, ⟨Hfp, ⟨%fp, Hps⟩⟩, ⟨%fd, Hpd⟩, Hm, Hl, Hb, ⟨%fa, %hfa, Ha⟩, HW⟩
  unfold bodyW
  rw [cc0__manual_kernel_eq_skeleton]
  unfold cc0__manual_kernel_skel
  sl_unfold [k0_part2]
  have em : View.readAt (Elt F) mM.view (Rect.unit (s := S1x128) ![0, 0] S1x128.size inb_S1x128_S1x128_0_0).toLoadRect vm = vm := rd_small mM vm
  have el : View.readAt (Elt F) lM.view (Rect.unit (s := S1x128) ![0, 0] S1x128.size inb_S1x128_S1x128_0_0).toLoadRect vl = vl := rd_small lM vl
  have eb : View.readAt (Elt F) bM.view (Rect.unit (s := S1x128) ![0, 0] S1x128.size inb_S1x128_S1x128_0_0).toLoadRect vb = vb := rd_small bM vb
  have ea : View.readAt (Elt F) arg4.view (Rect.unit (s := S1x128) ![0, 0] S1x128.size inb_S1x128_S1x128_0_0).toLoadRect fa = va := by rw [rd_small, hfa]
  sl_exec
  sl_step
  rw [pt_b c]
  isplitl [Hx]; · iexact Hx
  isplitl [Hfg]
  · iapply (g_fly c GT sg b2 ((gslot sg).view.rep (gblk GT b)) []); iexact Hfg
  isplitl [Hfg_src]; · iexact Hfg_src
  isplitl [Hfp]
  · iapply (p_fly c sp e14 (k0_off14_inb i h7) b fp fd (k0_pay10 (xblk X b) vm vl)); iexact Hfp
  isplitl [Hm]; · iexact Hm
  isplitl [Hl]; · iexact Hl
  isplitl [Hb]; · iexact Hb
  isplitl [Ha]
  · iexists (arg4.view.writes (Elt F) fa [⟨Rect.unit (s := S1x128) ![0, 0] S1x128.size inb_S1x128_S1x128_0_0, (k0_pay13 (BitVec.ofNat 32 (i 0).val) (xblk X b) (lead (gblk GT b)))⟩])
    isplitr
    · ipureintro; exact wr_small arg4 fa _ _
    iexact Ha
  iexists _; iexact HW

/-- A point of the second phase. -/
theorem runG (b : Fin 50) (sg : Fin 2) (sp : Fin 3) (b2 : Fin 50) (bp : Fin 50) (hb : (i 0).val = 50 + b.val) (hsg : sg.val = b.val % 2) (hsp : sp.val = b.val % 3) (hb2 : b2.val = b.val + 2) (hbp : b.val = bp.val + 3) (h48 : b.val < 48)
    (W : Finset (SemLoc sig × Unit)) (vm vl vb : Vec F S1x128 .f32) (va : Vec F S1x128 .i32) (w : Vec F S2000x128 .f32) :
    iprop(xheld c b X ∗ gfly c GT sg b ∗ ghome c GT b2 ∗ pfly c sp bp w ∗ (∃ f, phome c b f) ∗ mP c vm ∗ lP c vl ∗ bP c vb ∗ owns (c : Thread nD τ) arg4 fullShare va ∗ owes (c : Thread nD τ) 0 W)
      ⊢ wp frame (wpE (defs₀ (F := F)) 𝒱₀ (c : Thread nD τ) none) Set.univ (bodyW i arg4 harg4)
        fun _ => (iprop(xheld c b X ∗ gfly c GT sg b2 ∗ ghome c GT b ∗ phome c bp ((pdst bp).view.rep w) ∗ pfly c sp b (unlead (k0_pay10 (xblk X b) vm vl)) ∗ mP c vm ∗ lP c vl ∗ bP c (k0_pay8 (k0_pay12 (xblk X b) (lead (gblk GT b))) vb) ∗ owns (c : Thread nD τ) arg4 fullShare (k0_pay9 (k0_pay12 (xblk X b) (lead (gblk GT b))) (k0_pay13 (BitVec.ofNat 32 (i 0).val) (xblk X b) (lead (gblk GT b))) vb va) ∗ ∃ W, owes (c : Thread nD τ) 0 W) : sProp 𝕄) := by
  have n1 := mt (c1_iff i).1 (by omega)
  have n2 := mt (c2_iff i).1 (by omega)
  have h7 := (c7_iff i).2 (by omega)
  have h8 := (c8_iff i).2 (by omega)
  have n9 := mt (c9_iff i).1 (by omega)
  have h10 := (c10_iff i).2 (by omega)
  have h11 := (c11_iff i).2 (by omega)
  have n12 := mt (c12_iff i).1 (by omega)
  have hlt := b.isLt
  have h50 : 50 ≤ (i 0).val := by omega
  have hj : (i 0).val - 50 = b.val := by omega
  have e11 : k0_off11 i = blkOff b := by rw [o11 i h50, hj]
  have e12 : k0_off12 i = blkOff b := by rw [o12 i h50, hj]
  have e10 : k0_off10 i = slotOff sg := by rw [o10 i h50, hj, slotOff, hsg]
  have e13 : k0_off13 i = slotOff sg := by rw [o13 i h50, hj, slotOff, hsg]
  have e14 : k0_off14 i = slotOff sp := by rw [o14 i h50, hj, slotOff, hsp]
  have e16 : k0_off16 i = slotOff sp := by rw [o16 i h50, hj, slotOff, hsp]
  have hcanon1 := gsm_congr (s := sg) (by rw [o9 i h50, hj, semOff, hsg]) (k0_off9_inb i h7)
  have hcanon2 := gslot_congr e10 (k0_off10_inb i h7) (fun _ => rfl)
  have hcanon3 := gsrc_congr e11 (k0_off11_inb i h7) (fun _ => rfl)
  have hcanon4 := psm_congr (s := sp) (by rw [o15 i h50, hj, semOff, hsp]) (k0_off15_inb i h7)
  have hcanon5 := pslot_congr e16 (k0_off16_inb i h7) (fun _ => rfl)
  have hcanon6 := pdst_congr e11 (k0_off11_inb i h7) (fun _ => rfl)
  letI : ClosedOff (k0_off12 i) := ⟨blkOff b, e12⟩
  letI : ClosedOff (k0_off13 i) := ⟨slotOff sg, e13⟩
  letI : ClosedOff (k0_off14 i) := ⟨slotOff sp, e14⟩
  have ex := xblk_at X e12 (k0_off12_inb i h7)
  have eg := g_at e13 (k0_off13_inb i h7) (gblk GT b)
  have e18 : k0_off18 i = slotOff sg := by rw [o18 i h50, hj, slotOff, hsg]
  have e19 : k0_off19 i = blkOff b2 := by rw [o19 i h50, blkOff, hb2, show (i 0).val - 48 = b.val + 2 by omega]
  have hcanon7 := gsm_congr (s := sg) (by rw [o17 i h50, hj, semOff, hsg]) (k0_off17_inb i h7 h11)
  have hcanon8 := gslot_congr e18 (k0_off18_inb i h7 h11) (fun _ => rfl)
  have hcanon9 := gsrc_congr e19 (k0_off19_inb i h7 h11) (fun _ => rfl)
  have e7 : k0_off7 i = blkOff bp := by rw [o7 i (by omega), blkOff, show (i 0).val - 53 = bp.val by omega]
  have e8 : k0_off8 i = slotOff sp := by rw [o8 i h50, hj, slotOff, hsp]
  have hcanon10 := psm_congr (s := sp) (by rw [o6 i h50, hj, semOff, hsp]) (k0_off6_inb i h7 h8)
  have hcanon11 := pslot_congr e8 (k0_off8_inb i h7 h8) (fun _ => rfl)
  have hcanon12 := pdst_congr e7 (k0_off7_inb i h7 h8) (fun _ => rfl)
  unfold Idealize.ShloMosaic.owns
  iintro ⟨Hx, Hfg, Hg2, Hfp, ⟨%fd, Hpd⟩, Hm, Hl, Hb, ⟨%fa, %hfa, Ha⟩, HW⟩
  unfold bodyW
  rw [cc0__manual_kernel_eq_skeleton]
  unfold cc0__manual_kernel_skel
  sl_unfold [k0_part2]
  have em : View.readAt (Elt F) mM.view (Rect.unit (s := S1x128) ![0, 0] S1x128.size inb_S1x128_S1x128_0_0).toLoadRect vm = vm := rd_small mM vm
  have el : View.readAt (Elt F) lM.view (Rect.unit (s := S1x128) ![0, 0] S1x128.size inb_S1x128_S1x128_0_0).toLoadRect vl = vl := rd_small lM vl
  have eb : View.readAt (Elt F) bM.view (Rect.unit (s := S1x128) ![0, 0] S1x128.size inb_S1x128_S1x128_0_0).toLoadRect vb = vb := rd_small bM vb
  have ea : View.readAt (Elt F) arg4.view (Rect.unit (s := S1x128) ![0, 0] S1x128.size inb_S1x128_S1x128_0_0).toLoadRect fa = va := by rw [rd_small, hfa]
  sl_exec
  sl_step
  rw [pt_b c]
  isplitl [Hx]; · iexact Hx
  isplitl [Hfg]
  · iapply (g_fly c GT sg b2 ((gslot sg).view.rep (gblk GT b)) []); iexact Hfg
  isplitl [Hfg_src]; · iexact Hfg_src
  isplitl [Hfp_dst]; · iexact Hfp_dst
  isplitl [Hfp]
  · iapply (p_fly c sp e14 (k0_off14_inb i h7) b ((pslot sp).view.rep w) fd (k0_pay10 (xblk X b) vm vl)); iexact Hfp
  isplitl [Hm]; · iexact Hm
  isplitl [Hl]; · iexact Hl
  isplitl [Hb]; · iexact Hb
  isplitl [Ha]
  · iexists (arg4.view.writes (Elt F) fa [⟨Rect.unit (s := S1x128) ![0, 0] S1x128.size inb_S1x128_S1x128_0_0, (k0_pay9 (k0_pay12 (xblk X b) (lead (gblk GT b))) (k0_pay13 (BitVec.ofNat 32 (i 0).val) (xblk X b) (lead (gblk GT b))) vb va)⟩])
    isplitr
    · ipureintro; exact wr_small arg4 fa _ _
    iexact Ha
  iexists _; iexact HW

/-- The second and third points of the second phase. -/
theorem runF (b : Fin 50) (sg : Fin 2) (sp : Fin 3) (b2 : Fin 50) (hb : (i 0).val = 50 + b.val) (hsg : sg.val = b.val % 2) (hsp : sp.val = b.val % 3) (hb2 : b2.val = b.val + 2) (h0 : 0 < b.val) (h3 : b.val < 3)
    (W : Finset (SemLoc sig × Unit)) (vm vl vb : Vec F S1x128 .f32) (va : Vec F S1x128 .i32) :
    iprop(xheld c b X ∗ gfly c GT sg b ∗ ghome c GT b2 ∗ (pcell c sp ∗ ∃ f, pheld c sp f) ∗ (∃ f, phome c b f) ∗ mP c vm ∗ lP c vl ∗ bP c vb ∗ owns (c : Thread nD τ) arg4 fullShare va ∗ owes (c : Thread nD τ) 0 W)
      ⊢ wp frame (wpE (defs₀ (F := F)) 𝒱₀ (c : Thread nD τ) none) Set.univ (bodyW i arg4 harg4)
        fun _ => (iprop(xheld c b X ∗ gfly c GT sg b2 ∗ ghome c GT b ∗ pfly c sp b (unlead (k0_pay10 (xblk X b) vm vl)) ∗ mP c vm ∗ lP c vl ∗ bP c (k0_pay8 (k0_pay12 (xblk X b) (lead (gblk GT b))) vb) ∗ owns (c : Thread nD τ) arg4 fullShare (k0_pay9 (k0_pay12 (xblk X b) (lead (gblk GT b))) (k0_pay13 (BitVec.ofNat 32 (i 0).val) (xblk X b) (lead (gblk GT b))) vb va) ∗ ∃ W, owes (c : Thread nD τ) 0 W) : sProp 𝕄) := by
  have n1 := mt (c1_iff i).1 (by omega)
  have n2 := mt (c2_iff i).1 (by omega)
  have h7 := (c7_iff i).2 (by omega)
  have n8 := mt (c8_iff i).1 (by omega)
  have n9 := mt (c9_iff i).1 (by omega)
  have h10 := (c10_iff i).2 (by omega)
  have h11 := (c11_iff i).2 (by omega)
  have n12 := mt (c12_iff i).1 (by omega)
  have hlt := b.isLt
  have h50 : 50 ≤ (i 0).val := by omega
  have hj : (i 0).val - 50 = b.val := by omega
  have e11 : k0_off11 i = blkOff b := by rw [o11 i h50, hj]
  have e12 : k0_off12 i = blkOff b := by rw [o12 i h50, hj]
  have e10 : k0_off10 i = slotOff sg := by rw [o10 i h50, hj, slotOff, hsg]
  have e13 : k0_off13 i = slotOff sg := by rw [o13 i h50, hj, slotOff, hsg]
  have e14 : k0_off14 i = slotOff sp := by rw [o14 i h50, hj, slotOff, hsp]
  have e16 : k0_off16 i = slotOff sp := by rw [o16 i h50, hj, slotOff, hsp]
  have hcanon1 := gsm_congr (s := sg) (by rw [o9 i h50, hj, semOff, hsg]) (k0_off9_inb i h7)
  have hcanon2 := gslot_congr e10 (k0_off10_inb i h7) (fun _ => rfl)
  have hcanon3 := gsrc_congr e11 (k0_off11_inb i h7) (fun _ => rfl)
  have hcanon4 := psm_congr (s := sp) (by rw [o15 i h50, hj, semOff, hsp]) (k0_off15_inb i h7)
  have hcanon5 := pslot_congr e16 (k0_off16_inb i h7) (fun _ => rfl)
  have hcanon6 := pdst_congr e11 (k0_off11_inb i h7) (fun _ => rfl)
  letI : ClosedOff (k0_off12 i) := ⟨blkOff b, e12⟩
  letI : ClosedOff (k0_off13 i) := ⟨slotOff sg, e13⟩
  letI : ClosedOff (k0_off14 i) := ⟨slotOff sp, e14⟩
  have ex := xblk_at X e12 (k0_off12_inb i h7)
  have eg := g_at e13 (k0_off13_inb i h7) (gblk GT b)
  have e18 : k0_off18 i = slotOff sg := by rw [o18 i h50, hj, slotOff, hsg]
  have e19 : k0_off19 i = blkOff b2 := by rw [o19 i h50, blkOff, hb2, show (i 0).val - 48 = b.val + 2 by omega]
  have hcanon7 := gsm_congr (s := sg) (by rw [o17 i h50, hj, semOff, hsg]) (k0_off17_inb i h7 h11)
  have hcanon8 := gslot_congr e18 (k0_off18_inb i h7 h11) (fun _ => rfl)
  have hcanon9 := gsrc_congr e19 (k0_off19_inb i h7 h11) (fun _ => rfl)
  unfold Idealize.ShloMosaic.owns
  iintro ⟨Hx, Hfg, Hg2, ⟨Hfp, ⟨%fp, Hps⟩⟩, ⟨%fd, Hpd⟩, Hm, Hl, Hb, ⟨%fa, %hfa, Ha⟩, HW⟩
  unfold bodyW
  rw [cc0__manual_kernel_eq_skeleton]
  unfold cc0__manual_kernel_skel
  sl_unfold [k0_part2]
  have em : View.readAt (Elt F) mM.view (Rect.unit (s := S1x128) ![0, 0] S1x128.size inb_S1x128_S1x128_0_0).toLoadRect vm = vm := rd_small mM vm
  have el : View.readAt (Elt F) lM.view (Rect.unit (s := S1x128) ![0, 0] S1x128.size inb_S1x128_S1x128_0_0).toLoadRect vl = vl := rd_small lM vl
  have eb : View.readAt (Elt F) bM.view (Rect.unit (s := S1x128) ![0, 0] S1x128.size inb_S1x128_S1x128_0_0).toLoadRect vb = vb := rd_small bM vb
  have ea : View.readAt (Elt F) arg4.view (Rect.unit (s := S1x128) ![0, 0] S1x128.size inb_S1x128_S1x128_0_0).toLoadRect fa = va := by rw [rd_small, hfa]
  sl_exec
  sl_step
  rw [pt_b c]
  isplitl [Hx]; · iexact Hx
  isplitl [Hfg]
  · iapply (g_fly c GT sg b2 ((gslot sg).view.rep (gblk GT b)) []); iexact Hfg
  isplitl [Hfg_src]; · iexact Hfg_src
  isplitl [Hfp]
  · iapply (p_fly c sp e14 (k0_off14_inb i h7) b fp fd (k0_pay10 (xblk X b) vm vl)); iexact Hfp
  isplitl [Hm]; · iexact Hm
  isplitl [Hl]; · iexact Hl
  isplitl [Hb]; · iexact Hb
  isplitl [Ha]
  · iexists (arg4.view.writes (Elt F) fa [⟨Rect.unit (s := S1x128) ![0, 0] S1x128.size inb_S1x128_S1x128_0_0, (k0_pay9 (k0_pay12 (xblk X b) (lead (gblk GT b))) (k0_pay13 (BitVec.ofNat 32 (i 0).val) (xblk X b) (lead (gblk GT b))) vb va)⟩])
    isplitr
    · ipureintro; exact wr_small arg4 fa _ _
    iexact Ha
  iexists _; iexact HW

/-- The last point but one. -/
theorem runH (b : Fin 50) (sg : Fin 2) (sp : Fin 3) (bp : Fin 50) (hb : (i 0).val = 50 + b.val) (hsg : sg.val = b.val % 2) (hsp : sp.val = b.val % 3) (hbp : b.val = bp.val + 3) (h48 : b.val = 48)
    (W : Finset (SemLoc sig × Unit)) (vm vl vb : Vec F S1x128 .f32) (va : Vec F S1x128 .i32) (w : Vec F S2000x128 .f32) :
    iprop(xheld c b X ∗ gfly c GT sg b ∗ pfly c sp bp w ∗ (∃ f, phome c b f) ∗ mP c vm ∗ lP c vl ∗ bP c vb ∗ owns (c : Thread nD τ) arg4 fullShare va ∗ owes (c : Thread nD τ) 0 W)
      ⊢ wp frame (wpE (defs₀ (F := F)) 𝒱₀ (c : Thread nD τ) none) Set.univ (bodyW i arg4 harg4)
        fun _ => (iprop(xheld c b X ∗ (gcell c sg ∗ ∃ f, gheld c sg f) ∗ ghome c GT b ∗ phome c bp ((pdst bp).view.rep w) ∗ pfly c sp b (unlead (k0_pay10 (xblk X b) vm vl)) ∗ mP c vm ∗ lP c vl ∗ bP c (k0_pay8 (k0_pay12 (xblk X b) (lead (gblk GT b))) vb) ∗ owns (c : Thread nD τ) arg4 fullShare (k0_pay9 (k0_pay12 (xblk X b) (lead (gblk GT b))) (k0_pay13 (BitVec.ofNat 32 (i 0).val) (xblk X b) (lead (gblk GT b))) vb va) ∗ ∃ W, owes (c : Thread nD τ) 0 W) : sProp 𝕄) := by
  have n1 := mt (c1_iff i).1 (by omega)
  have n2 := mt (c2_iff i).1 (by omega)
  have h7 := (c7_iff i).2 (by omega)
  have h8 := (c8_iff i).2 (by omega)
  have n9 := mt (c9_iff i).1 (by omega)
  have h10 := (c10_iff i).2 (by omega)
  have n11 := mt (c11_iff i).1 (by omega)
  have n12 := mt (c12_iff i).1 (by omega)
  have hlt := b.isLt
  have h50 : 50 ≤ (i 0).val := by omega
  have hj : (i 0).val - 50 = b.val := by omega
  have e11 : k0_off11 i = blkOff b := by rw [o11 i h50, hj]
  have e12 : k0_off12 i = blkOff b := by rw [o12 i h50, hj]
  have e10 : k0_off10 i = slotOff sg := by rw [o10 i h50, hj, slotOff, hsg]
  have e13 : k0_off13 i = slotOff sg := by rw [o13 i h50, hj, slotOff, hsg]
  have e14 : k0_off14 i = slotOff sp := by rw [o14 i h50, hj, slotOff, hsp]
  have e16 : k0_off16 i = slotOff sp := by rw [o16 i h50, hj, slotOff, hsp]
  have hcanon1 := gsm_congr (s := sg) (by rw [o9 i h50, hj, semOff, hsg]) (k0_off9_inb i h7)
  have hcanon2 := gslot_congr e10 (k0_off10_inb i h7) (fun _ => rfl)
  have hcanon3 := gsrc_congr e11 (k0_off11_inb i h7) (fun _ => rfl)
  have hcanon4 := psm_congr (s := sp) (by rw [o15 i h50, hj, semOff, hsp]) (k0_off15_inb i h7)
  have hcanon5 := pslot_congr e16 (k0_off16_inb i h7) (fun _ => rfl)
  have hcanon6 := pdst_congr e11 (k0_off11_inb i h7) (fun _ => rfl)
  letI : ClosedOff (k0_off12 i) := ⟨blkOff b, e12⟩
  letI : ClosedOff (k0_off13 i) := ⟨slotOff sg, e13⟩
  letI : ClosedOff (k0_off14 i) := ⟨slotOff sp, e14⟩
  have ex := xblk_at X e12 (k0_off12_inb i h7)
  have eg := g_at e13 (k0_off13_inb i h7) (gblk GT b)
  have e7 : k0_off7 i = blkOff bp := by rw [o7 i (by omega), blkOff, show (i 0).val - 53 = bp.val by omega]
  have e8 : k0_off8 i = slotOff sp := by rw [o8 i h50, hj, slotOff, hsp]
  have hcanon10 := psm_congr (s := sp) (by rw [o6 i h50, hj, semOff, hsp]) (k0_off6_inb i h7 h8)
  have hcanon11 := pslot_congr e8 (k0_off8_inb i h7 h8) (fun _ => rfl)
  have hcanon12 := pdst_congr e7 (k0_off7_inb i h7 h8) (fun _ => rfl)
  unfold Idealize.ShloMosaic.owns
  iintro ⟨Hx, Hfg, Hfp, ⟨%fd, Hpd⟩, Hm, Hl, Hb, ⟨%fa, %hfa, Ha⟩, HW⟩
  unfold bodyW
  rw [cc0__manual_kernel_eq_skeleton]
  unfold cc0__manual_kernel_skel
  sl_unfold [k0_part2]
  have em : View.readAt (Elt F) mM.view (Rect.unit (s := S1x128) ![0, 0] S1x128.size inb_S1x128_S1x128_0_0).toLoadRect vm = vm := rd_small mM vm
  have el : View.readAt (Elt F) lM.view (Rect.unit (s := S1x128) ![0, 0] S1x128.size inb_S1x128_S1x128_0_0).toLoadRect vl = vl := rd_small lM vl
  have eb : View.readAt (Elt F) bM.view (Rect.unit (s := S1x128) ![0, 0] S1x128.size inb_S1x128_S1x128_0_0).toLoadRect vb = vb := rd_small bM vb
  have ea : View.readAt (Elt F) arg4.view (Rect.unit (s := S1x128) ![0, 0] S1x128.size inb_S1x128_S1x128_0_0).toLoadRect fa = va := by rw [rd_small, hfa]
  sl_exec
  sl_step
  rw [pt_b c]
  isplitl [Hx]; · iexact Hx
  isplitl [Hfg Hfg_dst]
  · isplitl [Hfg]; · iexact Hfg
    iexists _; iexact Hfg_dst
  isplitl [Hfg_src]; · iexact Hfg_src
  isplitl [Hfp_dst]; · iexact Hfp_dst
  isplitl [Hfp]
  · iapply (p_fly c sp e14 (k0_off14_inb i h7) b ((pslot sp).view.rep w) fd (k0_pay10 (xblk X b) vm vl)); iexact Hfp
  isplitl [Hm]; · iexact Hm
  isplitl [Hl]; · iexact Hl
  isplitl [Hb]; · iexact Hb
  isplitl [Ha]
  · iexists (arg4.view.writes (Elt F) fa [⟨Rect.unit (s := S1x128) ![0, 0] S1x128.size inb_S1x128_S1x128_0_0, (k0_pay9 (k0_pay12 (xblk X b) (lead (gblk GT b))) (k0_pay13 (BitVec.ofNat 32 (i 0).val) (xblk X b) (lead (gblk GT b))) vb va)⟩])
    isplitr
    · ipureintro; exact wr_small arg4 fa _ _
    iexact Ha
  iexists _; iexact HW

end Cert.KernelIdeal.Hand
-- ==== Proof.KI.RunI.lean ====
/-
  The body at the last point.
-/
module

public import proofs.«01_k».proof.Proof.KI.Flights

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg4 : Memref sig .tc .vmem S1x128 .i32) (harg4 : arg4.IsWhole)
variable (X GT : S100000x128.Idx → Elt F .f32)

/-- The last point: it takes back the last three copies of the output. -/
theorem runI (b : Fin 50) (sg : Fin 2) (sp : Fin 3) (bp : Fin 50) (b47 b48 : Fin 50) (s2 s0 : Fin 3) (hb : (i 0).val = 50 + b.val) (hsg : sg.val = b.val % 2) (hsp : sp.val = b.val % 3) (hbp : b.val = bp.val + 3) (h49 : b.val = 49) (h47 : b47.val = 47) (h48 : b48.val = 48) (hs2 : s2.val = 2) (hs0 : s0.val = 0)
    (W : Finset (SemLoc sig × Unit)) (vm vl vb : Vec F S1x128 .f32) (va : Vec F S1x128 .i32) (w w47 w48 : Vec F S2000x128 .f32) :
    iprop(xheld c b X ∗ gfly c GT sg b ∗ pfly c sp bp w ∗ pfly c s2 b47 w47 ∗ pfly c s0 b48 w48 ∗ (∃ f, phome c b f) ∗ mP c vm ∗ lP c vl ∗ bP c vb ∗ owns (c : Thread nD τ) arg4 fullShare va ∗ owes (c : Thread nD τ) 0 W)
      ⊢ wp frame (wpE (defs₀ (F := F)) 𝒱₀ (c : Thread nD τ) none) Set.univ (bodyW i arg4 harg4)
        fun _ => (iprop(xheld c b X ∗ (gcell c sg ∗ ∃ f, gheld c sg f) ∗ ghome c GT b ∗ phome c bp ((pdst bp).view.rep w) ∗ (phome c b47 ((pdst b47).view.rep w47) ∗ pcell c s2 ∗ ∃ f, pheld c s2 f) ∗ (phome c b48 ((pdst b48).view.rep w48) ∗ pcell c s0 ∗ ∃ f, pheld c s0 f) ∗ (phome c b ((pdst b).view.rep (unlead (k0_pay10 (xblk X b) vm vl))) ∗ pcell c sp ∗ ∃ f, pheld c sp f) ∗ mP c vm ∗ lP c vl ∗ bP c (k0_pay8 (k0_pay12 (xblk X b) (lead (gblk GT b))) vb) ∗ owns (c : Thread nD τ) arg4 fullShare (k0_pay9 (k0_pay12 (xblk X b) (lead (gblk GT b))) (k0_pay13 (BitVec.ofNat 32 (i 0).val) (xblk X b) (lead (gblk GT b))) vb va) ∗ ∃ W, owes (c : Thread nD τ) 0 W) : sProp 𝕄) := by
  have n1 := mt (c1_iff i).1 (by omega)
  have n2 := mt (c2_iff i).1 (by omega)
  have h7 := (c7_iff i).2 (by omega)
  have h8 := (c8_iff i).2 (by omega)
  have n9 := mt (c9_iff i).1 (by omega)
  have h10 := (c10_iff i).2 (by omega)
  have n11 := mt (c11_iff i).1 (by omega)
  have h12 := (c12_iff i).2 (by omega)
  have hlt := b.isLt
  have h50 : 50 ≤ (i 0).val := by omega
  have hj : (i 0).val - 50 = b.val := by omega
  have e11 : k0_off11 i = blkOff b := by rw [o11 i h50, hj]
  have e12 : k0_off12 i = blkOff b := by rw [o12 i h50, hj]
  have e10 : k0_off10 i = slotOff sg := by rw [o10 i h50, hj, slotOff, hsg]
  have e13 : k0_off13 i = slotOff sg := by rw [o13 i h50, hj, slotOff, hsg]
  have e14 : k0_off14 i = slotOff sp := by rw [o14 i h50, hj, slotOff, hsp]
  have e16 : k0_off16 i = slotOff sp := by rw [o16 i h50, hj, slotOff, hsp]
  have hcanon1 := gsm_congr (s := sg) (by rw [o9 i h50, hj, semOff, hsg]) (k0_off9_inb i h7)
  have hcanon2 := gslot_congr e10 (k0_off10_inb i h7) (fun _ => rfl)
  have hcanon3 := gsrc_congr e11 (k0_off11_inb i h7) (fun _ => rfl)
  have hcanon4 := psm_congr (s := sp) (by rw [o15 i h50, hj, semOff, hsp]) (k0_off15_inb i h7)
  have hcanon5 := pslot_congr e16 (k0_off16_inb i h7) (fun _ => rfl)
  have hcanon6 := pdst_congr e11 (k0_off11_inb i h7) (fun _ => rfl)
  letI : ClosedOff (k0_off12 i) := ⟨blkOff b, e12⟩
  letI : ClosedOff (k0_off13 i) := ⟨slotOff sg, e13⟩
  letI : ClosedOff (k0_off14 i) := ⟨slotOff sp, e14⟩
  have ex := xblk_at X e12 (k0_off12_inb i h7)
  have eg := g_at e13 (k0_off13_inb i h7) (gblk GT b)
  have e7 : k0_off7 i = blkOff bp := by rw [o7 i (by omega), blkOff, show (i 0).val - 53 = bp.val by omega]
  have e8 : k0_off8 i = slotOff sp := by rw [o8 i h50, hj, slotOff, hsp]
  have hcanon10 := psm_congr (s := sp) (by rw [o6 i h50, hj, semOff, hsp]) (k0_off6_inb i h7 h8)
  have hcanon11 := pslot_congr e8 (k0_off8_inb i h7 h8) (fun _ => rfl)
  have hcanon12 := pdst_congr e7 (k0_off7_inb i h7 h8) (fun _ => rfl)
  have e20 := o20 i (by omega)
  have e21 := o21 i (by omega)
  have e22 := o22 i (by omega)
  have q1 : (k0_off20 i 1#32) = semOff s2 := by rw [e20.1, semOff, hs2]
  have q2 : (k0_off20 i 2#32) = semOff s0 := by rw [e20.2, semOff, hs0]
  have q3 : (k0_off21 i 1#32) = blkOff b48 := by rw [e21.1, blkOff, h48]
  have q4 : (k0_off21 i 2#32) = blkOff b47 := by rw [e21.2, blkOff, h47]
  have q5 : (k0_off22 i 1#32) = slotOff s2 := by rw [e22.1, slotOff, hs2]
  have q6 : (k0_off22 i 2#32) = slotOff s0 := by rw [e22.2, slotOff, hs0]
  have q7 : (k0_off23 i) = semOff sp := by rw [o23 i (by omega), semOff, hsp, h49]
  have q8 : (k0_off24 i) = blkOff b := by rw [o24 i (by omega), blkOff, h49]
  have q9 : (k0_off25 i) = slotOff sp := by rw [o25 i (by omega), slotOff, hsp, h49]
  have hcanona1 := psm_congr q1 (k0_off20_inb i h7 h12 0)
  have hcanona2 := psm_congr q2 (k0_off20_inb i h7 h12 1)
  have hcanona3 := pdst_congr q3 (k0_off21_inb i h7 h12 0) (fun _ => rfl)
  have hcanona4 := pdst_congr q4 (k0_off21_inb i h7 h12 1) (fun _ => rfl)
  have hcanona5 := pslot_congr q5 (k0_off22_inb i h7 h12 0) (fun _ => rfl)
  have hcanona6 := pslot_congr q6 (k0_off22_inb i h7 h12 1) (fun _ => rfl)
  have hcanona7 := psm_congr q7 (k0_off23_inb i h7 h12)
  have hcanona8 := pdst_congr q8 (k0_off24_inb i h7 h12) (fun _ => rfl)
  have hcanona9 := pslot_congr q9 (k0_off25_inb i h7 h12) (fun _ => rfl)
  unfold Idealize.ShloMosaic.owns
  iintro ⟨Hx, Hfg, Hfp, Hf47, Hf48, ⟨%fd, Hpd⟩, Hm, Hl, Hb, ⟨%fa, %hfa, Ha⟩, HW⟩
  unfold bodyW
  rw [cc0__manual_kernel_eq_skeleton]
  unfold cc0__manual_kernel_skel
  sl_unfold [k0_part2]
  have em : View.readAt (Elt F) mM.view (Rect.unit (s := S1x128) ![0, 0] S1x128.size inb_S1x128_S1x128_0_0).toLoadRect vm = vm := rd_small mM vm
  have el : View.readAt (Elt F) lM.view (Rect.unit (s := S1x128) ![0, 0] S1x128.size inb_S1x128_S1x128_0_0).toLoadRect vl = vl := rd_small lM vl
  have eb : View.readAt (Elt F) bM.view (Rect.unit (s := S1x128) ![0, 0] S1x128.size inb_S1x128_S1x128_0_0).toLoadRect vb = vb := rd_small bM vb
  have ea : View.readAt (Elt F) arg4.view (Rect.unit (s := S1x128) ![0, 0] S1x128.size inb_S1x128_S1x128_0_0).toLoadRect fa = va := by rw [rd_small, hfa]
  sl_exec
  sl_step
  rw [pt_b c]
  isplitl [Hx]; · iexact Hx
  isplitl [Hfg Hfg_dst]
  · isplitl [Hfg]; · iexact Hfg
    iexists _; iexact Hfg_dst
  isplitl [Hfg_src]; · iexact Hfg_src
  isplitl [Hfp_dst]; · iexact Hfp_dst
  isplitl [Hf47 Hf47_dst Hf47_src]
  · isplitl [Hf47_dst]; · iexact Hf47_dst
    isplitl [Hf47]; · iexact Hf47
    iexists _; iexact Hf47_src
  isplitl [Hf48 Hf48_dst Hf48_src]
  · isplitl [Hf48_dst]; · iexact Hf48_dst
    isplitl [Hf48]; · iexact Hf48
    iexists _; iexact Hf48_src
  isplitl [Hfp Hpd Hfp_src]
  · isplitl [Hpd]
    · iapply (p_landed c sp e14 (k0_off14_inb i h7) b ((pslot sp).view.rep w) fd (k0_pay10 (xblk X b) vm vl) _ rfl); iexact Hpd
    isplitl [Hfp]; · iexact Hfp
    iexists _; iexact Hfp_src
  isplitl [Hm]; · iexact Hm
  isplitl [Hl]; · iexact Hl
  isplitl [Hb]; · iexact Hb
  isplitl [Ha]
  · iexists (arg4.view.writes (Elt F) fa [⟨Rect.unit (s := S1x128) ![0, 0] S1x128.size inb_S1x128_S1x128_0_0, (k0_pay9 (k0_pay12 (xblk X b) (lead (gblk GT b))) (k0_pay13 (BitVec.ofNat 32 (i 0).val) (xblk X b) (lead (gblk GT b))) vb va)⟩])
    isplitr
    · ipureintro; exact wr_small arg4 fa _ _
    iexact Ha
  iexists _; iexact HW

end Cert.KernelIdeal.Hand
-- ==== Proof.KI.Inv.lean ====
/-
  The invariant between two points: which copies are in flight and what each buffer holds.
-/
module

public import proofs.«01_k».proof.Proof.KI.RunA
public import proofs.«01_k».proof.Proof.KI.RunB
public import proofs.«01_k».proof.Proof.KI.RunE
public import proofs.«01_k».proof.Proof.KI.RunI

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

/-! ## Taking listed entries out of a family -/

section Takes
variable {I : Type} [DecidableEq I] {M : Type} [URA M]
/-- The listed entries of a family, then `R`. -/
def takes (f : I → sProp M) : List I → sProp M → sProp M
  | [], R => R
  | a :: l, R => iprop(f a ∗ takes f l R)

theorem takes_sdiff (f : I → sProp M) (L : List I) (s : Finset I) (hn : L.Nodup) (hs : ∀ a ∈ L, a ∈ s) :
    bigSep s f = takes f L (bigSep (s \ L.toFinset) f) := by
  induction L generalizing s with
  | nil => simp [takes]
  | cons a l ih =>
    have ha := List.nodup_cons.mp hn
    rw [BI.bigSep_erase (hs a (by simp)), takes, ih (s.erase a) ha.2 fun b hb =>
      Finset.mem_erase.mpr ⟨fun h => ha.1 (h ▸ hb), hs b (by simp [hb])⟩]
    congr 3
    ext x; simp only [Finset.mem_sdiff, Finset.mem_erase, List.toFinset_cons, Finset.mem_insert]; tauto

/-- Two families that agree off a list have the same rest. -/
theorem takes_step [Fintype I] (f f' : I → sProp M) (L : List I) (hn : L.Nodup) (h : ∀ a, a ∉ L → f a = f' a) :
    ∃ R, bigSep Finset.univ f = takes f L R ∧ bigSep Finset.univ f' = takes f' L R := by
  refine ⟨bigSep (Finset.univ \ L.toFinset) f, takes_sdiff f L _ hn fun a _ => Finset.mem_univ a, ?_⟩
  rw [takes_sdiff f' L _ hn fun a _ => Finset.mem_univ a]
  congr 1
  refine BI.bigSep_congr fun a ha => (h a ?_).symm
  simpa using ha
end Takes

/-! ## The parts -/
variable (X GT : S100000x128.Idx → Elt F .f32)

/-- Block `b` of `x` before point `t`: landed, on its way, or not yet begun. -/
def xst (t : ℕ) (b : Fin 50) : sProp 𝕄 :=
  if b.val < t then iprop(xcell c b ∗ xheld c b X ∗ xhome c X b)
  else if 0 < t ∧ b.val < t + 6 then xfly c X b
  else iprop(xcell c b ∗ (∃ f, xheld c b f) ∗ xhome c X b)
/-- Block `b` of the table in HBM: lent to its copy while that flies. -/
def ghst (t : ℕ) (b : Fin 50) : sProp 𝕄 :=
  if t = 50 + b.val ∨ (50 ≤ t ∧ t = 49 + b.val) then iprop(emp) else ghome c GT b
/-- The block whose copy flies into slot `s` of the table's ring. -/
def gnum (t : ℕ) (s : Fin 2) : ℕ := t - 50 + (s.val + (t - 50)) % 2
/-- Slot `s` of the table's ring. -/
def gsst (t : ℕ) (s : Fin 2) : sProp 𝕄 :=
  if 50 ≤ t ∧ gnum t s < 50 then gfly c GT s (Ring.bk 50 (gnum t s)) else iprop(gcell c s ∗ ∃ f, gheld c s f)
/-- Three more than the block whose copy flies out of slot `s`. -/
def pnum (t : ℕ) (s : Fin 3) : ℕ := t - 50 + (s.val + 2 * (t - 50)) % 3
/-- Slot `s` of the ring of results. -/
def psst (t : ℕ) (s : Fin 3) : sProp 𝕄 :=
  if 3 ≤ pnum t s ∧ t < 100 then pfly c s (Ring.bk 50 (pnum t s - 3)) (pblk X (Ring.bk 50 (pnum t s - 3))) else iprop(pcell c s ∗ ∃ f, pheld c s f)
/-- Block `b` of the output in HBM: not yet written, lent to its copy, or written. -/
def phst (t : ℕ) (b : Fin 50) : sProp 𝕄 :=
  if t ≤ 50 + b.val then iprop(∃ f, phome c b f)
  else if t = 100 ∨ 53 + b.val < t then phome c b ((pdst b).view.rep (pblk X b)) else iprop(emp)
/-- The running maximum, -/
def mst (t : ℕ) : sProp 𝕄 := if t = 0 then iprop(∃ f, mP c f) else mP c (mAt X (min t 50))
/-- the running sum, -/
def lst (t : ℕ) : sProp 𝕄 := if t = 0 then iprop(∃ f, lP c f) else lP c (lAt X (min t 50))
/-- and the running best score. -/
def bst (t : ℕ) : sProp 𝕄 := if t ≤ 50 then iprop(∃ f, bP c f) else bP c (bvAt X GT (t - 50))

/-- The invariant before point `t`. -/
def Inv (t : ℕ) : sProp 𝕄 :=
  iprop(bigSep Finset.univ (xst c X t) ∗ bigSep Finset.univ (gsst c GT t) ∗ bigSep Finset.univ (ghst c GT t)
    ∗ bigSep Finset.univ (psst c X t) ∗ bigSep Finset.univ (phst c X t) ∗ mst c X t ∗ lst c X t ∗ bst c X GT t)

variable {c} {X} {GT}
theorem xst_landed {t : ℕ} {b : Fin 50} (h : b.val < t) : xst c X t b = iprop(xcell c b ∗ xheld c b X ∗ xhome c X b) := by
  unfold xst; rw [if_pos h]
theorem xst_fly {t : ℕ} {b : Fin 50} (h : t ≤ b.val) (h' : 0 < t ∧ b.val < t + 6) : xst c X t b = xfly c X b := by
  unfold xst; rw [if_neg (by omega), if_pos h']
theorem xst_fresh {t : ℕ} {b : Fin 50} (h : t ≤ b.val) (h' : t = 0 ∨ t + 6 ≤ b.val) :
    xst c X t b = iprop(xcell c b ∗ (∃ f, xheld c b f) ∗ xhome c X b) := by
  unfold xst; rw [if_neg (by omega), if_neg (by omega)]
theorem ghst_lent {t : ℕ} {b : Fin 50} (h : t = 50 + b.val ∨ (50 ≤ t ∧ t = 49 + b.val)) : ghst c GT t b = iprop(emp) := by
  unfold ghst; rw [if_pos h]
theorem ghst_home {t : ℕ} {b : Fin 50} (h : t ≠ 50 + b.val) (h' : t < 50 ∨ t ≠ 49 + b.val) : ghst c GT t b = ghome c GT b := by
  unfold ghst; rw [if_neg (by omega)]
theorem gsst_fly {t : ℕ} {s : Fin 2} (b : Fin 50) (h : 50 ≤ t) (h' : gnum t s = b.val) : gsst c GT t s = gfly c GT s b := by
  unfold gsst; rw [if_pos ⟨h, by omega⟩, show Ring.bk 50 (gnum t s) = b from Fin.ext (by rw [Ring.bk_val (by omega), h'])]
theorem gsst_free {t : ℕ} {s : Fin 2} (h : t < 50 ∨ 50 ≤ gnum t s) : gsst c GT t s = iprop(gcell c s ∗ ∃ f, gheld c s f) := by
  unfold gsst; rw [if_neg (by omega)]
theorem psst_fly {t : ℕ} {s : Fin 3} (b : Fin 50) (h : t < 100) (h' : pnum t s = b.val + 3) : psst c X t s = pfly c s b (pblk X b) := by
  have e : Ring.bk 50 (pnum t s - 3) = b := Fin.ext (by rw [Ring.bk_val (by omega), h']; omega)
  unfold psst; rw [if_pos ⟨by omega, h⟩, e]
theorem psst_free {t : ℕ} {s : Fin 3} (h : t = 100 ∨ pnum t s < 3) : psst c X t s = iprop(pcell c s ∗ ∃ f, pheld c s f) := by
  unfold psst; rw [if_neg (by omega)]
theorem phst_fresh {t : ℕ} {b : Fin 50} (h : t ≤ 50 + b.val) : phst c X t b = iprop(∃ f, phome c b f) := by
  unfold phst; rw [if_pos h]
theorem phst_lent {t : ℕ} {b : Fin 50} (h : 50 + b.val < t) (h' : t ≠ 100) (h'' : t ≤ 53 + b.val) : phst c X t b = iprop(emp) := by
  unfold phst; rw [if_neg (by omega), if_neg (by omega)]
theorem phst_done {t : ℕ} {b : Fin 50} (h : 50 + b.val < t) (h' : t = 100 ∨ 53 + b.val < t) : phst c X t b = phome c b ((pdst b).view.rep (pblk X b)) := by
  unfold phst; rw [if_neg (by omega), if_pos h']
theorem mst_pos {t : ℕ} (h : t ≠ 0) : mst c X t = mP c (mAt X (min t 50)) := by unfold mst; rw [if_neg h]
theorem lst_pos {t : ℕ} (h : t ≠ 0) : lst c X t = lP c (lAt X (min t 50)) := by unfold lst; rw [if_neg h]
theorem bst_low {t : ℕ} (h : t ≤ 50) : bst c X GT t = iprop(∃ f, bP c f) := by unfold bst; rw [if_pos h]
theorem bst_high {t : ℕ} (h : 50 < t) : bst c X GT t = bP c (bvAt X GT (t - 50)) := by unfold bst; rw [if_neg (by omega)]
theorem mAt_succ {n : ℕ} (b : Fin 50) (h : b.val = n) (h0 : n ≠ 0) : mAt X (n + 1) = k0_pay6 (xblk X b) (mAt X n) := by
  rw [mAt, if_neg h0, show Ring.bk 50 n = b from Fin.ext (by rw [Ring.bk_val (by omega), h])]
theorem lAt_succ {n : ℕ} (b : Fin 50) (h : b.val = n) (h0 : n ≠ 0) : lAt X (n + 1) = k0_pay5 (xblk X b) (mAt X n) (lAt X n) := by
  rw [lAt, if_neg h0, show Ring.bk 50 n = b from Fin.ext (by rw [Ring.bk_val (by omega), h])]
theorem bvAt_succ {n : ℕ} (b : Fin 50) (h : b.val = n) (h0 : n ≠ 0) :
    bvAt X GT (n + 1) = k0_pay8 (k0_pay12 (xblk X b) (lead (gblk GT b))) (bvAt X GT n) := by
  rw [bvAt, if_neg h0, show Ring.bk 50 n = b from Fin.ext (by rw [Ring.bk_val (by omega), h])]
theorem aAt_succ {n : ℕ} (b : Fin 50) (h : b.val = n) (h0 : n ≠ 0) :
    aAt X GT (n + 1) = k0_pay9 (k0_pay12 (xblk X b) (lead (gblk GT b))) (k0_pay13 (BitVec.ofNat 32 (50 + n)) (xblk X b) (lead (gblk GT b))) (bvAt X GT n) (aAt X GT n) := by
  rw [aAt, if_neg h0, show Ring.bk 50 n = b from Fin.ext (by rw [Ring.bk_val (by omega), h])]

/-! ## What a point leaves as it was -/
variable {t : ℕ}
theorem gsst_low (h : t < 49) : gsst (F := F) c GT (t + 1) = gsst c GT t := by
  funext s; rw [gsst_free (by omega), gsst_free (by omega)]
theorem ghst_low (h : t < 49) : ghst (F := F) c GT (t + 1) = ghst c GT t := by
  funext b; rw [ghst_home (by omega) (by omega), ghst_home (by omega) (by omega)]
theorem psst_low (h : t < 50) : psst (F := F) c X (t + 1) = psst c X t := by
  funext s; rw [psst_free (by unfold pnum; omega), psst_free (by unfold pnum; omega)]
theorem phst_low (h : t < 50) : phst (F := F) c X (t + 1) = phst c X t := by
  funext b; rw [phst_fresh (by omega), phst_fresh (by omega)]
theorem xst_high (h : 50 ≤ t) : xst (F := F) c X (t + 1) = xst c X t := by
  funext b; rw [xst_landed (by omega), xst_landed (by omega)]
theorem bst_same (h : t < 50) : bst (F := F) c X GT (t + 1) = bst c X GT t := by
  rw [bst_low (by omega), bst_low (by omega)]
theorem mst_high (h : 50 ≤ t) : mst (F := F) c X t = mP c (mAt X 50) := by rw [mst_pos (by omega), show min t 50 = 50 by omega]
theorem lst_high (h : 50 ≤ t) : lst (F := F) c X t = lP c (lAt X 50) := by rw [lst_pos (by omega), show min t 50 = 50 by omega]

end Cert.KernelIdeal.Hand
-- ==== Proof.KI.StepA.lean ====
/-
  The body carries the invariant over a point: the first phase.
-/
module

public import proofs.«01_k».proof.Proof.KI.Inv

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg4 : Memref sig .tc .vmem S1x128 .i32) (harg4 : arg4.IsWhole)
variable (X GT : S100000x128.Idx → Elt F .f32)

variable {c} {i} {arg4} {harg4} {X} {GT}

/-- The first point. -/
theorem stepA (hi : (i 0).val = 0) (W : Finset (SemLoc sig × Unit)) :
    iprop(Inv c X GT (0) ∗ owes (c : Thread nD τ) 0 W)
      ⊢ wp frame (wpE (defs₀ (F := F)) 𝒱₀ (c : Thread nD τ) none) Set.univ (bodyW i arg4 harg4)
        fun _ => (iprop(Inv c X GT (0 + 1) ∗ ∃ W, owes (c : Thread nD τ) 0 W) : sProp 𝕄) := by
  obtain ⟨Rx, eRx, eRx'⟩ := takes_step (xst c X (0)) (xst c X (0 + 1)) [0, 1, 2, 3, 4, 5, 6] (by decide) (by
    intro a ha
    simp only [List.mem_cons, List.not_mem_nil, or_false, not_or, Fin.ext_iff] at ha
    by_cases h : a.val < 7
    · exact absurd h (by simp only [show ((0 : Fin 50) : ℕ) = 0 from rfl, show ((1 : Fin 50) : ℕ) = 1 from rfl, show ((2 : Fin 50) : ℕ) = 2 from rfl, show ((3 : Fin 50) : ℕ) = 3 from rfl, show ((4 : Fin 50) : ℕ) = 4 from rfl, show ((5 : Fin 50) : ℕ) = 5 from rfl, show ((6 : Fin 50) : ℕ) = 6 from rfl] at ha; omega)
    · rw [xst_fresh (by omega) (by omega), xst_fresh (by omega) (by omega)]
)
  unfold Inv
  rw [eRx, eRx']
  rw [gsst_low (c := c) (GT := GT) (t := 0) (by omega)]
  rw [ghst_low (c := c) (GT := GT) (t := 0) (by omega)]
  rw [psst_low (c := c) (X := X) (t := 0) (by omega)]
  rw [phst_low (c := c) (X := X) (t := 0) (by omega)]
  rw [bst_same (c := c) (X := X) (GT := GT) (t := 0) (by omega)]
  simp only [takes]
  rw [xst_fresh (c := c) (X := X) (t := 0) (b := 0) (by decide) (by decide)]
  rw [xst_fresh (c := c) (X := X) (t := 0) (b := 1) (by decide) (by decide)]
  rw [xst_fresh (c := c) (X := X) (t := 0) (b := 2) (by decide) (by decide)]
  rw [xst_fresh (c := c) (X := X) (t := 0) (b := 3) (by decide) (by decide)]
  rw [xst_fresh (c := c) (X := X) (t := 0) (b := 4) (by decide) (by decide)]
  rw [xst_fresh (c := c) (X := X) (t := 0) (b := 5) (by decide) (by decide)]
  rw [xst_fresh (c := c) (X := X) (t := 0) (b := 6) (by decide) (by decide)]
  rw [xst_landed (c := c) (X := X) (t := 0 + 1) (b := 0) (by decide)]
  rw [xst_fly (c := c) (X := X) (t := 0 + 1) (b := 1) (by decide) (by decide)]
  rw [xst_fly (c := c) (X := X) (t := 0 + 1) (b := 2) (by decide) (by decide)]
  rw [xst_fly (c := c) (X := X) (t := 0 + 1) (b := 3) (by decide) (by decide)]
  rw [xst_fly (c := c) (X := X) (t := 0 + 1) (b := 4) (by decide) (by decide)]
  rw [xst_fly (c := c) (X := X) (t := 0 + 1) (b := 5) (by decide) (by decide)]
  rw [xst_fly (c := c) (X := X) (t := 0 + 1) (b := 6) (by decide) (by decide)]
  rw [show mst c X 0 = iprop(∃ f, mP c f) from if_pos rfl]
  rw [show lst c X 0 = iprop(∃ f, lP c f) from if_pos rfl]
  rw [show mst c X (0 + 1) = mP c (k0_pay2 (xblk X 0)) from rfl]
  rw [show lst c X (0 + 1) = lP c (k0_pay3 (xblk X 0)) from rfl]
  iintro ⟨⟨⟨Hx0, Hx1, Hx2, Hx3, Hx4, Hx5, Hx6, Rx⟩, Hgs, Hgh, Hps, Hph, ⟨%fm, Hm⟩, ⟨%fl, Hl⟩, Hb⟩, HW⟩
  iapply (wp_wand_r frame _ Set.univ)
  isplitl [Hx0 Hx1 Hx2 Hx3 Hx4 Hx5 Hx6 Hm Hl HW]
  · iapply (runA (c := c) (i := i) (arg4 := arg4) (harg4 := harg4) (X := X) hi W fm fl)
    isplitl [Hx0]
    · iexact Hx0
    isplitl [Hx1]
    · iexact Hx1
    isplitl [Hx2]
    · iexact Hx2
    isplitl [Hx3]
    · iexact Hx3
    isplitl [Hx4]
    · iexact Hx4
    isplitl [Hx5]
    · iexact Hx5
    isplitl [Hx6]
    · iexact Hx6
    isplitl [Hm]
    · iexact Hm
    isplitl [Hl]
    · iexact Hl
    iexact HW
  iintro %_ ⟨Hx0, Hx1, Hx2, Hx3, Hx4, Hx5, Hx6, Hm, Hl, HW⟩
  isplitl [Hx0 Hx1 Hx2 Hx3 Hx4 Hx5 Hx6 Rx Hgs Hgh Hps Hph Hm Hl Hb]
  · isplitl [Hx0 Hx1 Hx2 Hx3 Hx4 Hx5 Hx6 Rx]
    · isplitl [Hx0]
      · iexact Hx0
      isplitl [Hx1]
      · iexact Hx1
      isplitl [Hx2]
      · iexact Hx2
      isplitl [Hx3]
      · iexact Hx3
      isplitl [Hx4]
      · iexact Hx4
      isplitl [Hx5]
      · iexact Hx5
      isplitl [Hx6]
      · iexact Hx6
      iexact Rx
    isplitl [Hgs]
    · iexact Hgs
    isplitl [Hgh]
    · iexact Hgh
    isplitl [Hps]
    · iexact Hps
    isplitl [Hph]
    · iexact Hph
    isplitl [Hm]
    · iexact Hm
    isplitl [Hl]
    · iexact Hl
    iexact Hb
  iexact HW

theorem mst_at (b : Fin 50) (h : 0 < b.val) : mst (F := F) c X b.val = mP c (mAt X b.val) := by
  have := b.isLt
  rw [mst_pos (by omega), show min b.val 50 = b.val by omega]
theorem lst_at (b : Fin 50) (h : 0 < b.val) : lst (F := F) c X b.val = lP c (lAt X b.val) := by
  have := b.isLt
  rw [lst_pos (by omega), show min b.val 50 = b.val by omega]
theorem mst_next (b : Fin 50) (h : 0 < b.val) : mst (F := F) c X (b.val + 1) = mP c (k0_pay6 (xblk X b) (mAt X b.val)) := by
  have := b.isLt
  rw [mst_pos (by omega), show min (b.val + 1) 50 = b.val + 1 by omega, mAt_succ b rfl (by omega)]
theorem lst_next (b : Fin 50) (h : 0 < b.val) : lst (F := F) c X (b.val + 1) = lP c (k0_pay5 (xblk X b) (mAt X b.val) (lAt X b.val)) := by
  have := b.isLt
  rw [lst_pos (by omega), show min (b.val + 1) 50 = b.val + 1 by omega, lAt_succ b rfl (by omega)]

/-- A point that starts a further copy of `x`. -/
theorem stepB (b b' : Fin 50) (hi : (i 0).val = b.val) (hb' : b'.val = b.val + 6) (h0 : 0 < b.val) (W : Finset (SemLoc sig × Unit)) :
    iprop(Inv c X GT (b.val) ∗ owes (c : Thread nD τ) 0 W)
      ⊢ wp frame (wpE (defs₀ (F := F)) 𝒱₀ (c : Thread nD τ) none) Set.univ (bodyW i arg4 harg4)
        fun _ => (iprop(Inv c X GT (b.val + 1) ∗ ∃ W, owes (c : Thread nD τ) 0 W) : sProp 𝕄) := by
  obtain ⟨Rx, eRx, eRx'⟩ := takes_step (xst c X (b.val)) (xst c X (b.val + 1)) [b, b'] (by simp [Fin.ext_iff]; omega) (by
    intro a ha
    simp only [List.mem_cons, List.not_mem_nil, or_false, not_or, Fin.ext_iff] at ha
    have := a.isLt
    by_cases h : a.val < b.val
    · rw [xst_landed h, xst_landed (by omega)]
    by_cases h' : a.val < b.val + 6
    · rw [xst_fly (by omega) (by omega), xst_fly (by omega) (by omega)]
    · rw [xst_fresh (by omega) (by omega), xst_fresh (by omega) (by omega)]
)
  unfold Inv
  rw [eRx, eRx']
  rw [gsst_low (c := c) (GT := GT) (t := b.val) (by omega)]
  rw [ghst_low (c := c) (GT := GT) (t := b.val) (by omega)]
  rw [psst_low (c := c) (X := X) (t := b.val) (by omega)]
  rw [phst_low (c := c) (X := X) (t := b.val) (by omega)]
  rw [bst_same (c := c) (X := X) (GT := GT) (t := b.val) (by omega)]
  simp only [takes]
  rw [xst_fly (c := c) (X := X) (t := b.val) (b := b) (by omega) (by omega)]
  rw [xst_fresh (c := c) (X := X) (t := b.val) (b := b') (by omega) (by omega)]
  rw [xst_landed (c := c) (X := X) (t := b.val + 1) (b := b) (by omega)]
  rw [xst_fly (c := c) (X := X) (t := b.val + 1) (b := b') (by omega) (by omega)]
  rw [mst_at (c := c) (X := X) b (by omega)]
  rw [lst_at (c := c) (X := X) b (by omega)]
  rw [mst_next (c := c) (X := X) b (by omega)]
  rw [lst_next (c := c) (X := X) b (by omega)]
  iintro ⟨⟨⟨Hx, Hy, Rx⟩, Hgs, Hgh, Hps, Hph, Hm, Hl, Hb⟩, HW⟩
  iapply (wp_wand_r frame _ Set.univ)
  isplitl [Hx Hy Hm Hl HW]
  · iapply (runB (c := c) (i := i) (arg4 := arg4) (harg4 := harg4) (X := X) b b' hi hb' h0 W _ _)
    isplitl [Hx]
    · iexact Hx
    isplitl [Hy]
    · iexact Hy
    isplitl [Hm]
    · iexact Hm
    isplitl [Hl]
    · iexact Hl
    iexact HW
  iintro %_ ⟨Hx, Hy, Hm, Hl, HW⟩
  isplitl [Hx Hy Rx Hgs Hgh Hps Hph Hm Hl Hb]
  · isplitl [Hx Hy Rx]
    · isplitl [Hx]
      · iexact Hx
      isplitl [Hy]
      · iexact Hy
      iexact Rx
    isplitl [Hgs]
    · iexact Hgs
    isplitl [Hgh]
    · iexact Hgh
    isplitl [Hps]
    · iexact Hps
    isplitl [Hph]
    · iexact Hph
    isplitl [Hm]
    · iexact Hm
    isplitl [Hl]
    · iexact Hl
    iexact Hb
  iexact HW

/-- A later point of the first phase. -/
theorem stepC (b : Fin 50) (hi : (i 0).val = b.val) (h0 : 44 ≤ b.val) (h49 : b.val < 49) (W : Finset (SemLoc sig × Unit)) :
    iprop(Inv c X GT (b.val) ∗ owes (c : Thread nD τ) 0 W)
      ⊢ wp frame (wpE (defs₀ (F := F)) 𝒱₀ (c : Thread nD τ) none) Set.univ (bodyW i arg4 harg4)
        fun _ => (iprop(Inv c X GT (b.val + 1) ∗ ∃ W, owes (c : Thread nD τ) 0 W) : sProp 𝕄) := by
  obtain ⟨Rx, eRx, eRx'⟩ := takes_step (xst c X (b.val)) (xst c X (b.val + 1)) [b] (by simp) (by
    intro a ha
    simp only [List.mem_cons, List.not_mem_nil, or_false, not_or, Fin.ext_iff] at ha
    have := a.isLt
    by_cases h : a.val < b.val
    · rw [xst_landed h, xst_landed (by omega)]
    · rw [xst_fly (by omega) (by omega), xst_fly (by omega) (by omega)]
)
  unfold Inv
  rw [eRx, eRx']
  rw [gsst_low (c := c) (GT := GT) (t := b.val) (by omega)]
  rw [ghst_low (c := c) (GT := GT) (t := b.val) (by omega)]
  rw [psst_low (c := c) (X := X) (t := b.val) (by omega)]
  rw [phst_low (c := c) (X := X) (t := b.val) (by omega)]
  rw [bst_same (c := c) (X := X) (GT := GT) (t := b.val) (by omega)]
  simp only [takes]
  rw [xst_fly (c := c) (X := X) (t := b.val) (b := b) (by omega) (by omega)]
  rw [xst_landed (c := c) (X := X) (t := b.val + 1) (b := b) (by omega)]
  rw [mst_at (c := c) (X := X) b (by omega)]
  rw [lst_at (c := c) (X := X) b (by omega)]
  rw [mst_next (c := c) (X := X) b (by omega)]
  rw [lst_next (c := c) (X := X) b (by omega)]
  iintro ⟨⟨⟨Hx, Rx⟩, Hgs, Hgh, Hps, Hph, Hm, Hl, Hb⟩, HW⟩
  iapply (wp_wand_r frame _ Set.univ)
  isplitl [Hx Hm Hl HW]
  · iapply (runC (c := c) (i := i) (arg4 := arg4) (harg4 := harg4) (X := X) b hi h0 h49 W _ _)
    isplitl [Hx]
    · iexact Hx
    isplitl [Hm]
    · iexact Hm
    isplitl [Hl]
    · iexact Hl
    iexact HW
  iintro %_ ⟨Hx, Hm, Hl, HW⟩
  isplitl [Hx Rx Hgs Hgh Hps Hph Hm Hl Hb]
  · isplitl [Hx Rx]
    · isplitl [Hx]
      · iexact Hx
      iexact Rx
    isplitl [Hgs]
    · iexact Hgs
    isplitl [Hgh]
    · iexact Hgh
    isplitl [Hps]
    · iexact Hps
    isplitl [Hph]
    · iexact Hph
    isplitl [Hm]
    · iexact Hm
    isplitl [Hl]
    · iexact Hl
    iexact Hb
  iexact HW

/-- The last point of the first phase. -/
theorem stepD (b : Fin 50) (hi : (i 0).val = b.val) (h49 : b.val = 49) (W : Finset (SemLoc sig × Unit)) :
    iprop(Inv c X GT (b.val) ∗ owes (c : Thread nD τ) 0 W)
      ⊢ wp frame (wpE (defs₀ (F := F)) 𝒱₀ (c : Thread nD τ) none) Set.univ (bodyW i arg4 harg4)
        fun _ => (iprop(Inv c X GT (b.val + 1) ∗ ∃ W, owes (c : Thread nD τ) 0 W) : sProp 𝕄) := by
  obtain ⟨Rx, eRx, eRx'⟩ := takes_step (xst c X (b.val)) (xst c X (b.val + 1)) [b] (by simp) (by
    intro a ha
    simp only [List.mem_cons, List.not_mem_nil, or_false, not_or, Fin.ext_iff] at ha
    have := a.isLt
    by_cases h : a.val < b.val
    · rw [xst_landed h, xst_landed (by omega)]
    · rw [xst_fly (by omega) (by omega), xst_fly (by omega) (by omega)]
)
  obtain ⟨Rs, eRs, eRs'⟩ := takes_step (gsst c GT (b.val)) (gsst c GT (b.val + 1)) [0, 1] (by decide) (by
    intro a ha
    simp only [List.mem_cons, List.not_mem_nil, or_false, not_or, Fin.ext_iff] at ha
    exact absurd ha (by fin_cases a <;> simp)
)
  obtain ⟨Rh, eRh, eRh'⟩ := takes_step (ghst c GT (b.val)) (ghst c GT (b.val + 1)) [0, 1] (by decide) (by
    intro a ha
    simp only [List.mem_cons, List.not_mem_nil, or_false, not_or, Fin.ext_iff] at ha
    have := a.isLt
    simp only [Fin.val_zero, Fin.val_one, show ((1 : Fin 50) : ℕ) = 1 from rfl] at ha
    rw [ghst_home (by omega) (by omega), ghst_home (by omega) (by omega)]
)
  unfold Inv
  rw [eRx, eRx']
  rw [eRs, eRs']
  rw [eRh, eRh']
  rw [psst_low (c := c) (X := X) (t := b.val) (by omega)]
  rw [phst_low (c := c) (X := X) (t := b.val) (by omega)]
  rw [bst_same (c := c) (X := X) (GT := GT) (t := b.val) (by omega)]
  simp only [takes]
  rw [xst_fly (c := c) (X := X) (t := b.val) (b := b) (by omega) (by omega)]
  rw [xst_landed (c := c) (X := X) (t := b.val + 1) (b := b) (by omega)]
  rw [gsst_free (c := c) (GT := GT) (t := b.val) (s := 0) (by omega)]
  rw [gsst_free (c := c) (GT := GT) (t := b.val) (s := 1) (by omega)]
  rw [gsst_fly (c := c) (GT := GT) (t := b.val + 1) (s := 0) 0 (by omega) (by rw [h49]; rfl)]
  rw [gsst_fly (c := c) (GT := GT) (t := b.val + 1) (s := 1) 1 (by omega) (by rw [h49]; rfl)]
  rw [ghst_home (c := c) (GT := GT) (t := b.val) (b := 0) (by omega) (by omega)]
  rw [ghst_home (c := c) (GT := GT) (t := b.val) (b := 1) (by omega) (by omega)]
  rw [ghst_lent (c := c) (GT := GT) (t := b.val + 1) (b := 0) (by rw [h49]; decide)]
  rw [ghst_lent (c := c) (GT := GT) (t := b.val + 1) (b := 1) (by rw [h49]; decide)]
  rw [mst_at (c := c) (X := X) b (by omega)]
  rw [lst_at (c := c) (X := X) b (by omega)]
  rw [mst_next (c := c) (X := X) b (by omega)]
  rw [lst_next (c := c) (X := X) b (by omega)]
  iintro ⟨⟨⟨Hx, Rx⟩, ⟨⟨Hc0, Hs0⟩, ⟨Hc1, Hs1⟩, Rs⟩, ⟨Hh0, Hh1, Rh⟩, Hps, Hph, Hm, Hl, Hb⟩, HW⟩
  iapply (wp_wand_r frame _ Set.univ)
  isplitl [Hx Hc0 Hs0 Hh0 Hc1 Hs1 Hh1 Hm Hl HW]
  · iapply (runD (c := c) (i := i) (arg4 := arg4) (harg4 := harg4) (X := X) (GT := GT) b hi h49 W _ _)
    isplitl [Hx]
    · iexact Hx
    isplitl [Hc0 Hs0 Hh0]
    · isplitl [Hc0]
      · iexact Hc0
      isplitl [Hs0]
      · iexact Hs0
      iexact Hh0
    isplitl [Hc1 Hs1 Hh1]
    · isplitl [Hc1]
      · iexact Hc1
      isplitl [Hs1]
      · iexact Hs1
      iexact Hh1
    isplitl [Hm]
    · iexact Hm
    isplitl [Hl]
    · iexact Hl
    iexact HW
  iintro %_ ⟨Hx, Hf0, Hf1, Hm, Hl, HW⟩
  isplitl [Hx Rx Hf0 Hf1 Rs Rh Hps Hph Hm Hl Hb]
  · isplitl [Hx Rx]
    · isplitl [Hx]
      · iexact Hx
      iexact Rx
    isplitl [Hf0 Hf1 Rs]
    · isplitl [Hf0]
      · iexact Hf0
      isplitl [Hf1]
      · iexact Hf1
      iexact Rs
    isplitl [Rh]
    · isplitl []
      · iempintro
      isplitl []
      · iempintro
      iexact Rh
    isplitl [Hps]
    · iexact Hps
    isplitl [Hph]
    · iexact Hph
    isplitl [Hm]
    · iexact Hm
    isplitl [Hl]
    · iexact Hl
    iexact Hb
  iexact HW

end Cert.KernelIdeal.Hand
-- ==== Proof.KI.StepE.lean ====
/-
  The body carries the invariant over a point: the second phase.
-/
module

public import proofs.«01_k».proof.Proof.KI.Inv

@[expose] public section

set_option maxHeartbeats 2000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (i : grid0.Coords) (arg4 : Memref sig .tc .vmem S1x128 .i32) (harg4 : arg4.IsWhole)
variable (X GT : S100000x128.Idx → Elt F .f32)

variable {c} {i} {arg4} {harg4} {X} {GT}

theorem gnum_same {b : Fin 50} {a : Fin 2} (h : a.val ≠ b.val % 2) : gsst (F := F) c GT (50 + b.val) a = gsst c GT (50 + b.val + 1) a := by
  have e : gnum (50 + b.val + 1) a = gnum (50 + b.val) a := by unfold gnum; omega
  unfold gsst
  rw [e]
  by_cases h : gnum (50 + b.val) a < 50
  · rw [if_pos ⟨by omega, h⟩, if_pos ⟨by omega, h⟩]
  · rw [if_neg fun w => h w.2, if_neg fun w => h w.2]
theorem pnum_same {b : Fin 50} {a : Fin 3} (h : a.val ≠ b.val % 3) (h9 : b.val < 49) : psst (F := F) c X (50 + b.val) a = psst c X (50 + b.val + 1) a := by
  have e : pnum (50 + b.val + 1) a = pnum (50 + b.val) a := by unfold pnum; omega
  unfold psst
  rw [e]
  by_cases h : 3 ≤ pnum (50 + b.val) a
  · rw [if_pos ⟨h, by omega⟩, if_pos ⟨h, by omega⟩]
  · rw [if_neg fun w => h w.1, if_neg fun w => h w.1]
theorem ghst_same {b a : Fin 50} (h : a.val ≠ b.val) (h' : a.val ≠ b.val + 2) : ghst (F := F) c GT (50 + b.val) a = ghst c GT (50 + b.val + 1) a := by
  by_cases h'' : a.val = b.val + 1
  · rw [ghst_lent (by omega), ghst_lent (by omega)]
  · rw [ghst_home (by omega) (by omega), ghst_home (by omega) (by omega)]
theorem phst_same {b a : Fin 50} (h : a.val ≠ b.val) (h' : a.val + 3 ≠ b.val) (h9 : b.val < 49) :
    phst (F := F) c X (50 + b.val) a = phst c X (50 + b.val + 1) a := by
  by_cases h0 : b.val < a.val
  · rw [phst_fresh (by omega), phst_fresh (by omega)]
  by_cases h1 : b.val < a.val + 3
  · rw [phst_lent (by omega) (by omega) (by omega), phst_lent (by omega) (by omega) (by omega)]
  · rw [phst_done (by omega) (by omega), phst_done (by omega) (by omega)]
theorem bvAt_first (b : Fin 50) (h : b.val = 0) : bvAt X GT (50 + b.val + 1 - 50) = k0_pay14 (xblk X b) (lead (gblk GT b)) := by
  rw [show b = 0 from Fin.ext h]; rfl
theorem aAt_first (b : Fin 50) (h : b.val = 0) : aAt X GT (b.val + 1) = k0_pay13 (BitVec.ofNat 32 (50 + b.val)) (xblk X b) (lead (gblk GT b)) := by
  rw [show b = 0 from Fin.ext h]; rfl
theorem bst_next (b : Fin 50) (h : 0 < b.val) :
    bst (F := F) c X GT (50 + b.val + 1) = bP c (k0_pay8 (k0_pay12 (xblk X b) (lead (gblk GT b))) (bvAt X GT b.val)) := by
  rw [bst_high (by omega), show 50 + b.val + 1 - 50 = b.val + 1 by omega, bvAt_succ b rfl (by omega)]
theorem bst_at (b : Fin 50) (h : 0 < b.val) : bst (F := F) c X GT (50 + b.val) = bP c (bvAt X GT b.val) := by
  rw [bst_high (by omega), show 50 + b.val - 50 = b.val by omega]

/-- The first point of the phase. -/
theorem stepE (b : Fin 50) (sg : Fin 2) (sp : Fin 3) (b2 : Fin 50) (hi : (i 0).val = 50 + b.val) (hsg : sg.val = b.val % 2) (hsp : sp.val = b.val % 3) (hb2 : b2.val = b.val + 2) (h0 : b.val = 0) (W : Finset (SemLoc sig × Unit)) (va : Vec F S1x128 .i32) :
    iprop(Inv c X GT (50 + b.val) ∗ owns (c : Thread nD τ) arg4 fullShare va ∗ owes (c : Thread nD τ) 0 W)
      ⊢ wp frame (wpE (defs₀ (F := F)) 𝒱₀ (c : Thread nD τ) none) Set.univ (bodyW i arg4 harg4)
        fun _ => (iprop(Inv c X GT (50 + b.val + 1) ∗ owns (c : Thread nD τ) arg4 fullShare (aAt X GT (b.val + 1)) ∗ ∃ W, owes (c : Thread nD τ) 0 W) : sProp 𝕄) := by
  obtain ⟨Rx, eRx, eRx'⟩ := takes_step (xst c X (50 + b.val)) (xst c X (50 + b.val + 1)) [b] (by simp) (by
    intro a ha
    simp only [List.mem_cons, List.not_mem_nil, or_false, not_or, Fin.ext_iff] at ha
    have hlt := a.isLt
    rw [xst_landed (by omega), xst_landed (by omega)]
)
  obtain ⟨Rs, eRs, eRs'⟩ := takes_step (gsst c GT (50 + b.val)) (gsst c GT (50 + b.val + 1)) [sg] (by simp) (by
    intro a ha
    simp only [List.mem_cons, List.not_mem_nil, or_false, not_or, Fin.ext_iff] at ha
    have hlt := a.isLt
    exact gnum_same (by omega)
)
  obtain ⟨Rh, eRh, eRh'⟩ := takes_step (ghst c GT (50 + b.val)) (ghst c GT (50 + b.val + 1)) [b, b2] (by simp [Fin.ext_iff]; omega) (by
    intro a ha
    simp only [List.mem_cons, List.not_mem_nil, or_false, not_or, Fin.ext_iff] at ha
    have hlt := a.isLt
    exact ghst_same (by omega) (by omega)
)
  obtain ⟨Rp, eRp, eRp'⟩ := takes_step (psst c X (50 + b.val)) (psst c X (50 + b.val + 1)) [sp] (by simp) (by
    intro a ha
    simp only [List.mem_cons, List.not_mem_nil, or_false, not_or, Fin.ext_iff] at ha
    have hlt := a.isLt
    exact pnum_same (by omega) (by omega)
)
  obtain ⟨Ro, eRo, eRo'⟩ := takes_step (phst c X (50 + b.val)) (phst c X (50 + b.val + 1)) [b] (by simp) (by
    intro a ha
    simp only [List.mem_cons, List.not_mem_nil, or_false, not_or, Fin.ext_iff] at ha
    have hlt := a.isLt
    exact phst_same (by omega) (by omega) (by omega)
)
  unfold Inv
  rw [eRx, eRx']
  rw [eRs, eRs']
  rw [eRh, eRh']
  rw [eRp, eRp']
  rw [eRo, eRo']
  simp only [takes]
  rw [xst_landed (c := c) (X := X) (t := 50 + b.val) (b := b) (by omega)]
  rw [xst_landed (c := c) (X := X) (t := 50 + b.val + 1) (b := b) (by omega)]
  rw [gsst_fly (c := c) (GT := GT) (t := 50 + b.val) (s := sg) b (by omega) (by unfold gnum; omega)]
  rw [gsst_fly (c := c) (GT := GT) (t := 50 + b.val + 1) (s := sg) b2 (by omega) (by unfold gnum; omega)]
  rw [ghst_lent (c := c) (GT := GT) (t := 50 + b.val) (b := b) (by omega)]
  rw [ghst_home (c := c) (GT := GT) (t := 50 + b.val + 1) (b := b) (by omega) (by omega)]
  rw [ghst_home (c := c) (GT := GT) (t := 50 + b.val) (b := b2) (by omega) (by omega)]
  rw [ghst_lent (c := c) (GT := GT) (t := 50 + b.val + 1) (b := b2) (by omega)]
  rw [psst_free (c := c) (X := X) (t := 50 + b.val) (s := sp) (by unfold pnum; omega)]
  rw [psst_fly (c := c) (X := X) (t := 50 + b.val + 1) (s := sp) b (by omega) (by unfold pnum; omega)]
  rw [phst_fresh (c := c) (X := X) (t := 50 + b.val) (b := b) (by omega)]
  rw [phst_lent (c := c) (X := X) (t := 50 + b.val + 1) (b := b) (by omega) (by omega) (by omega)]
  rw [mst_high (c := c) (X := X) (t := 50 + b.val) (by omega)]
  rw [mst_high (c := c) (X := X) (t := 50 + b.val + 1) (by omega)]
  rw [lst_high (c := c) (X := X) (t := 50 + b.val) (by omega)]
  rw [lst_high (c := c) (X := X) (t := 50 + b.val + 1) (by omega)]
  rw [bst_low (c := c) (X := X) (GT := GT) (t := 50 + b.val) (by omega)]
  rw [bst_high (c := c) (X := X) (GT := GT) (t := 50 + b.val + 1) (by omega)]
  rw [bvAt_first b (by omega)]
  rw [aAt_first b (by omega)]
  rw [← hi]
  iintro ⟨⟨⟨⟨Hc, Hx, Hxh⟩, Rx⟩, ⟨Hfg, Rs⟩, ⟨-, Hg2, Rh⟩, ⟨⟨Hpc, Hps⟩, Rp⟩, ⟨Hd, Ro⟩, Hm, Hl, ⟨%fb, Hb⟩⟩, Ha, HW⟩
  iapply (wp_wand_r frame _ Set.univ)
  isplitl [Hx Hfg Hg2 Hpc Hps Hd Hm Hl Hb Ha HW]
  · iapply (runE (c := c) (i := i) (arg4 := arg4) (harg4 := harg4) (X := X) (GT := GT) b sg sp b2  hi hsg hsp hb2  h0 W _ _ _ _)
    isplitl [Hx]
    · iexact Hx
    isplitl [Hfg]
    · iexact Hfg
    isplitl [Hg2]
    · iexact Hg2
    isplitl [Hpc Hps]
    · isplitl [Hpc]
      · iexact Hpc
      iexact Hps
    isplitl [Hd]
    · iexact Hd
    isplitl [Hm]
    · iexact Hm
    isplitl [Hl]
    · iexact Hl
    isplitl [Hb]
    · iexact Hb
    isplitl [Ha]
    · iexact Ha
    iexact HW
  iintro %_ ⟨Hx, Hfg, Hg, Hfp, Hm, Hl, Hb, Ha, HW⟩
  isplitl [Hc Hx Hxh Rx Hfg Rs Hg Rh Hfp Rp Ro Hm Hl Hb]
  · isplitl [Hc Hx Hxh Rx]
    · isplitl [Hc Hx Hxh]
      · isplitl [Hc]
        · iexact Hc
        isplitl [Hx]
        · iexact Hx
        iexact Hxh
      iexact Rx
    isplitl [Hfg Rs]
    · isplitl [Hfg]
      · iexact Hfg
      iexact Rs
    isplitl [Hg Rh]
    · isplitl [Hg]
      · iexact Hg
      isplitl []
      · iempintro
      iexact Rh
    isplitl [Hfp Rp]
    · isplitl [Hfp]
      · iexact Hfp
      iexact Rp
    isplitl [Ro]
    · isplitl []
      · iempintro
      iexact Ro
    isplitl [Hm]
    · iexact Hm
    isplitl [Hl]
    · iexact Hl
    iexact Hb
  isplitl [Ha]
  · iexact Ha
  iexact HW

/-- The next two. -/
theorem stepF (b : Fin 50) (sg : Fin 2) (sp : Fin 3) (b2 : Fin 50) (hi : (i 0).val = 50 + b.val) (hsg : sg.val = b.val % 2) (hsp : sp.val = b.val % 3) (hb2 : b2.val = b.val + 2) (h0 : 0 < b.val) (h3 : b.val < 3) (W : Finset (SemLoc sig × Unit)) (va : Vec F S1x128 .i32) :
    iprop(Inv c X GT (50 + b.val) ∗ owns (c : Thread nD τ) arg4 fullShare (aAt X GT b.val) ∗ owes (c : Thread nD τ) 0 W)
      ⊢ wp frame (wpE (defs₀ (F := F)) 𝒱₀ (c : Thread nD τ) none) Set.univ (bodyW i arg4 harg4)
        fun _ => (iprop(Inv c X GT (50 + b.val + 1) ∗ owns (c : Thread nD τ) arg4 fullShare (aAt X GT (b.val + 1)) ∗ ∃ W, owes (c : Thread nD τ) 0 W) : sProp 𝕄) := by
  obtain ⟨Rx, eRx, eRx'⟩ := takes_step (xst c X (50 + b.val)) (xst c X (50 + b.val + 1)) [b] (by simp) (by
    intro a ha
    simp only [List.mem_cons, List.not_mem_nil, or_false, not_or, Fin.ext_iff] at ha
    have hlt := a.isLt
    rw [xst_landed (by omega), xst_landed (by omega)]
)
  obtain ⟨Rs, eRs, eRs'⟩ := takes_step (gsst c GT (50 + b.val)) (gsst c GT (50 + b.val + 1)) [sg] (by simp) (by
    intro a ha
    simp only [List.mem_cons, List.not_mem_nil, or_false, not_or, Fin.ext_iff] at ha
    have hlt := a.isLt
    exact gnum_same (by omega)
)
  obtain ⟨Rh, eRh, eRh'⟩ := takes_step (ghst c GT (50 + b.val)) (ghst c GT (50 + b.val + 1)) [b, b2] (by simp [Fin.ext_iff]; omega) (by
    intro a ha
    simp only [List.mem_cons, List.not_mem_nil, or_false, not_or, Fin.ext_iff] at ha
    have hlt := a.isLt
    exact ghst_same (by omega) (by omega)
)
  obtain ⟨Rp, eRp, eRp'⟩ := takes_step (psst c X (50 + b.val)) (psst c X (50 + b.val + 1)) [sp] (by simp) (by
    intro a ha
    simp only [List.mem_cons, List.not_mem_nil, or_false, not_or, Fin.ext_iff] at ha
    have hlt := a.isLt
    exact pnum_same (by omega) (by omega)
)
  obtain ⟨Ro, eRo, eRo'⟩ := takes_step (phst c X (50 + b.val)) (phst c X (50 + b.val + 1)) [b] (by simp) (by
    intro a ha
    simp only [List.mem_cons, List.not_mem_nil, or_false, not_or, Fin.ext_iff] at ha
    have hlt := a.isLt
    exact phst_same (by omega) (by omega) (by omega)
)
  unfold Inv
  rw [eRx, eRx']
  rw [eRs, eRs']
  rw [eRh, eRh']
  rw [eRp, eRp']
  rw [eRo, eRo']
  simp only [takes]
  rw [xst_landed (c := c) (X := X) (t := 50 + b.val) (b := b) (by omega)]
  rw [xst_landed (c := c) (X := X) (t := 50 + b.val + 1) (b := b) (by omega)]
  rw [gsst_fly (c := c) (GT := GT) (t := 50 + b.val) (s := sg) b (by omega) (by unfold gnum; omega)]
  rw [gsst_fly (c := c) (GT := GT) (t := 50 + b.val + 1) (s := sg) b2 (by omega) (by unfold gnum; omega)]
  rw [ghst_lent (c := c) (GT := GT) (t := 50 + b.val) (b := b) (by omega)]
  rw [ghst_home (c := c) (GT := GT) (t := 50 + b.val + 1) (b := b) (by omega) (by omega)]
  rw [ghst_home (c := c) (GT := GT) (t := 50 + b.val) (b := b2) (by omega) (by omega)]
  rw [ghst_lent (c := c) (GT := GT) (t := 50 + b.val + 1) (b := b2) (by omega)]
  rw [psst_free (c := c) (X := X) (t := 50 + b.val) (s := sp) (by unfold pnum; omega)]
  rw [psst_fly (c := c) (X := X) (t := 50 + b.val + 1) (s := sp) b (by omega) (by unfold pnum; omega)]
  rw [phst_fresh (c := c) (X := X) (t := 50 + b.val) (b := b) (by omega)]
  rw [phst_lent (c := c) (X := X) (t := 50 + b.val + 1) (b := b) (by omega) (by omega) (by omega)]
  rw [mst_high (c := c) (X := X) (t := 50 + b.val) (by omega)]
  rw [mst_high (c := c) (X := X) (t := 50 + b.val + 1) (by omega)]
  rw [lst_high (c := c) (X := X) (t := 50 + b.val) (by omega)]
  rw [lst_high (c := c) (X := X) (t := 50 + b.val + 1) (by omega)]
  rw [bst_at (c := c) (X := X) (GT := GT) b (by omega)]
  rw [bst_next (c := c) (X := X) (GT := GT) b (by omega)]
  rw [aAt_succ b rfl (by omega)]
  rw [← hi]
  iintro ⟨⟨⟨⟨Hc, Hx, Hxh⟩, Rx⟩, ⟨Hfg, Rs⟩, ⟨-, Hg2, Rh⟩, ⟨⟨Hpc, Hps⟩, Rp⟩, ⟨Hd, Ro⟩, Hm, Hl, Hb⟩, Ha, HW⟩
  iapply (wp_wand_r frame _ Set.univ)
  isplitl [Hx Hfg Hg2 Hpc Hps Hd Hm Hl Hb Ha HW]
  · iapply (runF (c := c) (i := i) (arg4 := arg4) (harg4 := harg4) (X := X) (GT := GT) b sg sp b2  hi hsg hsp hb2  h0 h3 W _ _ _ _)
    isplitl [Hx]
    · iexact Hx
    isplitl [Hfg]
    · iexact Hfg
    isplitl [Hg2]
    · iexact Hg2
    isplitl [Hpc Hps]
    · isplitl [Hpc]
      · iexact Hpc
      iexact Hps
    isplitl [Hd]
    · iexact Hd
    isplitl [Hm]
    · iexact Hm
    isplitl [Hl]
    · iexact Hl
    isplitl [Hb]
    · iexact Hb
    isplitl [Ha]
    · iexact Ha
    iexact HW
  iintro %_ ⟨Hx, Hfg, Hg, Hfp, Hm, Hl, Hb, Ha, HW⟩
  isplitl [Hc Hx Hxh Rx Hfg Rs Hg Rh Hfp Rp Ro Hm Hl Hb]
  · isplitl [Hc Hx Hxh Rx]
    · isplitl [Hc Hx Hxh]
      · isplitl [Hc]
        · iexact Hc
        isplitl [Hx]
        · iexact Hx
        iexact Hxh
      iexact Rx
    isplitl [Hfg Rs]
    · isplitl [Hfg]
      · iexact Hfg
      iexact Rs
    isplitl [Hg Rh]
    · isplitl [Hg]
      · iexact Hg
      isplitl []
      · iempintro
      iexact Rh
    isplitl [Hfp Rp]
    · isplitl [Hfp]
      · iexact Hfp
      iexact Rp
    isplitl [Ro]
    · isplitl []
      · iempintro
      iexact Ro
    isplitl [Hm]
    · iexact Hm
    isplitl [Hl]
    · iexact Hl
    iexact Hb
  isplitl [Ha]
  · iexact Ha
  iexact HW

/-- A point that takes back the copy its slot was lent to. -/
theorem stepG (b : Fin 50) (sg : Fin 2) (sp : Fin 3) (b2 : Fin 50) (bp : Fin 50) (hi : (i 0).val = 50 + b.val) (hsg : sg.val = b.val % 2) (hsp : sp.val = b.val % 3) (hb2 : b2.val = b.val + 2) (hbp : b.val = bp.val + 3) (h3 : 3 ≤ b.val) (h48 : b.val < 48) (W : Finset (SemLoc sig × Unit)) (va : Vec F S1x128 .i32) :
    iprop(Inv c X GT (50 + b.val) ∗ owns (c : Thread nD τ) arg4 fullShare (aAt X GT b.val) ∗ owes (c : Thread nD τ) 0 W)
      ⊢ wp frame (wpE (defs₀ (F := F)) 𝒱₀ (c : Thread nD τ) none) Set.univ (bodyW i arg4 harg4)
        fun _ => (iprop(Inv c X GT (50 + b.val + 1) ∗ owns (c : Thread nD τ) arg4 fullShare (aAt X GT (b.val + 1)) ∗ ∃ W, owes (c : Thread nD τ) 0 W) : sProp 𝕄) := by
  obtain ⟨Rx, eRx, eRx'⟩ := takes_step (xst c X (50 + b.val)) (xst c X (50 + b.val + 1)) [b] (by simp) (by
    intro a ha
    simp only [List.mem_cons, List.not_mem_nil, or_false, not_or, Fin.ext_iff] at ha
    have hlt := a.isLt
    rw [xst_landed (by omega), xst_landed (by omega)]
)
  obtain ⟨Rs, eRs, eRs'⟩ := takes_step (gsst c GT (50 + b.val)) (gsst c GT (50 + b.val + 1)) [sg] (by simp) (by
    intro a ha
    simp only [List.mem_cons, List.not_mem_nil, or_false, not_or, Fin.ext_iff] at ha
    have hlt := a.isLt
    exact gnum_same (by omega)
)
  obtain ⟨Rh, eRh, eRh'⟩ := takes_step (ghst c GT (50 + b.val)) (ghst c GT (50 + b.val + 1)) [b, b2] (by simp [Fin.ext_iff]; omega) (by
    intro a ha
    simp only [List.mem_cons, List.not_mem_nil, or_false, not_or, Fin.ext_iff] at ha
    have hlt := a.isLt
    exact ghst_same (by omega) (by omega)
)
  obtain ⟨Rp, eRp, eRp'⟩ := takes_step (psst c X (50 + b.val)) (psst c X (50 + b.val + 1)) [sp] (by simp) (by
    intro a ha
    simp only [List.mem_cons, List.not_mem_nil, or_false, not_or, Fin.ext_iff] at ha
    have hlt := a.isLt
    exact pnum_same (by omega) (by omega)
)
  obtain ⟨Ro, eRo, eRo'⟩ := takes_step (phst c X (50 + b.val)) (phst c X (50 + b.val + 1)) [b, bp] (by simp [Fin.ext_iff]; omega) (by
    intro a ha
    simp only [List.mem_cons, List.not_mem_nil, or_false, not_or, Fin.ext_iff] at ha
    have hlt := a.isLt
    exact phst_same (by omega) (by omega) (by omega)
)
  unfold Inv
  rw [eRx, eRx']
  rw [eRs, eRs']
  rw [eRh, eRh']
  rw [eRp, eRp']
  rw [eRo, eRo']
  simp only [takes]
  rw [xst_landed (c := c) (X := X) (t := 50 + b.val) (b := b) (by omega)]
  rw [xst_landed (c := c) (X := X) (t := 50 + b.val + 1) (b := b) (by omega)]
  rw [gsst_fly (c := c) (GT := GT) (t := 50 + b.val) (s := sg) b (by omega) (by unfold gnum; omega)]
  rw [gsst_fly (c := c) (GT := GT) (t := 50 + b.val + 1) (s := sg) b2 (by omega) (by unfold gnum; omega)]
  rw [ghst_lent (c := c) (GT := GT) (t := 50 + b.val) (b := b) (by omega)]
  rw [ghst_home (c := c) (GT := GT) (t := 50 + b.val + 1) (b := b) (by omega) (by omega)]
  rw [ghst_home (c := c) (GT := GT) (t := 50 + b.val) (b := b2) (by omega) (by omega)]
  rw [ghst_lent (c := c) (GT := GT) (t := 50 + b.val + 1) (b := b2) (by omega)]
  rw [psst_fly (c := c) (X := X) (t := 50 + b.val) (s := sp) bp (by omega) (by unfold pnum; omega)]
  rw [psst_fly (c := c) (X := X) (t := 50 + b.val + 1) (s := sp) b (by omega) (by unfold pnum; omega)]
  rw [phst_fresh (c := c) (X := X) (t := 50 + b.val) (b := b) (by omega)]
  rw [phst_lent (c := c) (X := X) (t := 50 + b.val + 1) (b := b) (by omega) (by omega) (by omega)]
  rw [phst_lent (c := c) (X := X) (t := 50 + b.val) (b := bp) (by omega) (by omega) (by omega)]
  rw [phst_done (c := c) (X := X) (t := 50 + b.val + 1) (b := bp) (by omega) (by omega)]
  rw [mst_high (c := c) (X := X) (t := 50 + b.val) (by omega)]
  rw [mst_high (c := c) (X := X) (t := 50 + b.val + 1) (by omega)]
  rw [lst_high (c := c) (X := X) (t := 50 + b.val) (by omega)]
  rw [lst_high (c := c) (X := X) (t := 50 + b.val + 1) (by omega)]
  rw [bst_at (c := c) (X := X) (GT := GT) b (by omega)]
  rw [bst_next (c := c) (X := X) (GT := GT) b (by omega)]
  rw [aAt_succ b rfl (by omega)]
  rw [← hi]
  iintro ⟨⟨⟨⟨Hc, Hx, Hxh⟩, Rx⟩, ⟨Hfg, Rs⟩, ⟨-, Hg2, Rh⟩, ⟨Hfp, Rp⟩, ⟨Hd, -, Ro⟩, Hm, Hl, Hb⟩, Ha, HW⟩
  iapply (wp_wand_r frame _ Set.univ)
  isplitl [Hx Hfg Hg2 Hfp Hd Hm Hl Hb Ha HW]
  · iapply (runG (c := c) (i := i) (arg4 := arg4) (harg4 := harg4) (X := X) (GT := GT) b sg sp b2 bp  hi hsg hsp hb2 hbp h48 W _ _ _ _ _)
    isplitl [Hx]
    · iexact Hx
    isplitl [Hfg]
    · iexact Hfg
    isplitl [Hg2]
    · iexact Hg2
    isplitl [Hfp]
    · iexact Hfp
    isplitl [Hd]
    · iexact Hd
    isplitl [Hm]
    · iexact Hm
    isplitl [Hl]
    · iexact Hl
    isplitl [Hb]
    · iexact Hb
    isplitl [Ha]
    · iexact Ha
    iexact HW
  iintro %_ ⟨Hx, Hfg, Hg, Hdp, Hfp, Hm, Hl, Hb, Ha, HW⟩
  isplitl [Hc Hx Hxh Rx Hfg Rs Hg Rh Hfp Rp Hdp Ro Hm Hl Hb]
  · isplitl [Hc Hx Hxh Rx]
    · isplitl [Hc Hx Hxh]
      · isplitl [Hc]
        · iexact Hc
        isplitl [Hx]
        · iexact Hx
        iexact Hxh
      iexact Rx
    isplitl [Hfg Rs]
    · isplitl [Hfg]
      · iexact Hfg
      iexact Rs
    isplitl [Hg Rh]
    · isplitl [Hg]
      · iexact Hg
      isplitl []
      · iempintro
      iexact Rh
    isplitl [Hfp Rp]
    · isplitl [Hfp]
      · iexact Hfp
      iexact Rp
    isplitl [Hdp Ro]
    · isplitl []
      · iempintro
      isplitl [Hdp]
      · iexact Hdp
      iexact Ro
    isplitl [Hm]
    · iexact Hm
    isplitl [Hl]
    · iexact Hl
    iexact Hb
  isplitl [Ha]
  · iexact Ha
  iexact HW

/-- The last but one. -/
theorem stepH (b : Fin 50) (sg : Fin 2) (sp : Fin 3) (bp : Fin 50) (hi : (i 0).val = 50 + b.val) (hsg : sg.val = b.val % 2) (hsp : sp.val = b.val % 3) (hbp : b.val = bp.val + 3) (h48 : b.val = 48) (W : Finset (SemLoc sig × Unit)) (va : Vec F S1x128 .i32) :
    iprop(Inv c X GT (50 + b.val) ∗ owns (c : Thread nD τ) arg4 fullShare (aAt X GT b.val) ∗ owes (c : Thread nD τ) 0 W)
      ⊢ wp frame (wpE (defs₀ (F := F)) 𝒱₀ (c : Thread nD τ) none) Set.univ (bodyW i arg4 harg4)
        fun _ => (iprop(Inv c X GT (50 + b.val + 1) ∗ owns (c : Thread nD τ) arg4 fullShare (aAt X GT (b.val + 1)) ∗ ∃ W, owes (c : Thread nD τ) 0 W) : sProp 𝕄) := by
  obtain ⟨Rx, eRx, eRx'⟩ := takes_step (xst c X (50 + b.val)) (xst c X (50 + b.val + 1)) [b] (by simp) (by
    intro a ha
    simp only [List.mem_cons, List.not_mem_nil, or_false, not_or, Fin.ext_iff] at ha
    have hlt := a.isLt
    rw [xst_landed (by omega), xst_landed (by omega)]
)
  obtain ⟨Rs, eRs, eRs'⟩ := takes_step (gsst c GT (50 + b.val)) (gsst c GT (50 + b.val + 1)) [sg] (by simp) (by
    intro a ha
    simp only [List.mem_cons, List.not_mem_nil, or_false, not_or, Fin.ext_iff] at ha
    have hlt := a.isLt
    exact gnum_same (by omega)
)
  obtain ⟨Rh, eRh, eRh'⟩ := takes_step (ghst c GT (50 + b.val)) (ghst c GT (50 + b.val + 1)) [b] (by simp) (by
    intro a ha
    simp only [List.mem_cons, List.not_mem_nil, or_false, not_or, Fin.ext_iff] at ha
    have hlt := a.isLt
    exact ghst_same (by omega) (by omega)
)
  obtain ⟨Rp, eRp, eRp'⟩ := takes_step (psst c X (50 + b.val)) (psst c X (50 + b.val + 1)) [sp] (by simp) (by
    intro a ha
    simp only [List.mem_cons, List.not_mem_nil, or_false, not_or, Fin.ext_iff] at ha
    have hlt := a.isLt
    exact pnum_same (by omega) (by omega)
)
  obtain ⟨Ro, eRo, eRo'⟩ := takes_step (phst c X (50 + b.val)) (phst c X (50 + b.val + 1)) [b, bp] (by simp [Fin.ext_iff]; omega) (by
    intro a ha
    simp only [List.mem_cons, List.not_mem_nil, or_false, not_or, Fin.ext_iff] at ha
    have hlt := a.isLt
    exact phst_same (by omega) (by omega) (by omega)
)
  unfold Inv
  rw [eRx, eRx']
  rw [eRs, eRs']
  rw [eRh, eRh']
  rw [eRp, eRp']
  rw [eRo, eRo']
  simp only [takes]
  rw [xst_landed (c := c) (X := X) (t := 50 + b.val) (b := b) (by omega)]
  rw [xst_landed (c := c) (X := X) (t := 50 + b.val + 1) (b := b) (by omega)]
  rw [gsst_fly (c := c) (GT := GT) (t := 50 + b.val) (s := sg) b (by omega) (by unfold gnum; omega)]
  rw [gsst_free (c := c) (GT := GT) (t := 50 + b.val + 1) (s := sg) (by unfold gnum; omega)]
  rw [ghst_lent (c := c) (GT := GT) (t := 50 + b.val) (b := b) (by omega)]
  rw [ghst_home (c := c) (GT := GT) (t := 50 + b.val + 1) (b := b) (by omega) (by omega)]
  rw [psst_fly (c := c) (X := X) (t := 50 + b.val) (s := sp) bp (by omega) (by unfold pnum; omega)]
  rw [psst_fly (c := c) (X := X) (t := 50 + b.val + 1) (s := sp) b (by omega) (by unfold pnum; omega)]
  rw [phst_fresh (c := c) (X := X) (t := 50 + b.val) (b := b) (by omega)]
  rw [phst_lent (c := c) (X := X) (t := 50 + b.val + 1) (b := b) (by omega) (by omega) (by omega)]
  rw [phst_lent (c := c) (X := X) (t := 50 + b.val) (b := bp) (by omega) (by omega) (by omega)]
  rw [phst_done (c := c) (X := X) (t := 50 + b.val + 1) (b := bp) (by omega) (by omega)]
  rw [mst_high (c := c) (X := X) (t := 50 + b.val) (by omega)]
  rw [mst_high (c := c) (X := X) (t := 50 + b.val + 1) (by omega)]
  rw [lst_high (c := c) (X := X) (t := 50 + b.val) (by omega)]
  rw [lst_high (c := c) (X := X) (t := 50 + b.val + 1) (by omega)]
  rw [bst_at (c := c) (X := X) (GT := GT) b (by omega)]
  rw [bst_next (c := c) (X := X) (GT := GT) b (by omega)]
  rw [aAt_succ b rfl (by omega)]
  rw [← hi]
  iintro ⟨⟨⟨⟨Hc, Hx, Hxh⟩, Rx⟩, ⟨Hfg, Rs⟩, ⟨-, Rh⟩, ⟨Hfp, Rp⟩, ⟨Hd, -, Ro⟩, Hm, Hl, Hb⟩, Ha, HW⟩
  iapply (wp_wand_r frame _ Set.univ)
  isplitl [Hx Hfg Hfp Hd Hm Hl Hb Ha HW]
  · iapply (runH (c := c) (i := i) (arg4 := arg4) (harg4 := harg4) (X := X) (GT := GT) b sg sp bp  hi hsg hsp hbp h48 W _ _ _ _ _)
    isplitl [Hx]
    · iexact Hx
    isplitl [Hfg]
    · iexact Hfg
    isplitl [Hfp]
    · iexact Hfp
    isplitl [Hd]
    · iexact Hd
    isplitl [Hm]
    · iexact Hm
    isplitl [Hl]
    · iexact Hl
    isplitl [Hb]
    · iexact Hb
    isplitl [Ha]
    · iexact Ha
    iexact HW
  iintro %_ ⟨Hx, Hfg, Hg, Hdp, Hfp, Hm, Hl, Hb, Ha, HW⟩
  isplitl [Hc Hx Hxh Rx Hfg Rs Hg Rh Hfp Rp Hdp Ro Hm Hl Hb]
  · isplitl [Hc Hx Hxh Rx]
    · isplitl [Hc Hx Hxh]
      · isplitl [Hc]
        · iexact Hc
        isplitl [Hx]
        · iexact Hx
        iexact Hxh
      iexact Rx
    isplitl [Hfg Rs]
    · isplitl [Hfg]
      · iexact Hfg
      iexact Rs
    isplitl [Hg Rh]
    · isplitl [Hg]
      · iexact Hg
      iexact Rh
    isplitl [Hfp Rp]
    · isplitl [Hfp]
      · iexact Hfp
      iexact Rp
    isplitl [Hdp Ro]
    · isplitl []
      · iempintro
      isplitl [Hdp]
      · iexact Hdp
      iexact Ro
    isplitl [Hm]
    · iexact Hm
    isplitl [Hl]
    · iexact Hl
    iexact Hb
  isplitl [Ha]
  · iexact Ha
  iexact HW

/-- The last point. -/
theorem stepI (b : Fin 50) (sg : Fin 2) (sp : Fin 3) (bp : Fin 50) (b47 b48 : Fin 50) (s2 s0 : Fin 3) (hi : (i 0).val = 50 + b.val) (hsg : sg.val = b.val % 2) (hsp : sp.val = b.val % 3) (hbp : b.val = bp.val + 3) (h49 : b.val = 49) (h47 : b47.val = 47) (h48 : b48.val = 48) (hs2 : s2.val = 2) (hs0 : s0.val = 0) (W : Finset (SemLoc sig × Unit)) (va : Vec F S1x128 .i32) :
    iprop(Inv c X GT (50 + b.val) ∗ owns (c : Thread nD τ) arg4 fullShare (aAt X GT b.val) ∗ owes (c : Thread nD τ) 0 W)
      ⊢ wp frame (wpE (defs₀ (F := F)) 𝒱₀ (c : Thread nD τ) none) Set.univ (bodyW i arg4 harg4)
        fun _ => (iprop(Inv c X GT (50 + b.val + 1) ∗ owns (c : Thread nD τ) arg4 fullShare (aAt X GT (b.val + 1)) ∗ ∃ W, owes (c : Thread nD τ) 0 W) : sProp 𝕄) := by
  obtain ⟨Rx, eRx, eRx'⟩ := takes_step (xst c X (50 + b.val)) (xst c X (50 + b.val + 1)) [b] (by simp) (by
    intro a ha
    simp only [List.mem_cons, List.not_mem_nil, or_false, not_or, Fin.ext_iff] at ha
    have hlt := a.isLt
    rw [xst_landed (by omega), xst_landed (by omega)]
)
  obtain ⟨Rs, eRs, eRs'⟩ := takes_step (gsst c GT (50 + b.val)) (gsst c GT (50 + b.val + 1)) [sg] (by simp) (by
    intro a ha
    simp only [List.mem_cons, List.not_mem_nil, or_false, not_or, Fin.ext_iff] at ha
    have hlt := a.isLt
    exact gnum_same (by omega)
)
  obtain ⟨Rh, eRh, eRh'⟩ := takes_step (ghst c GT (50 + b.val)) (ghst c GT (50 + b.val + 1)) [b] (by simp) (by
    intro a ha
    simp only [List.mem_cons, List.not_mem_nil, or_false, not_or, Fin.ext_iff] at ha
    have hlt := a.isLt
    exact ghst_same (by omega) (by omega)
)
  obtain ⟨Rp, eRp, eRp'⟩ := takes_step (psst c X (50 + b.val)) (psst c X (50 + b.val + 1)) [sp, s2, s0] (by simp [Fin.ext_iff]; omega) (by
    intro a ha
    simp only [List.mem_cons, List.not_mem_nil, or_false, not_or, Fin.ext_iff] at ha
    have hlt := a.isLt
    omega
)
  obtain ⟨Ro, eRo, eRo'⟩ := takes_step (phst c X (50 + b.val)) (phst c X (50 + b.val + 1)) [b, bp, b47, b48] (by simp [Fin.ext_iff]; omega) (by
    intro a ha
    simp only [List.mem_cons, List.not_mem_nil, or_false, not_or, Fin.ext_iff] at ha
    have hlt := a.isLt
    rw [phst_done (by omega) (by omega), phst_done (by omega) (by omega)]
)
  unfold Inv
  rw [eRx, eRx']
  rw [eRs, eRs']
  rw [eRh, eRh']
  rw [eRp, eRp']
  rw [eRo, eRo']
  simp only [takes]
  rw [xst_landed (c := c) (X := X) (t := 50 + b.val) (b := b) (by omega)]
  rw [xst_landed (c := c) (X := X) (t := 50 + b.val + 1) (b := b) (by omega)]
  rw [gsst_fly (c := c) (GT := GT) (t := 50 + b.val) (s := sg) b (by omega) (by unfold gnum; omega)]
  rw [gsst_free (c := c) (GT := GT) (t := 50 + b.val + 1) (s := sg) (by unfold gnum; omega)]
  rw [ghst_lent (c := c) (GT := GT) (t := 50 + b.val) (b := b) (by omega)]
  rw [ghst_home (c := c) (GT := GT) (t := 50 + b.val + 1) (b := b) (by omega) (by omega)]
  rw [psst_fly (c := c) (X := X) (t := 50 + b.val) (s := sp) bp (by omega) (by unfold pnum; omega)]
  rw [psst_fly (c := c) (X := X) (t := 50 + b.val) (s := s2) b47 (by omega) (by unfold pnum; omega)]
  rw [psst_fly (c := c) (X := X) (t := 50 + b.val) (s := s0) b48 (by omega) (by unfold pnum; omega)]
  rw [psst_free (c := c) (X := X) (t := 50 + b.val + 1) (s := sp) (by omega)]
  rw [psst_free (c := c) (X := X) (t := 50 + b.val + 1) (s := s2) (by omega)]
  rw [psst_free (c := c) (X := X) (t := 50 + b.val + 1) (s := s0) (by omega)]
  rw [phst_fresh (c := c) (X := X) (t := 50 + b.val) (b := b) (by omega)]
  rw [phst_done (c := c) (X := X) (t := 50 + b.val + 1) (b := b) (by omega) (by omega)]
  rw [phst_lent (c := c) (X := X) (t := 50 + b.val) (b := bp) (by omega) (by omega) (by omega)]
  rw [phst_done (c := c) (X := X) (t := 50 + b.val + 1) (b := bp) (by omega) (by omega)]
  rw [phst_lent (c := c) (X := X) (t := 50 + b.val) (b := b47) (by omega) (by omega) (by omega)]
  rw [phst_done (c := c) (X := X) (t := 50 + b.val + 1) (b := b47) (by omega) (by omega)]
  rw [phst_lent (c := c) (X := X) (t := 50 + b.val) (b := b48) (by omega) (by omega) (by omega)]
  rw [phst_done (c := c) (X := X) (t := 50 + b.val + 1) (b := b48) (by omega) (by omega)]
  rw [mst_high (c := c) (X := X) (t := 50 + b.val) (by omega)]
  rw [mst_high (c := c) (X := X) (t := 50 + b.val + 1) (by omega)]
  rw [lst_high (c := c) (X := X) (t := 50 + b.val) (by omega)]
  rw [lst_high (c := c) (X := X) (t := 50 + b.val + 1) (by omega)]
  rw [bst_at (c := c) (X := X) (GT := GT) b (by omega)]
  rw [bst_next (c := c) (X := X) (GT := GT) b (by omega)]
  rw [aAt_succ b rfl (by omega)]
  rw [← hi]
  iintro ⟨⟨⟨⟨Hc, Hx, Hxh⟩, Rx⟩, ⟨Hfg, Rs⟩, ⟨-, Rh⟩, ⟨Hfp, Hf7, Hf8, Rp⟩, ⟨Hd, -, -, -, Ro⟩, Hm, Hl, Hb⟩, Ha, HW⟩
  iapply (wp_wand_r frame _ Set.univ)
  isplitl [Hx Hfg Hfp Hf7 Hf8 Hd Hm Hl Hb Ha HW]
  · iapply (runI (c := c) (i := i) (arg4 := arg4) (harg4 := harg4) (X := X) (GT := GT) b sg sp bp b47 b48 s2 s0 hi hsg hsp hbp h49 h47 h48 hs2 hs0 W _ _ _ _ _ _ _)
    isplitl [Hx]
    · iexact Hx
    isplitl [Hfg]
    · iexact Hfg
    isplitl [Hfp]
    · iexact Hfp
    isplitl [Hf7]
    · iexact Hf7
    isplitl [Hf8]
    · iexact Hf8
    isplitl [Hd]
    · iexact Hd
    isplitl [Hm]
    · iexact Hm
    isplitl [Hl]
    · iexact Hl
    isplitl [Hb]
    · iexact Hb
    isplitl [Ha]
    · iexact Ha
    iexact HW
  iintro %_ ⟨Hx, Hfg, Hg, Hdp, ⟨Hd7, Hp7⟩, ⟨Hd8, Hp8⟩, ⟨Hd9, Hp9⟩, Hm, Hl, Hb, Ha, HW⟩
  isplitl [Hc Hx Hxh Rx Hfg Rs Hg Rh Hp9 Hp7 Hp8 Rp Hd9 Hdp Hd7 Hd8 Ro Hm Hl Hb]
  · isplitl [Hc Hx Hxh Rx]
    · isplitl [Hc Hx Hxh]
      · isplitl [Hc]
        · iexact Hc
        isplitl [Hx]
        · iexact Hx
        iexact Hxh
      iexact Rx
    isplitl [Hfg Rs]
    · isplitl [Hfg]
      · iexact Hfg
      iexact Rs
    isplitl [Hg Rh]
    · isplitl [Hg]
      · iexact Hg
      iexact Rh
    isplitl [Hp9 Hp7 Hp8 Rp]
    · isplitl [Hp9]
      · iexact Hp9
      isplitl [Hp7]
      · iexact Hp7
      isplitl [Hp8]
      · iexact Hp8
      iexact Rp
    isplitl [Hd9 Hdp Hd7 Hd8 Ro]
    · isplitl [Hd9]
      · iexact Hd9
      isplitl [Hdp]
      · iexact Hdp
      isplitl [Hd7]
      · iexact Hd7
      isplitl [Hd8]
      · iexact Hd8
      iexact Ro
    isplitl [Hm]
    · iexact Hm
    isplitl [Hl]
    · iexact Hl
    iexact Hb
  isplitl [Ha]
  · iexact Ha
  iexact HW

end Cert.KernelIdeal.Hand
-- ==== Proof.KI.Body.lean ====
/-
  The proof data of the pipeline and its body obligation.
-/
module

public import proofs.«01_k».proof.Proof.KI.StepA
public import proofs.«01_k».proof.Proof.KI.StepE
public import Idealize.ShloMosaic.Lib.Pipeline.FrameSuffixV
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- `x` and the table as the region finds them. -/
abbrev Xin (c : Dev nD) : S100000x128.Idx → Elt F .f32 := V m c main_v0
abbrev Gin (c : Dev nD) : S100000x128.Idx → Elt F .f32 := V m c main_v182

/-- The proof data: the window's buffer holds the running best rows, and between points `Inv` holds. -/
def dats (_ : Fin 1) (c : Dev nD) : Dat τ (Elt F) Unit ℕ (Pipeline.UD sig nD τ) ℕ cfg0 c where
  A w := V m c (Pipeline.arrRef spec0 w)
  after w t := match w with
    | ⟨0, _⟩ => aAt (Xin m c) (Gin m c) (t.val - 49)
  Φ t := Inv c (Xin m c) (Gin m c) t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = aAt (Xin m c) (Gin m c) (t.val - 49) := by dsimp only [dats]

theorem coords0 (t : Fin cfg0.N) : (grid0.coords t 0).val = t.val := by
  have h : (grid0.coords t 0).val = t.val / 1 % 100 := Pipeline.Grid.coords_val t 0 (by decide) rfl
  have : t.val < 100 := t.isLt
  omega

/-- The window is idle in the first phase and live in the second. -/
theorem idle_iff (t : Fin cfg0.N) : cfg0.idle 0 (cfg0.grid.coords t) = decide (t.val < 50) := by
  have hc := coords0 t
  have ht : t.val < 100 := t.isLt
  show (!(k0_cond7 (grid0.coords t) == 1#1 && k0_cond9 (grid0.coords t) == 1#1) && !(k0_cond7 (grid0.coords t) == 1#1 && k0_cond10 (grid0.coords t) == 1#1)) = _
  by_cases h : t.val < 50
  · have n7 := mt (c7_iff (grid0.coords t)).1 (by omega)
    simp [n7, h]
  · have h7 := (c7_iff (grid0.coords t)).2 (by omega)
    by_cases h0 : t.val = 50
    · have h9 := (c9_iff (grid0.coords t)).2 (by omega)
      simp [h7, h9, h]
    · have h10 := (c10_iff (grid0.coords t)).2 (by omega)
      simp [h7, h10, h]

theorem flush_not (t : Fin cfg0.N) (h : t.val < 99) : (cfg0.win 0).flush t = false := by
  rw [Bool.eq_false_iff]; exact mt (flush0_0 t).1 (by omega)

/-- What the window's buffer holds in the second phase after its first point. -/
theorem before_high (c : Dev nD) (t : Fin cfg0.N) (h : 50 < t.val) (d) :
    (dats m 0 c).before 0 t d = aAt (Xin m c) (Gin m c) (t.val - 50) := by
  have ht : t.val < 100 := t.isLt
  rw [Dat.before_of_pos _ 0 t (by omega) ((cfg0.win 0).fetch_out rfl t), flush_not _ (by show t.val - 1 < 99; omega), if_neg Bool.false_ne_true]
  unfold Dat.left
  rw [idle_iff, show decide ((⟨t.val - 1, _⟩ : Fin cfg0.N).val < 50) = false from decide_eq_false (by show ¬ t.val - 1 < 50; omega)]
  show (dats m 0 c).after 0 ⟨t.val - 1, _⟩ = _
  rw [after0_0]
  congr 1

abbrev ms0_0 (t : Fin cfg0.N) := win0_0.stage (cfg0.slots t 0)

/-- The body over a point of the first phase. -/
theorem low (c : Dev nD) (t : Fin cfg0.N) (h : t.val < 50) (W) :
    iprop(Inv c (Xin m c) (Gin m c) t.val ∗ owes (c : Thread nD τ) 0 W)
      ⊢ wp frame (wpE (defs₀ (F := F)) 𝒱₀ (c : Thread nD τ) none) Set.univ (bodyAt0 t)
        fun _ => (iprop(Inv c (Xin m c) (Gin m c) (t.val + 1) ∗ ∃ W, owes (c : Thread nD τ) 0 W) : sProp 𝕄) := by
  have hc := coords0 t
  by_cases h0 : t.val = 0
  · rw [h0] at hc ⊢; exact stepA hc W
  have hp : 0 < t.val := by omega
  by_cases h1 : t.val < 44
  · exact stepB ⟨t.val, h⟩ ⟨t.val + 6, by omega⟩ hc rfl hp W
  by_cases h2 : t.val < 49
  · exact stepC ⟨t.val, h⟩ hc (by show 44 ≤ t.val; omega) h2 W
  · exact stepD ⟨t.val, h⟩ hc (by show t.val = 49; omega) W

/-- The body over a point of the second phase. -/
theorem high (c : Dev nD) (t : Fin cfg0.N) (h : 50 ≤ t.val) (W) (va : Vec F S1x128 .i32)
    (hva : t.val ≠ 50 → va = aAt (Xin m c) (Gin m c) (t.val - 50)) :
    iprop(Inv c (Xin m c) (Gin m c) t.val ∗ owns (c : Thread nD τ) (ms0_0 t) fullShare va ∗ owes (c : Thread nD τ) 0 W)
      ⊢ wp frame (wpE (defs₀ (F := F)) 𝒱₀ (c : Thread nD τ) none) Set.univ (bodyAt0 t)
        fun _ => (iprop(Inv c (Xin m c) (Gin m c) (t.val + 1) ∗ owns (c : Thread nD τ) (ms0_0 t) fullShare (aAt (Xin m c) (Gin m c) (t.val - 49)) ∗ ∃ W, owes (c : Thread nD τ) 0 W) : sProp 𝕄) := by
  have hc := coords0 t
  have ht : t.val < 100 := t.isLt
  obtain ⟨b, hb⟩ : ∃ b : Fin 50, t.val = 50 + b.val := ⟨⟨t.val - 50, by omega⟩, by show t.val = 50 + (t.val - 50); omega⟩
  have hlt := b.isLt
  rw [hb] at hc ⊢
  rw [show 50 + b.val - 49 = b.val + 1 by omega]
  by_cases h0 : b.val = 0
  · exact stepE b ⟨b.val % 2, by omega⟩ ⟨b.val % 3, by omega⟩ ⟨b.val + 2, by omega⟩ hc rfl rfl rfl h0 W va
  rw [hva (by omega), hb, show 50 + b.val - 50 = b.val by omega]
  by_cases h1 : b.val < 3
  · exact stepF b ⟨b.val % 2, by omega⟩ ⟨b.val % 3, by omega⟩ ⟨b.val + 2, by omega⟩ hc rfl rfl rfl (by omega) h1 W (aAt (Xin m c) (Gin m c) b.val)
  by_cases h2 : b.val < 48
  · exact stepG b ⟨b.val % 2, by omega⟩ ⟨b.val % 3, by omega⟩ ⟨b.val + 2, by omega⟩ ⟨b.val - 3, by omega⟩ hc rfl rfl rfl (by show b.val = b.val - 3 + 3; omega) (by omega) h2 W (aAt (Xin m c) (Gin m c) b.val)
  by_cases h3 : b.val < 49
  · exact stepH b ⟨b.val % 2, by omega⟩ ⟨b.val % 3, by omega⟩ ⟨b.val - 3, by omega⟩ hc rfl rfl (by show b.val = b.val - 3 + 3; omega) (by omega) W (aAt (Xin m c) (Gin m c) b.val)
  · exact stepI b ⟨b.val % 2, by omega⟩ ⟨b.val % 3, by omega⟩ ⟨b.val - 3, by omega⟩ 47 48 2 0 hc rfl rfl (by show b.val = b.val - 3 + 3; omega) (by omega) rfl rfl rfl rfl W (aAt (Xin m c) (Gin m c) b.val)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  have ht : t.val < 100 := t.isLt
  rw [show (dats m 0 c).Φ t.castSucc = Inv c (Xin m c) (Gin m c) t.val from rfl, show (dats m 0 c).Φ t.succ = Inv c (Xin m c) (Gin m c) (t.val + 1) from rfl]
  unfold Dat.owesAt Pipeline.owesWithin
  rw [show (dats m 0 c).owed t.castSucc = 0 from rfl, show (dats m 0 c).owed t.succ = 0 from rfl]
  rw [idle_iff]
  by_cases h : t.val < 50
  · rw [decide_eq_true h, flush_not t (by omega)]
    dsimp only
    iintro ⟨HI, ⟨%W, -, HW⟩, ⟨%d, H0⟩⟩
    iapply (wp_wand_r frame _ Set.univ)
    isplitl [HI HW]
    · iapply (low m c t h W)
      isplitl [HI]; · iexact HI
      iexact HW
    iintro %_ ⟨HI, ⟨%W', HW⟩⟩
    isplitl [HI]; · iexact HI
    isplitl [HW]
    · iexists W'; isplitr; · ipureintro; exact fun _ _ => Or.inl trivial
      iexact HW
    iexists d; iexact H0
  · rw [decide_eq_false h]
    dsimp only
    rw [after0_0]
    iintro ⟨HI, ⟨%W, -, HW⟩, ⟨%d, H0⟩⟩
    iapply (wp_wand_r frame _ Set.univ)
    isplitl [HI HW H0]
    · iapply (high m c t (by omega) W ((dats m 0 c).before 0 t d) (fun hne => before_high m c t (by omega) d))
      isplitl [HI]; · iexact HI
      isplitl [H0]; · iexact H0
      iexact HW
    iintro %_ ⟨HI, H0, ⟨%W', HW⟩⟩
    isplitl [HI]; · iexact HI
    isplitl [HW]
    · iexists W'; isplitr; · ipureintro; exact fun _ _ => Or.inl trivial
      iexact HW
    iexact H0

/-- The last point. -/
def tlast : Fin cfg0.N := ⟨99, by decide⟩

/-- The best rows, written back at the last point, are the window's array at the end. -/
theorem arr_last (c : Dev nD) : (dats m 0 c).arrAt 0 cfg0.N = aAt (Xin m c) (Gin m c) 50 := by
  refine (dats m 0 c).arrAt_eq_of_after_last 0 tlast (by decide +kernel) _ fun j => ?_
  rw [after0_0]
  show aAt (Xin m c) (Gin m c) 50 _ = aAt (Xin m c) (Gin m c) 50 _
  refine congrArg _ (funext fun a => Fin.ext ?_)
  rfl

end Cert.KernelIdeal.Hand
-- ==== Proof.KI.Ends.lean ====
/-
  Buffers cut into their blocks, and the invariant at the two ends of the grid.
-/
module

public import proofs.«01_k».proof.Proof.KI.Inv
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

/-! ## Blocks of a buffer -/
section Blocks

/-- The elements of one block. -/
abbrev xsrcI (b : Fin 50) : Finset S100000x128.Idx := (xsrc b).view.set
theorem xsrc_set (b : Fin 50) : xsrcI b = (Rect.unit (s := S100000x128) (blkOff b) S2000x128.size (blkOff_inb b)).set := by
  unfold xsrcI xsrc; exact View.set_slice_whole _ _
theorem xsrc_disj (b b' : Fin 50) (h : b ≠ b') : Disjoint (xsrcI b) (xsrcI b') := by
  rw [xsrc_set, xsrc_set]
  exact Ring.lead_disjoint (s := S100000x128) (NB := 50) (R := 2000) 0 blkOff S2000x128.size blkOff_inb (fun b => by rfl) rfl b b' h
theorem xsrc_cover : Finset.univ.biUnion xsrcI = Finset.univ := by
  rw [show xsrcI = fun b => (Rect.unit (s := S100000x128) (blkOff b) S2000x128.size (blkOff_inb b)).set from funext xsrc_set]
  exact Ring.lead_cover (s := S100000x128) (NB := 50) (R := 2000) 0 blkOff S2000x128.size blkOff_inb (fun b => by rfl)
    (fun b a ha => by fin_cases a <;> first | exact absurd rfl ha | rfl) rfl (fun a ha => by fin_cases a <;> first | exact absurd rfl ha | rfl) rfl

/-- The elements of one block. -/
abbrev gsrcI (b : Fin 50) : Finset S100000x128.Idx := (gsrc b).view.set
theorem gsrc_set (b : Fin 50) : gsrcI b = (Rect.unit (s := S100000x128) (blkOff b) S2000x128.size (blkOff_inb b)).set := by
  unfold gsrcI gsrc; exact View.set_slice_whole _ _
theorem gsrc_disj (b b' : Fin 50) (h : b ≠ b') : Disjoint (gsrcI b) (gsrcI b') := by
  rw [gsrc_set, gsrc_set]
  exact Ring.lead_disjoint (s := S100000x128) (NB := 50) (R := 2000) 0 blkOff S2000x128.size blkOff_inb (fun b => by rfl) rfl b b' h
theorem gsrc_cover : Finset.univ.biUnion gsrcI = Finset.univ := by
  rw [show gsrcI = fun b => (Rect.unit (s := S100000x128) (blkOff b) S2000x128.size (blkOff_inb b)).set from funext gsrc_set]
  exact Ring.lead_cover (s := S100000x128) (NB := 50) (R := 2000) 0 blkOff S2000x128.size blkOff_inb (fun b => by rfl)
    (fun b a ha => by fin_cases a <;> first | exact absurd rfl ha | rfl) rfl (fun a ha => by fin_cases a <;> first | exact absurd rfl ha | rfl) rfl

/-- The elements of one block. -/
abbrev pdstI (b : Fin 50) : Finset S100000x128.Idx := (pdst b).view.set
theorem pdst_set (b : Fin 50) : pdstI b = (Rect.unit (s := S100000x128) (blkOff b) S2000x128.size (blkOff_inb b)).set := by
  unfold pdstI pdst; exact View.set_slice_whole _ _
theorem pdst_disj (b b' : Fin 50) (h : b ≠ b') : Disjoint (pdstI b) (pdstI b') := by
  rw [pdst_set, pdst_set]
  exact Ring.lead_disjoint (s := S100000x128) (NB := 50) (R := 2000) 0 blkOff S2000x128.size blkOff_inb (fun b => by rfl) rfl b b' h
theorem pdst_cover : Finset.univ.biUnion pdstI = Finset.univ := by
  rw [show pdstI = fun b => (Rect.unit (s := S100000x128) (blkOff b) S2000x128.size (blkOff_inb b)).set from funext pdst_set]
  exact Ring.lead_cover (s := S100000x128) (NB := 50) (R := 2000) 0 blkOff S2000x128.size blkOff_inb (fun b => by rfl)
    (fun b a ha => by fin_cases a <;> first | exact absurd rfl ha | rfl) rfl (fun a ha => by fin_cases a <;> first | exact absurd rfl ha | rfl) rfl

/-- The elements of one block. -/
abbrev xslotI (b : Fin 50) : Finset S100000x128.Idx := (xslot b).view.set
theorem xslot_set (b : Fin 50) : xslotI b = (Rect.unit (s := S100000x128) (blkOff b) S2000x128.size (blkOff_inb b)).set := by
  unfold xslotI xslot; exact View.set_slice_whole _ _
theorem xslot_disj (b b' : Fin 50) (h : b ≠ b') : Disjoint (xslotI b) (xslotI b') := by
  rw [xslot_set, xslot_set]
  exact Ring.lead_disjoint (s := S100000x128) (NB := 50) (R := 2000) 0 blkOff S2000x128.size blkOff_inb (fun b => by rfl) rfl b b' h
theorem xslot_cover : Finset.univ.biUnion xslotI = Finset.univ := by
  rw [show xslotI = fun b => (Rect.unit (s := S100000x128) (blkOff b) S2000x128.size (blkOff_inb b)).set from funext xslot_set]
  exact Ring.lead_cover (s := S100000x128) (NB := 50) (R := 2000) 0 blkOff S2000x128.size blkOff_inb (fun b => by rfl)
    (fun b a ha => by fin_cases a <;> first | exact absurd rfl ha | rfl) rfl (fun a ha => by fin_cases a <;> first | exact absurd rfl ha | rfl) rfl

/-- The elements of one block. -/
abbrev gslotI (b : Fin 2) : Finset S2x2000x128.Idx := (gslot b).view.set
theorem gslot_set (b : Fin 2) : gslotI b = (Rect.unit (s := S2x2000x128) (slotOff b) S1x2000x128.size (slotOff_inb2 b)).set := by
  unfold gslotI gslot; exact (View.set_reshape _ _).trans (View.set_slice_whole _ _)
theorem gslot_disj (b b' : Fin 2) (h : b ≠ b') : Disjoint (gslotI b) (gslotI b') := by
  rw [gslot_set, gslot_set]
  exact Ring.lead_disjoint (s := S2x2000x128) (NB := 2) (R := 1) 0 slotOff S1x2000x128.size slotOff_inb2 (fun b => by show b.val = 1 * b.val; omega) rfl b b' h
theorem gslot_cover : Finset.univ.biUnion gslotI = Finset.univ := by
  rw [show gslotI = fun b => (Rect.unit (s := S2x2000x128) (slotOff b) S1x2000x128.size (slotOff_inb2 b)).set from funext gslot_set]
  exact Ring.lead_cover (s := S2x2000x128) (NB := 2) (R := 1) 0 slotOff S1x2000x128.size slotOff_inb2 (fun b => by show b.val = 1 * b.val; omega)
    (fun b a ha => by fin_cases a <;> first | exact absurd rfl ha | rfl) rfl (fun a ha => by fin_cases a <;> first | exact absurd rfl ha | rfl) rfl

/-- The elements of one block. -/
abbrev pslotI (b : Fin 3) : Finset S3x2000x128.Idx := (pslot b).view.set
theorem pslot_set (b : Fin 3) : pslotI b = (Rect.unit (s := S3x2000x128) (slotOff b) S1x2000x128.size (slotOff_inb3 b)).set := by
  unfold pslotI pslot; exact (View.set_reshape _ _).trans (View.set_slice_whole _ _)
theorem pslot_disj (b b' : Fin 3) (h : b ≠ b') : Disjoint (pslotI b) (pslotI b') := by
  rw [pslot_set, pslot_set]
  exact Ring.lead_disjoint (s := S3x2000x128) (NB := 3) (R := 1) 0 slotOff S1x2000x128.size slotOff_inb3 (fun b => by show b.val = 1 * b.val; omega) rfl b b' h
theorem pslot_cover : Finset.univ.biUnion pslotI = Finset.univ := by
  rw [show pslotI = fun b => (Rect.unit (s := S3x2000x128) (slotOff b) S1x2000x128.size (slotOff_inb3 b)).set from funext pslot_set]
  exact Ring.lead_cover (s := S3x2000x128) (NB := 3) (R := 1) 0 slotOff S1x2000x128.size slotOff_inb3 (fun b => by show b.val = 1 * b.val; omega)
    (fun b a ha => by fin_cases a <;> first | exact absurd rfl ha | rfl) rfl (fun a ha => by fin_cases a <;> first | exact absurd rfl ha | rfl) rfl

end Blocks

/-! ## The written output -/

/-- The block a row lies in, and its place there. -/
def rowBlk (j : S100000x128.Idx) : Fin 50 := ⟨(j 0).val / 2000, by have : (j 0).val < 100000 := (j 0).isLt; omega⟩
def rowIn (j : S100000x128.Idx) : S2000x128.Idx := fun a => match a with
  | ⟨0, _⟩ => ⟨(j 0).val % 2000, Nat.mod_lt _ (by decide)⟩
  | ⟨1, _⟩ => ⟨(j 1).val, (j 1).isLt⟩
/-- The whole output, block by block. -/
def PP (X : S100000x128.Idx → Elt F .f32) : S100000x128.Idx → Elt F .f32 := fun j => pblk X (rowBlk j) (rowIn j)

abbrev pemb (b : Fin 50) (y : S2000x128.Idx) : S100000x128.Idx := (pdst b).view.emb y
theorem PP_read (X : S100000x128.Idx → Elt F .f32) (b : Fin 50) : (pdst b).view.read (Elt F) (PP X) = pblk X b := by
  funext y
  have h0 : (y 0).val < 2000 := (y 0).isLt
  have hb := b.isLt
  have e0 : (pemb b y 0).val = 2000 * b.val + 1 * (y 0).val := rfl
  have e1 : (pemb b y 1).val = 0 + 1 * (y 1).val := rfl
  show pblk X (rowBlk (pemb b y)) (rowIn (pemb b y)) = _
  have hB : rowBlk (pemb b y) = b := Fin.ext (by show (pemb b y 0).val / 2000 = b.val; omega)
  have hI : rowIn (pemb b y) = y := by
    funext a; fin_cases a
    · exact Fin.ext (by show (pemb b y 0).val % 2000 = (y 0).val; omega)
    · exact Fin.ext (by show (pemb b y 1).val = (y 1).val; omega)
  rw [hB, hI]

/-! ## The ends of the grid -/

/-- The kernel's own semaphores. -/
abbrev osem0 : Fin 50 ⊕ Fin 2 ⊕ Fin 3 → SemLoc sig :=
  Sum.elim (fun b => .dma (xsm b).sem) (Sum.elim (fun s => .dma (gsm s).sem) (fun s => .dma (psm s).sem))
/-- The HBM buffers its copies read, and the one they write. -/
abbrev H0 : Finset (Ref sig .tc) := {main_v0, main_v182}
abbrev R0 : Finset (Ref sig .tc) := {main_v183_0}
theorem H0_sub : H0 ⊆ Pipeline.restRefs sig spec0 := by decide
theorem R0_sub : R0 ⊆ Pipeline.restRefs sig spec0 \ H0 := by decide
theorem ownSemFacts0 : Pipeline.OwnSemFacts spec0 osem0 := by decide +kernel

theorem ownSems_eq : (Pipeline.ownSems0 (Ix := Unit) (Name := ℕ) (U := Pipeline.UD sig nD τ) (Lvl := ℕ) (Val := Elt F) (τ := τ) osem0 c : sProp 𝕄)
    = iprop(bigSep Finset.univ (xcell c) ∗ bigSep Finset.univ (gcell c) ∗ bigSep Finset.univ (pcell c)) := by
  unfold Pipeline.ownSems0
  rw [BI.bigSep_univ_sum, BI.bigSep_univ_sum]
  rfl

variable (X GT : S100000x128.Idx → Elt F .f32)

/-! ## The parts at the two ends -/
theorem x_in : bigSep Finset.univ (xst c X 0) = iprop(bigSep Finset.univ (xcell c) ∗ (bigSep Finset.univ fun b => (iprop(∃ f, xheld c b f) : sProp 𝕄)) ∗ bigSep Finset.univ (xhome c X)) :=
  (BI.bigSep_congr fun b _ => xst_fresh (by omega) (by omega)).trans
    ((BI.bigSep_sep Finset.univ (xcell c) fun b => iprop((∃ f, xheld c b f) ∗ xhome c X b)).trans
      (congrArg _ (BI.bigSep_sep Finset.univ (fun b => iprop(∃ f, xheld c b f)) (xhome c X))))
theorem x_out : bigSep Finset.univ (xst c X 100) = iprop(bigSep Finset.univ (xcell c) ∗ (bigSep Finset.univ fun b => (xheld c b X : sProp 𝕄)) ∗ bigSep Finset.univ (xhome c X)) :=
  (BI.bigSep_congr fun b _ => xst_landed (by omega)).trans
    ((BI.bigSep_sep Finset.univ (xcell c) fun b => iprop(xheld c b X ∗ xhome c X b)).trans
      (congrArg _ (BI.bigSep_sep Finset.univ (fun b => xheld c b X) (xhome c X))))
theorem g_end {t : ℕ} (h : t = 0 ∨ t = 100) : bigSep Finset.univ (gsst c GT t) = iprop(bigSep Finset.univ (gcell c) ∗ bigSep Finset.univ fun s => (iprop(∃ f, gheld c s f) : sProp 𝕄)) :=
  (BI.bigSep_congr fun s _ => gsst_free (by unfold gnum; omega)).trans (BI.bigSep_sep Finset.univ (gcell c) fun s => iprop(∃ f, gheld c s f))
theorem gh_end {t : ℕ} (h : t = 0 ∨ t = 100) : bigSep Finset.univ (ghst c GT t) = (bigSep Finset.univ (ghome c GT) : sProp 𝕄) :=
  BI.bigSep_congr fun b _ => ghst_home (by omega) (by omega)
theorem p_end {t : ℕ} (h : t = 0 ∨ t = 100) : bigSep Finset.univ (psst c X t) = iprop(bigSep Finset.univ (pcell c) ∗ bigSep Finset.univ fun s => (iprop(∃ f, pheld c s f) : sProp 𝕄)) :=
  (BI.bigSep_congr fun s _ => psst_free (by unfold pnum; omega)).trans (BI.bigSep_sep Finset.univ (pcell c) fun s => iprop(∃ f, pheld c s f))
theorem ph_in : bigSep Finset.univ (phst c X 0) = bigSep Finset.univ fun b => (iprop(∃ f, phome c b f) : sProp 𝕄) :=
  BI.bigSep_congr fun b _ => phst_fresh (by omega)
theorem ph_out : bigSep Finset.univ (phst c X 100) = bigSep Finset.univ fun b => (phome c b (PP X) : sProp 𝕄) :=
  BI.bigSep_congr fun b _ => (phst_done (by omega) (by omega)).trans
      (pt_read (κ := .tc) (c : Thread nD τ) (pdst b).view fullShare (by rw [View.read_rep]; exact (PP_read _ b).symm))

theorem PhiDRV_eq (V G : (c : Dev nD) → (b : Ref sig .tc) → Buf (Elt F) ((c.tc : Thread nD τ).loc b)) (O : S100000x128.Idx → Elt F .f32) (hX : V c main_v0 = X) (hGT : V c main_v182 = GT) (hO : G c main_v183_0 = O) :
    (Pipeline.ΦDRV osem0 spec0 H0 R0 V G c : sProp 𝕄)
    = iprop((((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
        ∗ (∃ f, mP c f) ∗ (∃ f, lP c f) ∗ (∃ f, bP c f)))
      ∗ (bigSep Finset.univ (xcell c) ∗ bigSep Finset.univ (gcell c) ∗ bigSep Finset.univ (pcell c))
      ∗ (((c : Thread nD τ).loc main_v0 ↦{fullShare} X) ∗ ((c : Thread nD τ).loc main_v182 ↦{fullShare} GT))
      ∗ ((c : Thread nD τ).loc main_v183_0 ↦{fullShare} O)) := by
  unfold Pipeline.ΦDRV
  rw [scopedRest0_eq, ownSems_eq, BI.bigSep_eq_bigSepL_of_eq [main_v0, main_v182] (by decide) (by decide), BI.bigSep_singleton, ← hX, ← hGT, ← hO]
  rfl

/-- A family held at some contents each, from the whole at some contents. -/
theorem cut_any {n : ℕ} {ℓ : Loc nD τ sig} (I : Fin n → Finset ℓ.2.ty.Idx) (hd : ∀ b b', b ≠ b' → Disjoint (I b) (I b')) (hc : Finset.univ.biUnion I = Finset.univ) :
    (iprop(∃ f : Buf (Elt F) ℓ, ℓ ↦{fullShare} f) : sProp 𝕄) ⊢ bigSep Finset.univ fun b => iprop(∃ f : Buf (Elt F) ℓ, ℓ ↦[I b]{fullShare} f) := by
  refine exists_elim fun f => ?_
  rw [Ring.pointsTo_blocks I hd hc f]
  exact BI.bigSep_mono fun b _ => by
    show (ℓ ↦[I b]{fullShare} f : sProp 𝕄) ⊢ iprop(∃ f : Buf (Elt F) ℓ, ℓ ↦[I b]{fullShare} f)
    iintro H; iexists f; iexact H

/-- Before the first point. -/
theorem inv_in (V : (c : Dev nD) → (b : Ref sig .tc) → Buf (Elt F) ((c.tc : Thread nD τ).loc b)) (hX : V c main_v0 = X) (hGT : V c main_v182 = GT) :
    (Pipeline.ΦDRV osem0 spec0 H0 R0 V V c : sProp 𝕄) ⊢ Inv c X GT 0 := by
  rw [PhiDRV_eq c X GT V V _ hX hGT rfl]
  unfold Inv
  rw [x_in, g_end c GT (.inl rfl), gh_end c GT (.inl rfl), p_end c X (.inl rfl), ph_in, show mst c X 0 = iprop(∃ f, mP c f) from if_pos rfl,
    show lst c X 0 = iprop(∃ f, lP c f) from if_pos rfl, bst_low (by omega)]
  rw [Ring.pointsTo_blocks (ℓ := (c : Thread nD τ).loc main_v0) xsrcI xsrc_disj xsrc_cover,
    Ring.pointsTo_blocks (ℓ := (c : Thread nD τ).loc main_v182) gsrcI gsrc_disj gsrc_cover]
  iintro ⟨⟨Hx, Hg, Hp, Hm, Hl, Hb⟩, ⟨Hxc, Hgc, Hpc⟩, ⟨Hxh, Hgh⟩, Ho⟩
  isplitl [Hxc Hx Hxh]
  · isplitl [Hxc]; · iexact Hxc
    isplitl [Hx]
    · iapply (cut_any (ℓ := (c : Thread nD τ).loc cc0_scratch0) xslotI xslot_disj xslot_cover); iexact Hx
    iexact Hxh
  isplitl [Hgc Hg]
  · isplitl [Hgc]; · iexact Hgc
    iapply (cut_any (ℓ := (c : Thread nD τ).loc cc0_scratch1) gslotI gslot_disj gslot_cover); iexact Hg
  isplitl [Hgh]; · iexact Hgh
  isplitl [Hpc Hp]
  · isplitl [Hpc]; · iexact Hpc
    iapply (cut_any (ℓ := (c : Thread nD τ).loc cc0_scratch2) pslotI pslot_disj pslot_cover); iexact Hp
  isplitl [Ho]
  · iapply (cut_any (ℓ := (c : Thread nD τ).loc main_v183_0) pdstI pdst_disj pdst_cover); iexists _; iexact Ho
  isplitl [Hm]; · iexact Hm
  isplitl [Hl]; · iexact Hl
  iexact Hb

/-- After the last point: the output holds `PP`. -/
theorem inv_out (V G : (c : Dev nD) → (b : Ref sig .tc) → Buf (Elt F) ((c.tc : Thread nD τ).loc b)) (hX : V c main_v0 = X) (hGT : V c main_v182 = GT) (hG : G c main_v183_0 = PP X) :
    Inv c X GT 100 ⊢ (Pipeline.ΦDRV osem0 spec0 H0 R0 V G c : sProp 𝕄) := by
  rw [PhiDRV_eq c X GT V G _ hX hGT hG]
  unfold Inv
  rw [x_out, g_end c GT (.inr rfl), gh_end c GT (.inr rfl), p_end c X (.inr rfl), ph_out, mst_high (by omega), lst_high (by omega), bst_high (by omega)]
  rw [Ring.pointsTo_blocks (ℓ := (c : Thread nD τ).loc main_v0) xsrcI xsrc_disj xsrc_cover,
    Ring.pointsTo_blocks (ℓ := (c : Thread nD τ).loc main_v182) gsrcI gsrc_disj gsrc_cover,
    Ring.pointsTo_blocks (ℓ := (c : Thread nD τ).loc main_v183_0) pdstI pdst_disj pdst_cover]
  iintro ⟨⟨Hxc, Hx, Hxh⟩, ⟨Hgc, Hg⟩, Hgh, ⟨Hpc, Hp⟩, Ho, Hm, Hl, Hb⟩
  isplitl [Hx Hg Hp Hm Hl Hb]
  · isplitl [Hx]
    · iexists X
      iapply (Entails.of_eq (Ring.pointsTo_blocks (ℓ := (c : Thread nD τ).loc cc0_scratch0) xslotI xslot_disj xslot_cover X).symm)
      iexact Hx
    isplitl [Hg]
    · iapply (Ring.pointsTo_blocks_join_exists (ℓ := (c : Thread nD τ).loc cc0_scratch1) gslotI gslot_disj gslot_cover (gbM.view.junk)); iexact Hg
    isplitl [Hp]
    · iapply (Ring.pointsTo_blocks_join_exists (ℓ := (c : Thread nD τ).loc cc0_scratch2) pslotI pslot_disj pslot_cover (pbM.view.junk)); iexact Hp
    isplitl [Hm]; · iexists _; iexact Hm
    isplitl [Hl]; · iexists _; iexact Hl
    iexists _; iexact Hb
  isplitl [Hxc Hgc Hpc]
  · isplitl [Hxc]; · iexact Hxc
    isplitl [Hgc]; · iexact Hgc
    iexact Hpc
  isplitl [Hxh Hgh]
  · isplitl [Hxh]; · iexact Hxh
    iexact Hgh
  iexact Ho

end Cert.KernelIdeal.Hand
-- ==== Proof.KI.Run.lean ====
/-
  The launch: what a run of the program leaves behind.
-/
module

public import proofs.«01_k».proof.Proof.KI.Body
public import proofs.«01_k».proof.Proof.KI.Ends

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- `@main` around the region, over the transfers' algebra. -/
theorem hmain_ud : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the copies out leave: the probabilities in their array, every other array as it was. -/
def Gout (c : Dev nD) (b : Ref sig .tc) : Buf (Elt F) ((c.tc : Thread nD τ).loc b) :=
  if h : main_v183_0 = b then h ▸ (PP (Xin m c) : Buf (Elt F) ((c.tc : Thread nD τ).loc main_v183_0)) else V m c b

theorem Gout_self (c : Dev nD) : Gout m c main_v183_0 = PP (Xin m c) := dif_pos rfl

/-- The host lines after the region do not write the argument. -/
theorem after_arg (W : Valuation τ sig (Elt F)) (b : Ref sig .tc) (h2 : b ≠ main_v184) (h3 : b ≠ main_v185) :
    StableHlo.after ([hostOps1] : List (List (HloOp τ sig (Elt F)))).flatten W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.unary_writes, StableHlo.reshape_writes, Finset.mem_singleton]
    exact ⟨StableHlo.devRef_ne_of_ne h2, StableHlo.devRef_ne_of_ne h3⟩))

theorem after_probs (W : Valuation τ sig (Elt F)) :
    StableHlo.after ([hostOps1] : List (List (HloOp τ sig (Elt F)))).flatten W (Proc.devRef .tc main_v184)
      = (transpose S128x100000 [1, 0] (W (Proc.devRef .tc main_v183_0) : S100000x128.Idx → Elt F .f32) transposes_S100000x128_S128x100000_1_0 : S128x100000.Idx → Elt F .f32) := by
  simp only [hostOps1, List.flatten_cons, List.flatten_nil, List.append_nil, List.cons_append, List.nil_append]
  rfl

theorem after_draws (W : Valuation τ sig (Elt F)) :
    StableHlo.after ([hostOps1] : List (List (HloOp τ sig (Elt F)))).flatten W (Proc.devRef .tc main_v185)
      = (shapeCast S128 (W (Proc.devRef .tc main_v183_1) : S1x128.Idx → Elt F .i32) shapeCasts_S1x128_S128 : S128.Idx → Elt F .i32) := by
  simp only [hostOps1, List.flatten_cons, List.flatten_nil, List.append_nil, List.cons_append, List.nil_append]
  rfl

set_option backward.isDefEq.respectTransparency.types false in
/-- A run of the program: the argument ends unchanged, the first result is the transpose of the probabilities, the
    second the best rows after fifty blocks, and every semaphore reads zero. -/
theorem run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v184) = transpose S128x100000 [1, 0] (PP (Xin m c)) transposes_S100000x128_S128x100000_1_0
      ∧ r.2.mem ((c.tc : Thread nD τ).loc main_v185) = shapeCast S128 (aAt (Xin m c) (Gin m c) 50) shapeCasts_S1x128_S128)
      ∧ r.2.sem = fun _ => 0) := by
  refine (θ_run defs _ _).mono (fun r h => ?_)
    (Pipeline.θ_run_frame_dmaR_aroundV cfgs (dats m) 0 launch0 osem0 defs₀ 𝒱₀ ownSemFacts0 H0 R0 H0_sub R0_sub m ρ main
      (fun c => (body_obligation m c).loose) (fun c => (dats m 0 c).share_full fun _ => rfl) (fun _ _ => rfl)
      (V0 m) [hostOps1] sfx_sub sfx_fresh sfx_keeps (Gout m) (hmain_ud m) (A_eq m)
      (fun c => inv_in c (Xin m c) (Gin m c) (V m) rfl rfl) (fun c => inv_out c (Xin m c) (Gin m c) (V m) (Gout m) rfl rfl (Gout_self m c))
      (Q' := fun r => (∀ c : Dev nD, (∀ w, r.2.mem ((spec0 w).arr.view.loc (c.tc : Thread nD τ)) = (dats m 0 c).arrAt w cfg0.N)
        ∧ ∀ b ∈ Pipeline.restRefs sig spec0, r.2.mem ((c.tc : Thread nD τ).loc b)
          = StableHlo.after ([hostOps1] : List (List (HloOp τ sig (Elt F)))).flatten (Pipeline.withArrays spec0 c (Pipeline.withR (V0 m c) R0 c (Gout m c)) fun w => (dats m 0 c).arrAt w cfg0.N) (Proc.devRef .tc b))
        ∧ r.2.sem = fun _ => 0) (hQ' := fun _ h => h))
  refine ⟨fun c => ?_, h.2⟩
  have hb := (h.1 c).2
  refine ⟨?_, ?_, ?_⟩
  · rw [hb main_arg0 (Pipeline.mem_restRefs_of main_arg0 (by decide) (by decide)), after_arg _ _ (by decide) (by decide),
      Pipeline.withArrays_of_ne _ c _ _ main_arg0 (by exact (by decide : ∀ w, Pipeline.arrRef spec0 w ≠ main_arg0)), Pipeline.withR_of_not_mem _ _ _ _ _ (by decide)]
    exact V_main_arg0 m c
  · rw [hb main_v184 (Pipeline.mem_restRefs_of main_v184 (by decide) (by decide)), after_probs,
      Pipeline.withArrays_of_ne _ c _ _ main_v183_0 (by exact (by decide : ∀ w, Pipeline.arrRef spec0 w ≠ main_v183_0)), Pipeline.withR_of_mem _ _ _ _ _ (by decide), Gout_self]
  · rw [hb main_v185 (Pipeline.mem_restRefs_of main_v185 (by decide) (by decide)), after_draws]
    have e := Pipeline.withArrays_arr spec0 launch0.win.arr_inj c (Pipeline.withR (V0 m c) R0 c (Gout m c)) (fun w => (dats m 0 c).arrAt w cfg0.N) 0
    rw [show Pipeline.withArrays spec0 c (Pipeline.withR (V0 m c) R0 c (Gout m c)) (fun w => (dats m 0 c).arrAt w cfg0.N) (Proc.devRef .tc main_v183_1) = aAt (Xin m c) (Gin m c) 50 from e.trans (arr_last m c)]

end Cert.KernelIdeal.Hand
-- ==== Proof.Rounds.lean ====
/-
  One round of the threefry cipher as a stretch of host operations, and what it does to the two words. Both programs
  compute their noise by twenty such rounds; the lemmas here are over any program and any shape.
-/
module

public import Idealize.ShloMosaic.Lib.Claim
public import Idealize.ShloMosaic.Lib.StableHlo.Run

@[expose] public section

noncomputable section

namespace Cert.Threefry

open Idealize.ShloMosaic Idealize.ShloMosaic.StableHlo

variable {τ : Topo} {sig : RefSig} {F : FTy → Type} [FloatOps F]

/-! ## Reading a typed buffer after one operation -/

section
variable {Val : EltTy → Type} {T Ta Tb : BufTy}

/-- What a typed buffer holds. -/
def got (x : TRef sig T) (V : Valuation τ sig Val) : T.Contents Val := x.ofBuf (V (Proc.devRef .tc x.ref))

theorem got_nullary (y : TRef sig T) (v : T.Contents Val) (V : Valuation τ sig Val) : got y ((TRef.nullary y v).result V) = v := by
  unfold got; rw [nullary_result]; exact TRef.ofBuf_toBuf y v
theorem got_unary (x : TRef sig Ta) (y : TRef sig T) (f : Ta.Contents Val → T.Contents Val) (V : Valuation τ sig Val) :
    got y ((TRef.unary x y f).result V) = f (got x V) := by
  unfold got; rw [unary_result]; exact TRef.ofBuf_toBuf y _
theorem got_binary (a : TRef sig Ta) (b : TRef sig Tb) (y : TRef sig T) (f : Ta.Contents Val → Tb.Contents Val → T.Contents Val) (V : Valuation τ sig Val) :
    got y ((TRef.binary a b y f).result V) = f (got a V) (got b V) := by
  unfold got; rw [binary_result]; exact TRef.ofBuf_toBuf y _

/-- Another buffer keeps what it held. -/
theorem got_nullary_ne {z : TRef sig T} (y : TRef sig Ta) (v : Ta.Contents Val) (V : Valuation τ sig Val) (h : z.ref ≠ y.ref) :
    got z ((TRef.nullary y v).result V) = got z V := by
  unfold got; rw [nullary_result_ne _ _ _ _ h]
theorem got_unary_ne {T' : BufTy} {z : TRef sig T'} (x : TRef sig Ta) (y : TRef sig T) (f : Ta.Contents Val → T.Contents Val) (V : Valuation τ sig Val) (h : z.ref ≠ y.ref) :
    got z ((TRef.unary x y f).result V) = got z V := by
  unfold got; rw [unary_result_ne _ _ _ _ _ _ h]
theorem got_binary_ne {T' : BufTy} {z : TRef sig T'} (a : TRef sig Ta) (b : TRef sig Tb) (y : TRef sig T) (f : Ta.Contents Val → Tb.Contents Val → T.Contents Val)
    (V : Valuation τ sig Val) (h : z.ref ≠ y.ref) : got z ((TRef.binary a b y f).result V) = got z V := by
  unfold got; rw [binary_result_ne _ _ _ _ _ _ _ _ h]

theorem after_app (A B : List (HloOp τ sig Val)) (V : Valuation τ sig Val) : after (A ++ B) V = after B (after A V) := by
  induction A generalizing V with
  | nil => rfl
  | cons a A ih => exact ih _

end

/-! ## The rounds -/

/-- A buffer of words of a shape. -/
abbrev Words (sig : RefSig) (S : Shape) := TRef sig ⟨S, .i32⟩

/-- The shape of a single number. -/
abbrev S0 : Shape := ⟨0, ![]⟩

variable {S : Shape}

/-- The two words after one round: the first takes the sum, the second is rotated and mixed with it. -/
def mix (n n' : BitVec 32) (p : BitVec 32 × BitVec 32) : BitVec 32 × BitVec 32 :=
  (IntOp.addi p.1 p.2, IntOp.xori (IntOp.addi p.1 p.2) (IntOp.ori (IntOp.shli .host p.2 n) (IntOp.shrui .host p.2 n')))

/-- The two words after a key is added to each. -/
def addKey (a b : BitVec 32) (p : BitVec 32 × BitVec 32) : BitVec 32 × BitVec 32 := (p.1 + a, p.2 + b)

section
variable (h : S0.BroadcastsInDim S (![] : Fin 0 → Fin S.rank))

/-- The sum and the rotated word. -/
abbrev turn (n n' : BitVec 32) (x y s : Words sig S) (c : Words sig S0) (b l : Words sig S) (c' : Words sig S0) (b' r o : Words sig S) : List (HloOp τ sig (Elt F)) :=
  [TRef.binary x y s addi, TRef.nullary c (constantI S0 32 n), TRef.unary c b (broadcastInDim S ![] h), TRef.binary y b l Host.shli,
   TRef.nullary c' (constantI S0 32 n'), TRef.unary c' b' (broadcastInDim S ![] h), TRef.binary y b' r Host.shrui, TRef.binary l r o ori]

/-- A whole round, the sum first in the last operation, -/
abbrev round (n n' : BitVec 32) (x y s : Words sig S) (c : Words sig S0) (b l : Words sig S) (c' : Words sig S0) (b' r o z : Words sig S) : List (HloOp τ sig (Elt F)) :=
  turn h n n' x y s c b l c' b' r o ++ [TRef.binary s o z xori]
/-- or second. -/
abbrev round' (n n' : BitVec 32) (x y s : Words sig S) (c : Words sig S0) (b l : Words sig S) (c' : Words sig S0) (b' r o z : Words sig S) : List (HloOp τ sig (Elt F)) :=
  turn h n n' x y s c b l c' b' r o ++ [TRef.binary o s z xori]

/-- A key constant added to each word. -/
abbrev addConst (n n' : BitVec 32) (x y : Words sig S) (c : Words sig S0) (b x' : Words sig S) (c' : Words sig S0) (b' y' : Words sig S) : List (HloOp τ sig (Elt F)) :=
  [TRef.nullary c (constantI S0 32 n), TRef.unary c b (broadcastInDim S ![] h), TRef.binary x b x' addi,
   TRef.nullary c' (constantI S0 32 n'), TRef.unary c' b' (broadcastInDim S ![] h), TRef.binary y b' y' addi]

/-- A key held in a buffer added to each word, and the group's number to the second. -/
abbrev addHeld (n : BitVec 32) (k k' : Words sig S0) (x y b x' b' t : Words sig S) (c : Words sig S0) (b'' y' : Words sig S) : List (HloOp τ sig (Elt F)) :=
  [TRef.unary k b (broadcastInDim S ![] h), TRef.binary x b x' addi, TRef.unary k' b' (broadcastInDim S ![] h), TRef.binary y b' t addi,
   TRef.nullary c (constantI S0 32 n), TRef.unary c b'' (broadcastInDim S ![] h), TRef.binary t b'' y' addi]
end

/-- The whole cipher under the key `(0, 1)`. -/
abbrev cipher (p : BitVec 32 × BitVec 32) : BitVec 32 × BitVec 32 :=
  addKey 466688987#32 5#32 <| mix 6#32 26#32 <| mix 26#32 6#32 <| mix 15#32 17#32 <| mix 13#32 19#32 <|
  addKey 1#32 466688991#32 <| mix 24#32 8#32 <| mix 16#32 16#32 <| mix 29#32 3#32 <| mix 17#32 15#32 <|
  addKey 0#32 4#32 <| mix 6#32 26#32 <| mix 26#32 6#32 <| mix 15#32 17#32 <| mix 13#32 19#32 <|
  addKey 466688987#32 2#32 <| mix 24#32 8#32 <| mix 16#32 16#32 <| mix 29#32 3#32 <| mix 17#32 15#32 <|
  addKey 1#32 466688988#32 <| mix 6#32 26#32 <| mix 26#32 6#32 <| mix 15#32 17#32 <| mix 13#32 19#32 p

/-- The two words are held in `x` and `y`, and each key of `ks` in its buffer. -/
structure Holds (ks : List (Words sig S0 × BitVec 32)) (x y : Words sig S) (V : Valuation τ sig (Elt F)) (f : S.Idx → BitVec 32 × BitVec 32) : Prop where
  keys : ∀ k ∈ ks, ∀ i : S0.Idx, (got k.1 V : S0.Idx → BitVec 32) i = k.2
  words : ∀ j : S.Idx, ((got x V : S.Idx → BitVec 32) j, (got y V : S.Idx → BitVec 32) j) = f j

variable {ks : List (Words sig S0 × BitVec 32)} {V : Valuation τ sig (Elt F)} {f : S.Idx → BitVec 32 × BitVec 32}
  {h : S0.BroadcastsInDim S (![] : Fin 0 → Fin S.rank)}

/-- The references a stretch writes are none of the keys'. -/
def Apart (ks : List (Words sig S0 × BitVec 32)) (L : List (Ref sig .tc)) : Prop := ∀ k ∈ ks.map (·.1.ref), ∀ r ∈ L, k ≠ r
instance (ks : List (Words sig S0 × BitVec 32)) (L : List (Ref sig .tc)) : Decidable (Apart ks L) := by unfold Apart; infer_instance

theorem Holds.of_app {A B : List (HloOp τ sig (Elt F))} {x y : Words sig S} (H : Holds ks x y (after B (after A V)) f) : Holds ks x y (after (A ++ B) V) f := by
  rw [after_app]; exact H

theorem Holds.turn {x y s : Words sig S} {c : Words sig S0} {b l : Words sig S} {c' : Words sig S0} {b' r o : Words sig S} {n n' : BitVec 32}
    (H : Holds ks x y V f) (hd : [y.ref, s.ref, c.ref, b.ref, l.ref, c'.ref, b'.ref, r.ref, o.ref].Nodup)
    (hk : Apart ks [s.ref, c.ref, b.ref, l.ref, c'.ref, b'.ref, r.ref, o.ref]) :
    Holds ks s o (after (Threefry.turn h n n' x y s c b l c' b' r o) V) fun j => (IntOp.addi (f j).1 (f j).2, IntOp.ori (IntOp.shli .host (f j).2 n) (IntOp.shrui .host (f j).2 n')) := by
  simp only [List.nodup_cons, List.mem_cons, not_or, List.not_mem_nil, not_false_eq_true, List.nodup_nil, and_true] at hd
  refine ⟨fun k hkk i => ?_, fun j => ?_⟩
  · have hn := hk k.1.ref (List.mem_map_of_mem hkk)
    simp only [List.mem_cons, List.not_mem_nil, or_false, forall_eq_or_imp, forall_eq] at hn
    rw [← H.keys k hkk i]
    simp only [after_cons, after_nil]
    simp only [got_binary_ne, got_unary_ne, got_nullary_ne, ne_eq, hn, not_false_eq_true]
  · rw [← H.words j]
    simp only [after_cons, after_nil]
    simp only [got_binary, got_unary, got_nullary, got_binary_ne, got_unary_ne, got_nullary_ne, ne_eq, hd, not_false_eq_true]
    rfl

/-- The last operation of a round, the sum first; -/
theorem Holds.xor {s o z : Words sig S} (H : Holds ks s o V f) (hz : s.ref ≠ z.ref) (hk : Apart ks [z.ref]) :
    Holds ks s z (after [TRef.binary s o z xori] V) fun j => ((f j).1, IntOp.xori (f j).1 (f j).2) := by
  refine ⟨fun k hkk i => ?_, fun j => ?_⟩
  · have hn := hk k.1.ref (List.mem_map_of_mem hkk) z.ref List.mem_cons_self
    rw [← H.keys k hkk i, after_cons, after_nil, got_binary_ne _ _ _ _ _ hn]
  · rw [← H.words j, after_cons, after_nil, got_binary, got_binary_ne _ _ _ _ _ hz]; rfl

/-- or second. -/
theorem Holds.xor' {s o z : Words sig S} (H : Holds ks s o V f) (hz : s.ref ≠ z.ref) (hk : Apart ks [z.ref]) :
    Holds ks s z (after [TRef.binary o s z xori] V) fun j => ((f j).1, IntOp.xori (f j).1 (f j).2) := by
  refine ⟨fun k hkk i => ?_, fun j => ?_⟩
  · have hn := hk k.1.ref (List.mem_map_of_mem hkk) z.ref List.mem_cons_self
    rw [← H.keys k hkk i, after_cons, after_nil, got_binary_ne _ _ _ _ _ hn]
  · rw [← H.words j, after_cons, after_nil, got_binary, got_binary_ne _ _ _ _ _ hz]
    exact Prod.ext rfl (BitVec.xor_comm _ _)

theorem Holds.round {x y s : Words sig S} {c : Words sig S0} {b l : Words sig S} {c' : Words sig S0} {b' r o z : Words sig S} {n n' : BitVec 32}
    (H : Holds ks x y V f) (hd : [y.ref, s.ref, c.ref, b.ref, l.ref, c'.ref, b'.ref, r.ref, o.ref].Nodup) (hz : s.ref ≠ z.ref)
    (hk : Apart ks [s.ref, c.ref, b.ref, l.ref, c'.ref, b'.ref, r.ref, o.ref]) (hk' : Apart ks [z.ref]) :
    Holds ks s z (after (Threefry.round h n n' x y s c b l c' b' r o z) V) fun j => mix n n' (f j) := by
  rw [after_app]; exact (H.turn hd hk).xor hz hk'

theorem Holds.round' {x y s : Words sig S} {c : Words sig S0} {b l : Words sig S} {c' : Words sig S0} {b' r o z : Words sig S} {n n' : BitVec 32}
    (H : Holds ks x y V f) (hd : [y.ref, s.ref, c.ref, b.ref, l.ref, c'.ref, b'.ref, r.ref, o.ref].Nodup) (hz : s.ref ≠ z.ref)
    (hk : Apart ks [s.ref, c.ref, b.ref, l.ref, c'.ref, b'.ref, r.ref, o.ref]) (hk' : Apart ks [z.ref]) :
    Holds ks s z (after (Threefry.round' h n n' x y s c b l c' b' r o z) V) fun j => mix n n' (f j) := by
  rw [after_app]; exact (H.turn hd hk).xor' hz hk'

theorem Holds.addConst {x y : Words sig S} {c : Words sig S0} {b x' : Words sig S} {c' : Words sig S0} {b' y' : Words sig S} {n n' : BitVec 32}
    (H : Holds ks x y V f) (hd : [y.ref, x.ref, c.ref, b.ref, x'.ref, c'.ref, b'.ref, y'.ref].Nodup)
    (hk : Apart ks [c.ref, b.ref, x'.ref, c'.ref, b'.ref, y'.ref]) :
    Holds ks x' y' (after (Threefry.addConst h n n' x y c b x' c' b' y') V) fun j => addKey n n' (f j) := by
  simp only [List.nodup_cons, List.mem_cons, not_or, List.not_mem_nil, not_false_eq_true, List.nodup_nil, and_true] at hd
  refine ⟨fun k hkk i => ?_, fun j => ?_⟩
  · have hn := hk k.1.ref (List.mem_map_of_mem hkk)
    simp only [List.mem_cons, List.not_mem_nil, or_false, forall_eq_or_imp, forall_eq] at hn
    rw [← H.keys k hkk i]
    simp only [after_cons, after_nil]
    simp only [got_binary_ne, got_unary_ne, got_nullary_ne, ne_eq, hn, not_false_eq_true]
  · rw [← H.words j]
    simp only [after_cons, after_nil]
    simp only [got_binary, got_unary, got_nullary, got_binary_ne, got_unary_ne, got_nullary_ne, ne_eq, hd, not_false_eq_true]
    rfl

theorem Holds.addHeld {k k' : Words sig S0} {x y b x' b' t : Words sig S} {c : Words sig S0} {b'' y' : Words sig S} {n w w' v : BitVec 32}
    (H : Holds ks x y V f) (hm : (k, w) ∈ ks) (hm' : (k', w') ∈ ks) (hv : w' + n = v) (hd : [y.ref, x.ref, b.ref, x'.ref, b'.ref, t.ref, c.ref, b''.ref, y'.ref].Nodup)
    (hk : Apart ks [b.ref, x'.ref, b'.ref, t.ref, c.ref, b''.ref, y'.ref]) :
    Holds ks x' y' (after (Threefry.addHeld h n k k' x y b x' b' t c b'' y') V) fun j => addKey w v (f j) := by
  subst hv
  simp only [List.nodup_cons, List.mem_cons, not_or, List.not_mem_nil, not_false_eq_true, List.nodup_nil, and_true] at hd
  refine ⟨fun k hkk i => ?_, fun j => ?_⟩
  · have hn := hk k.1.ref (List.mem_map_of_mem hkk)
    simp only [List.mem_cons, List.not_mem_nil, or_false, forall_eq_or_imp, forall_eq] at hn
    rw [← H.keys k hkk i]
    simp only [after_cons, after_nil]
    simp only [got_binary_ne, got_unary_ne, got_nullary_ne, ne_eq, hn, not_false_eq_true]
  · have hn' := hk k'.ref (List.mem_map_of_mem hm')
    simp only [List.mem_cons, List.not_mem_nil, or_false, forall_eq_or_imp, forall_eq] at hn'
    rw [← H.words j]
    simp only [after_cons, after_nil]
    simp only [got_binary, got_unary, got_nullary, got_binary_ne, got_unary_ne, got_nullary_ne, ne_eq, hd, hn', not_false_eq_true]
    have e1 : broadcastInDim S ![] h (got k V : S0.Idx → BitVec 32) j = w := H.keys _ hm _
    have e2 : broadcastInDim S ![] h (got k' V : S0.Idx → BitVec 32) j = w' := H.keys _ hm' _
    refine Prod.ext ?_ ?_
    · show (got x V : S.Idx → BitVec 32) j + broadcastInDim S ![] h (got k V : S0.Idx → BitVec 32) j = _ + w
      rw [e1]
    · show ((got y V : S.Idx → BitVec 32) j + broadcastInDim S ![] h (got k' V : S0.Idx → BitVec 32) j) + n = _ + (w' + n)
      rw [e2, BitVec.add_assoc]

/-- The bits that the two words give. -/
theorem Holds.bits {x y : Words sig S} (H : Holds ks x y V f) :
    (xori (got x V : S.Idx → BitVec 32) (got y V : S.Idx → BitVec 32)) = fun j => IntOp.xori (f j).1 (f j).2 :=
  funext fun j => congrArg (fun p : BitVec 32 × BitVec 32 => IntOp.xori p.1 p.2) (H.words j)

/-! ## From a word to its noise -/

section
variable (h : S0.BroadcastsInDim S (![] : Fin 0 → Fin S.rank)) (w : S.Idx → BitVec 32)

/-- The fraction in `[0, 1)` made of the word's upper 23 bits. -/
def unit : S.Idx → F .f32 :=
  subf (φ := .f32) (bitcastToFloat .f32 (ori (Host.shrui w (broadcastInDim S ![] h (constantI S0 32 9#32))) (broadcastInDim S ![] h (constantI S0 32 1065353216#32))))
    (broadcastInDim S ![] h (constant S0 .f32 0x3F800000#32))

/-- Gumbel noise of the fraction `u`, which is first kept above the least normal number. -/
def gumbel (u : S.Idx → F .f32) : S.Idx → F .f32 :=
  Host.negf (φ := .f32) (Host.log (φ := .f32) (Host.negf (φ := .f32) (Host.log (φ := .f32) (maximumf (φ := .f32) u (broadcastInDim S ![] h (constant S0 .f32 0x00800000#32))))))
end

/-- The fraction of one word, and the noise of one fraction. -/
def unit1 (w : BitVec 32) : F .f32 := unit (S := S0) (by decide) (fun _ => w) fun a => a.elim0
def gumbel1 (u : F .f32) : F .f32 := gumbel (S := S0) (by decide) (fun _ => u) fun a => a.elim0

theorem unit_at (h : S0.BroadcastsInDim S (![] : Fin 0 → Fin S.rank)) (w : S.Idx → BitVec 32) (j : S.Idx) : unit (F := F) h w j = unit1 (w j) := rfl
theorem gumbel_at (h : S0.BroadcastsInDim S (![] : Fin 0 → Fin S.rank)) (u : S.Idx → F .f32) (j : S.Idx) : gumbel h u j = gumbel1 (u j) := rfl

end Cert.Threefry
-- ==== Proof.Table.lean ====
/-
  The kernel's table of noise: what the program computes before the region.
-/
module

public import proofs.«01_k».proof.Proof.KI.Run
public import proofs.«01_k».proof.Proof.Rounds

@[expose] public section

set_option maxRecDepth 16384

noncomputable section

namespace Cert.KernelIdeal.Hand

open Cert.KernelIdeal Cert.KernelIdeal.Gen Cert.Threefry
open Idealize.ShloMosaic Idealize.ShloMosaic.TcCoe Idealize.ShloMosaic.StableHlo

variable {F : FTy → Type} [FloatOps F]

abbrev hb : S_.BroadcastsInDim S100000x128 (![] : Fin 0 → Fin S100000x128.rank) := bcast_S_S100000x128

/-- The types of the buffers: the logits, words and reals of the table's shape, single words and reals. -/
abbrev X := TRef sig ⟨S128x100000, .f32⟩
abbrev W := Words sig S100000x128
abbrev R := TRef sig ⟨S100000x128, .f32⟩
abbrev C := Words sig S_
abbrev Cf := TRef sig ⟨S_, .f32⟩

/-- The logits are turned, and the counters set up. -/
abbrev opsTurn : List (HloOp τ sig (Elt F)) :=
  [TRef.unary (.of main_arg0 : X) (.of main_v0 : R) (transpose S100000x128 [1, 0] · transposes_S128x100000_S100000x128_1_0)]
abbrev opsStart : List (HloOp τ sig (Elt F)) :=
  [TRef.nullary (.of main_v1 : W) (iotaInDim S100000x128 32 1),
   TRef.nullary (.of main_c : C) (constantI S_ 32 100000#32),
   TRef.unary (.of main_c : C) (.of main_v2 : W) (broadcastInDim S100000x128 ![] hb),
   TRef.binary (.of main_v1 : W) (.of main_v2 : W) (.of main_v3 : W) muli,
   TRef.nullary (.of main_v4 : W) (iotaInDim S100000x128 32 0),
   TRef.binary (.of main_v3 : W) (.of main_v4 : W) (.of main_v5 : W) addi,
   TRef.nullary (.of main_c_0 : C) (constantI S_ 32 0#32),
   TRef.unary (.of main_c_0 : C) (.of main_v6 : W) (broadcastInDim S100000x128 ![] hb),
   TRef.nullary (.of main_c_1 : C) (constantI S_ 32 1#32),
   TRef.unary (.of main_c_1 : C) (.of main_v7 : W) (broadcastInDim S100000x128 ![] hb),
   TRef.binary (.of main_v5 : W) (.of main_v7 : W) (.of main_v8 : W) addi]
/-- The twenty rounds; -/
abbrev opsRounds : List (HloOp τ sig (Elt F)) :=
  round' hb 13#32 19#32 (.of main_v6) (.of main_v8) (.of main_v9) (.of main_c_2) (.of main_v10) (.of main_v11) (.of main_c_3) (.of main_v12) (.of main_v13) (.of main_v14) (.of main_v15) ++ (
  round' hb 15#32 17#32 (.of main_v9) (.of main_v15) (.of main_v16) (.of main_c_4) (.of main_v17) (.of main_v18) (.of main_c_5) (.of main_v19) (.of main_v20) (.of main_v21) (.of main_v22) ++ (
  round' hb 26#32 6#32 (.of main_v16) (.of main_v22) (.of main_v23) (.of main_c_6) (.of main_v24) (.of main_v25) (.of main_c_7) (.of main_v26) (.of main_v27) (.of main_v28) (.of main_v29) ++ (
  round' hb 6#32 26#32 (.of main_v23) (.of main_v29) (.of main_v30) (.of main_c_8) (.of main_v31) (.of main_v32) (.of main_c_9) (.of main_v33) (.of main_v34) (.of main_v35) (.of main_v36) ++ (
  addConst hb 1#32 466688988#32 (.of main_v30) (.of main_v36) (.of main_c_10) (.of main_v37) (.of main_v38) (.of main_c_11) (.of main_v39) (.of main_v40) ++ (
  round' hb 17#32 15#32 (.of main_v38) (.of main_v40) (.of main_v41) (.of main_c_12) (.of main_v42) (.of main_v43) (.of main_c_13) (.of main_v44) (.of main_v45) (.of main_v46) (.of main_v47) ++ (
  round' hb 29#32 3#32 (.of main_v41) (.of main_v47) (.of main_v48) (.of main_c_14) (.of main_v49) (.of main_v50) (.of main_c_15) (.of main_v51) (.of main_v52) (.of main_v53) (.of main_v54) ++ (
  round' hb 16#32 16#32 (.of main_v48) (.of main_v54) (.of main_v55) (.of main_c_16) (.of main_v56) (.of main_v57) (.of main_c_17) (.of main_v58) (.of main_v59) (.of main_v60) (.of main_v61) ++ (
  round' hb 24#32 8#32 (.of main_v55) (.of main_v61) (.of main_v62) (.of main_c_18) (.of main_v63) (.of main_v64) (.of main_c_19) (.of main_v65) (.of main_v66) (.of main_v67) (.of main_v68) ++ (
  addConst hb 466688987#32 2#32 (.of main_v62) (.of main_v68) (.of main_c_20) (.of main_v69) (.of main_v70) (.of main_c_21) (.of main_v71) (.of main_v72) ++ (
  round' hb 13#32 19#32 (.of main_v70) (.of main_v72) (.of main_v73) (.of main_c_22) (.of main_v74) (.of main_v75) (.of main_c_23) (.of main_v76) (.of main_v77) (.of main_v78) (.of main_v79) ++ (
  round' hb 15#32 17#32 (.of main_v73) (.of main_v79) (.of main_v80) (.of main_c_24) (.of main_v81) (.of main_v82) (.of main_c_25) (.of main_v83) (.of main_v84) (.of main_v85) (.of main_v86) ++ (
  round' hb 26#32 6#32 (.of main_v80) (.of main_v86) (.of main_v87) (.of main_c_26) (.of main_v88) (.of main_v89) (.of main_c_27) (.of main_v90) (.of main_v91) (.of main_v92) (.of main_v93) ++ (
  round' hb 6#32 26#32 (.of main_v87) (.of main_v93) (.of main_v94) (.of main_c_28) (.of main_v95) (.of main_v96) (.of main_c_29) (.of main_v97) (.of main_v98) (.of main_v99) (.of main_v100) ++ (
  addConst hb 0#32 4#32 (.of main_v94) (.of main_v100) (.of main_c_30) (.of main_v101) (.of main_v102) (.of main_c_31) (.of main_v103) (.of main_v104) ++ (
  round' hb 17#32 15#32 (.of main_v102) (.of main_v104) (.of main_v105) (.of main_c_32) (.of main_v106) (.of main_v107) (.of main_c_33) (.of main_v108) (.of main_v109) (.of main_v110) (.of main_v111) ++ (
  round' hb 29#32 3#32 (.of main_v105) (.of main_v111) (.of main_v112) (.of main_c_34) (.of main_v113) (.of main_v114) (.of main_c_35) (.of main_v115) (.of main_v116) (.of main_v117) (.of main_v118) ++ (
  round' hb 16#32 16#32 (.of main_v112) (.of main_v118) (.of main_v119) (.of main_c_36) (.of main_v120) (.of main_v121) (.of main_c_37) (.of main_v122) (.of main_v123) (.of main_v124) (.of main_v125) ++ (
  round' hb 24#32 8#32 (.of main_v119) (.of main_v125) (.of main_v126) (.of main_c_38) (.of main_v127) (.of main_v128) (.of main_c_39) (.of main_v129) (.of main_v130) (.of main_v131) (.of main_v132) ++ (
  addConst hb 1#32 466688991#32 (.of main_v126) (.of main_v132) (.of main_c_40) (.of main_v133) (.of main_v134) (.of main_c_41) (.of main_v135) (.of main_v136) ++ (
  round' hb 13#32 19#32 (.of main_v134) (.of main_v136) (.of main_v137) (.of main_c_42) (.of main_v138) (.of main_v139) (.of main_c_43) (.of main_v140) (.of main_v141) (.of main_v142) (.of main_v143) ++ (
  round' hb 15#32 17#32 (.of main_v137) (.of main_v143) (.of main_v144) (.of main_c_44) (.of main_v145) (.of main_v146) (.of main_c_45) (.of main_v147) (.of main_v148) (.of main_v149) (.of main_v150) ++ (
  round' hb 26#32 6#32 (.of main_v144) (.of main_v150) (.of main_v151) (.of main_c_46) (.of main_v152) (.of main_v153) (.of main_c_47) (.of main_v154) (.of main_v155) (.of main_v156) (.of main_v157) ++ (
  round' hb 6#32 26#32 (.of main_v151) (.of main_v157) (.of main_v158) (.of main_c_48) (.of main_v159) (.of main_v160) (.of main_c_49) (.of main_v161) (.of main_v162) (.of main_v163) (.of main_v164) ++ (
  addConst hb 466688987#32 5#32 (.of main_v158) (.of main_v164) (.of main_c_50) (.of main_v165) (.of main_v166) (.of main_c_51) (.of main_v167) (.of main_v168)))))))))))))))))))))))))
/-- and the noise of the words. -/
abbrev opsNoise : List (HloOp τ sig (Elt F)) :=
  [TRef.binary (.of main_v166 : W) (.of main_v168 : W) (.of main_v169 : W) xori,
   TRef.nullary (.of main_c_52 : C) (constantI S_ 32 9#32),
   TRef.unary (.of main_c_52 : C) (.of main_v170 : W) (broadcastInDim S100000x128 ![] hb),
   TRef.binary (.of main_v169 : W) (.of main_v170 : W) (.of main_v171 : W) Host.shrui,
   TRef.nullary (.of main_c_53 : C) (constantI S_ 32 1065353216#32),
   TRef.unary (.of main_c_53 : C) (.of main_v172 : W) (broadcastInDim S100000x128 ![] hb),
   TRef.binary (.of main_v171 : W) (.of main_v172 : W) (.of main_v173 : W) ori,
   TRef.unary (.of main_v173 : W) (.of main_v174 : R) (bitcastToFloat .f32),
   TRef.nullary (.of main_cst : Cf) (constant S_ .f32 0x3F800000#32),
   TRef.unary (.of main_cst : Cf) (.of main_v175 : R) (broadcastInDim S100000x128 ![] hb),
   TRef.binary (.of main_v174 : R) (.of main_v175 : R) (.of main_v176 : R) subf,
   TRef.nullary (.of main_cst_54 : Cf) (constant S_ .f32 0x00800000#32),
   TRef.unary (.of main_cst_54 : Cf) (.of main_v177 : R) (broadcastInDim S100000x128 ![] hb),
   TRef.binary (.of main_v176 : R) (.of main_v177 : R) (.of main_v178 : R) maximumf,
   TRef.unary (.of main_v178 : R) (.of main_v179 : R) Host.log,
   TRef.unary (.of main_v179 : R) (.of main_v180 : R) Host.negf,
   TRef.unary (.of main_v180 : R) (.of main_v181 : R) Host.log,
   TRef.unary (.of main_v181 : R) (.of main_v182 : R) Host.negf]

theorem ops_split : (hostOps0 : List (HloOp τ sig (Elt F))) = opsTurn ++ (opsStart ++ (opsRounds ++ opsNoise)) := by
  rfl

/-- The two words of each entry before the first round: the entry's number in the noise of the whole, plus one. -/
def words0 (j : S100000x128.Idx) : BitVec 32 × BitVec 32 :=
  (0#32, BitVec.ofNat 32 (j 1).val * 100000#32 + BitVec.ofNat 32 (j 0).val + 1#32)

theorem holds_start (V : Valuation τ sig (Elt F)) : Holds [] (.of main_v6 : W) (.of main_v8 : W) (after opsStart V) words0 := by
  refine ⟨fun k hk => absurd hk List.not_mem_nil, fun j => ?_⟩
  simp only [after_cons, after_nil]
  simp (disch := decide) only [got_binary, got_unary, got_nullary, got_binary_ne, got_unary_ne, got_nullary_ne]
  rfl

theorem holds_end (V : Valuation τ sig (Elt F)) :
    Holds [] (.of main_v166 : W) (.of main_v168 : W) (after opsRounds (after opsStart V)) fun j => cipher (words0 j) := by
  have H := holds_start (F := F) V
  iterate 24 refine Holds.of_app ?_
  iterate 5
    refine Holds.addConst ?_ (by decide) (by decide)
    iterate 4 refine Holds.round' ?_ (by decide) (by decide) (by decide) (by decide)
  exact H

theorem noise_read (V : Valuation τ sig (Elt F)) :
    (got (.of main_v182 : R) (after opsNoise V) : S100000x128.Idx → F .f32) = gumbel hb (unit hb (xori (got (.of main_v166 : W) V) (got (.of main_v168 : W) V))) := by
  simp only [after_cons, after_nil]
  simp (disch := decide) only [got_binary, got_unary, got_nullary, got_binary_ne, got_unary_ne, got_nullary_ne]
  rfl

/-- The random bits of each entry. -/
def bits (j : S100000x128.Idx) : BitVec 32 := IntOp.xori (cipher (words0 j)).1 (cipher (words0 j)).2

variable (m : (ℓ : Loc nD τ sig) → Buf (Elt F) ℓ)

/-- The transposed logits, as the region finds them; -/
theorem Xin_eq (c : Dev nD) : Xin m c = transpose S100000x128 [1, 0] (m ((c.tc : Thread nD τ).loc main_arg0) : S128x100000.Idx → Elt F .f32) transposes_S128x100000_S100000x128_1_0 :=
  after_of_forall_not_mem (b := Proc.devRef .tc main_v0) (hostOps0 (F := F)).tail (after opsTurn fun b => m (c, b)) (List.forall_iff_forall_mem.mp (by
    simp only [hostOps0, List.tail_cons, List.Forall, nullary_writes, unary_writes, binary_writes, Finset.mem_singleton]
    repeat' apply And.intro
    all_goals exact devRef_ne_of_ne (by decide)))

/-- and the table. -/
theorem Gin_eq (c : Dev nD) : Gin m c = gumbel hb (unit hb bits) := by
  have e : Gin m c = got (.of main_v182 : R) (after (hostOps0 (F := F)) fun b => m (c, b)) := rfl
  rw [e, ops_split, after_app, after_app, after_app, noise_read]
  exact congrArg (fun w => gumbel hb (unit hb w)) (holds_end (after opsTurn fun b => m (c, b))).bits

end Cert.KernelIdeal.Hand
-- ==== Proof.RefOps.lean ====
/-
  The reference's operations, cut where the proof reads them.
-/
module

public import proofs.«01_k».proof.Defs
public import proofs.«01_k».proof.Proof.Gen.ReferenceIdeal
public import proofs.«01_k».proof.Proof.Rounds
public import Idealize.ShloMosaic.Lib.StableHlo.RunHlo

@[expose] public section

set_option maxRecDepth 16384

noncomputable section

namespace Cert.ReferenceIdeal.Hand

open Cert.ReferenceIdeal Cert.ReferenceIdeal.Gen Cert.Threefry
open Idealize.ShloMosaic Idealize.ShloMosaic.TcCoe Idealize.ShloMosaic.StableHlo Idealize.SL.Sem

variable {F : FTy → Type} [FloatOps F]

abbrev hs : S_.BroadcastsInDim S128x100000 (![] : Fin 0 → Fin S128x100000.rank) := bcast_S_S128x100000

/-- The types of the buffers. -/
abbrev Rs := TRef sig ⟨S_, .f32⟩
abbrev Ws := TRef sig ⟨S_, .i32⟩
abbrev R1 := TRef sig ⟨S128, .f32⟩
abbrev Rc := TRef sig ⟨S128x1, .f32⟩
abbrev Rm := TRef sig ⟨S128x100000, .f32⟩
abbrev W1 := TRef sig ⟨S1, .i32⟩
abbrev W2 := TRef sig ⟨S2, .i32⟩
abbrev Wm := TRef sig ⟨S128x100000, .i32⟩

/-- The probabilities; -/
abbrev opsProbs : List (HloOp τ sig (Elt F)) :=
  [StableHlo.nullary main_cst (constant S_ .f32 0xFF800000#32),
   StableHlo.binary main_arg0 main_cst main_v0 (fun x v => Host.reduce FloatOps.maximumf x v reducesTo_S128x100000_S128_d1 h_S_),
   StableHlo.nullary main_cst_0 (constant S_ .f32 0xFF800000#32),
   StableHlo.unary main_cst_0 main_v1 (broadcastInDim S128 ![] bcast_S_S128),
   StableHlo.binary main_v1 main_v0 main_v2 maximumf,
   StableHlo.unary main_v2 main_v3 (broadcastInDim S128x1 ![0] bcast_S128_S128x1_0),
   StableHlo.unary main_v3 main_v4 (broadcastInDim S128x100000 ![0, 1] bcast_S128x1_S128x100000_0_1),
   StableHlo.binary main_arg0 main_v4 main_v5 subf,
   StableHlo.unary main_v5 main_v6 Host.exp,
   StableHlo.nullary main_cst_1 (constant S_ .f32 0x00000000#32),
   StableHlo.binary main_v6 main_cst_1 main_v7 (fun x v => Host.reduceAdd x v reducesTo_S128x100000_S128_d1 h_S_),
   StableHlo.unary main_v7 main_v8 (broadcastInDim S128x1 ![0] bcast_S128_S128x1_0),
   StableHlo.unary main_v8 main_v9 (broadcastInDim S128x100000 ![0, 1] bcast_S128x1_S128x100000_0_1),
   StableHlo.binary main_v6 main_v9 main_v10 Host.divf,
   StableHlo.nullary main_cst_2 (constant S_ .f32 0x3F800000#32),
   StableHlo.unary main_cst_2 main_v11 (broadcastInDim S128x100000 ![] bcast_S_S128x100000),
   StableHlo.binary main_v11 main_v10 main_v12 mulf,
   StableHlo.nullary main_cst_3 (constant S_ .f32 0x00000000#32),
   StableHlo.binary main_v12 main_cst_3 main_v13 (fun x v => Host.reduceAdd x v reducesTo_S128x100000_S128_d1 h_S_),
   StableHlo.unary main_v13 main_v14 (broadcastInDim S128x1 ![0] bcast_S128_S128x1_0),
   StableHlo.unary main_v14 main_v15 (broadcastInDim S128x100000 ![0, 1] bcast_S128x1_S128x100000_0_1),
   StableHlo.binary main_v12 main_v15 main_v16 Host.divf]
/-- the random key; -/
abbrev opsKey : List (HloOp τ sig (Elt F)) :=
  [StableHlo.nullary main_c (constantI S_ 32 1#32),
   StableHlo.nullary main_c_4 (constantI S_ 32 32#32),
   StableHlo.binary main_c main_c_4 main_v17 Host.shrui,
   StableHlo.unary main_v17 main_v18 id,
   StableHlo.unary main_v18 main_v19 (broadcastInDim S1 ![] bcast_S_S1),
   StableHlo.nullary main_c_5 (constantI S_ 32 4294967295#32),
   StableHlo.binary main_c main_c_5 main_v20 andi,
   StableHlo.unary main_v20 main_v21 id,
   StableHlo.unary main_v21 main_v22 (broadcastInDim S1 ![] bcast_S_S1),
   StableHlo.binary main_v19 main_v22 main_v23 (fun a b => concatenate S2 0 [⟨S1, a⟩, ⟨S1, b⟩] concatenates_S1_S1_S2_d0),
   StableHlo.nullary main_cst_6 (constant S_ .f32 0x00000000#32),
   StableHlo.nullary main_cst_7 (constant S_ .f32 0x3F800000#32)]
/-- the counters; -/
abbrev opsCount (arg0 : W2) (arg1 arg2 : Rs) (φ : fn_uniform.Bufs) : List (HloOp τ sig (Elt F)) :=
  [TRef.unary arg1 φ.v0 id,
   TRef.unary arg2 φ.v1 id,
   TRef.unary φ.v0 φ.v2 (broadcastInDim S1x1 ![] bcast_S_S1x1),
   TRef.unary φ.v1 φ.v3 (broadcastInDim S1x1 ![] bcast_S_S1x1),
   TRef.unary arg0 φ.v4 (extractStridedSlice S1 ![0] · slices_S2_S1_0),
   TRef.reshape φ.v4 φ.v5 (rfl : (.i32 : EltTy) = .i32) shapeCasts_S1_S_,
   TRef.unary arg0 φ.v6 (extractStridedSlice S1 ![1] · slices_S2_S1_1),
   TRef.reshape φ.v6 φ.v7 (rfl : (.i32 : EltTy) = .i32) shapeCasts_S1_S_,
   TRef.nullary φ.v8 (iotaInDim S128x100000 64 0),
   TRef.nullary φ.v9 (iotaInDim S128x100000 64 1),
   TRef.nullary φ.c (constantI S_ 64 100000#64),
   TRef.unary φ.c φ.v10 (broadcastInDim S128x100000 ![] bcast_S_S128x100000),
   TRef.binary φ.v10 φ.v8 φ.v11 muli,
   TRef.nullary φ.c_0 (constantI S_ 64 1#64),
   TRef.unary φ.c_0 φ.v12 (broadcastInDim S128x100000 ![] bcast_S_S128x100000),
   TRef.binary φ.v12 φ.v9 φ.v13 muli,
   TRef.binary φ.v11 φ.v13 φ.v14 addi,
   TRef.nullary φ.c_1 (constantI S_ 64 32#64),
   TRef.unary φ.c_1 φ.v15 (broadcastInDim S128x100000 ![] bcast_S_S128x100000),
   TRef.binary φ.v14 φ.v15 φ.v16 Host.shrui,
   TRef.unary φ.v14 φ.v17 (trunci 32 · natLt_32_64),
   TRef.unary φ.v16 φ.v18 (trunci 32 · natLt_32_64)]
/-- the cipher's start; -/
abbrev opsStart (arg0 arg1 : Ws) (arg2 arg3 : Wm) (φ : fn_threefry2x32.Bufs) : List (HloOp τ sig (Elt F)) :=
  [TRef.binary arg0 arg1 φ.v0 xori,
   TRef.nullary φ.c (constantI S_ 32 466688986#32),
   TRef.binary φ.v0 φ.c φ.v1 xori,
   TRef.unary arg0 φ.v2 (broadcastInDim S128x100000 ![] bcast_S_S128x100000),
   TRef.binary arg2 φ.v2 φ.v3 addi,
   TRef.unary arg1 φ.v4 (broadcastInDim S128x100000 ![] bcast_S_S128x100000),
   TRef.binary arg3 φ.v4 φ.v5 addi]
/-- its rounds; -/
abbrev opsRounds (arg0 arg1 : Ws) (φ : fn_threefry2x32.Bufs) : List (HloOp τ sig (Elt F)) :=
  round hs 13#32 19#32 φ.v3 φ.v5 φ.v6 φ.c_0 φ.v7 φ.v8 φ.c_1 φ.v9 φ.v10 φ.v11 φ.v12 ++ (
  round hs 15#32 17#32 φ.v6 φ.v12 φ.v13 φ.c_2 φ.v14 φ.v15 φ.c_3 φ.v16 φ.v17 φ.v18 φ.v19 ++ (
  round hs 26#32 6#32 φ.v13 φ.v19 φ.v20 φ.c_4 φ.v21 φ.v22 φ.c_5 φ.v23 φ.v24 φ.v25 φ.v26 ++ (
  round hs 6#32 26#32 φ.v20 φ.v26 φ.v27 φ.c_6 φ.v28 φ.v29 φ.c_7 φ.v30 φ.v31 φ.v32 φ.v33 ++ (
  addHeld hs 1#32 arg1 φ.v1 φ.v27 φ.v33 φ.v34 φ.v35 φ.v36 φ.v37 φ.c_8 φ.v38 φ.v39 ++ (
  round hs 17#32 15#32 φ.v35 φ.v39 φ.v40 φ.c_9 φ.v41 φ.v42 φ.c_10 φ.v43 φ.v44 φ.v45 φ.v46 ++ (
  round hs 29#32 3#32 φ.v40 φ.v46 φ.v47 φ.c_11 φ.v48 φ.v49 φ.c_12 φ.v50 φ.v51 φ.v52 φ.v53 ++ (
  round hs 16#32 16#32 φ.v47 φ.v53 φ.v54 φ.c_13 φ.v55 φ.v56 φ.c_14 φ.v57 φ.v58 φ.v59 φ.v60 ++ (
  round hs 24#32 8#32 φ.v54 φ.v60 φ.v61 φ.c_15 φ.v62 φ.v63 φ.c_16 φ.v64 φ.v65 φ.v66 φ.v67 ++ (
  addHeld hs 2#32 φ.v1 arg0 φ.v61 φ.v67 φ.v68 φ.v69 φ.v70 φ.v71 φ.c_17 φ.v72 φ.v73 ++ (
  round hs 13#32 19#32 φ.v69 φ.v73 φ.v74 φ.c_18 φ.v75 φ.v76 φ.c_19 φ.v77 φ.v78 φ.v79 φ.v80 ++ (
  round hs 15#32 17#32 φ.v74 φ.v80 φ.v81 φ.c_20 φ.v82 φ.v83 φ.c_21 φ.v84 φ.v85 φ.v86 φ.v87 ++ (
  round hs 26#32 6#32 φ.v81 φ.v87 φ.v88 φ.c_22 φ.v89 φ.v90 φ.c_23 φ.v91 φ.v92 φ.v93 φ.v94 ++ (
  round hs 6#32 26#32 φ.v88 φ.v94 φ.v95 φ.c_24 φ.v96 φ.v97 φ.c_25 φ.v98 φ.v99 φ.v100 φ.v101 ++ (
  addHeld hs 3#32 arg0 arg1 φ.v95 φ.v101 φ.v102 φ.v103 φ.v104 φ.v105 φ.c_26 φ.v106 φ.v107 ++ (
  round hs 17#32 15#32 φ.v103 φ.v107 φ.v108 φ.c_27 φ.v109 φ.v110 φ.c_28 φ.v111 φ.v112 φ.v113 φ.v114 ++ (
  round hs 29#32 3#32 φ.v108 φ.v114 φ.v115 φ.c_29 φ.v116 φ.v117 φ.c_30 φ.v118 φ.v119 φ.v120 φ.v121 ++ (
  round hs 16#32 16#32 φ.v115 φ.v121 φ.v122 φ.c_31 φ.v123 φ.v124 φ.c_32 φ.v125 φ.v126 φ.v127 φ.v128 ++ (
  round hs 24#32 8#32 φ.v122 φ.v128 φ.v129 φ.c_33 φ.v130 φ.v131 φ.c_34 φ.v132 φ.v133 φ.v134 φ.v135 ++ (
  addHeld hs 4#32 arg1 φ.v1 φ.v129 φ.v135 φ.v136 φ.v137 φ.v138 φ.v139 φ.c_35 φ.v140 φ.v141 ++ (
  round hs 13#32 19#32 φ.v137 φ.v141 φ.v142 φ.c_36 φ.v143 φ.v144 φ.c_37 φ.v145 φ.v146 φ.v147 φ.v148 ++ (
  round hs 15#32 17#32 φ.v142 φ.v148 φ.v149 φ.c_38 φ.v150 φ.v151 φ.c_39 φ.v152 φ.v153 φ.v154 φ.v155 ++ (
  round hs 26#32 6#32 φ.v149 φ.v155 φ.v156 φ.c_40 φ.v157 φ.v158 φ.c_41 φ.v159 φ.v160 φ.v161 φ.v162 ++ (
  round hs 6#32 26#32 φ.v156 φ.v162 φ.v163 φ.c_42 φ.v164 φ.v165 φ.c_43 φ.v166 φ.v167 φ.v168 φ.v169 ++ (
  addHeld hs 5#32 φ.v1 arg0 φ.v163 φ.v169 φ.v170 φ.v171 φ.v172 φ.v173 φ.c_44 φ.v174 φ.v175))))))))))))))))))))))))
/-- the uniform variate of the words; -/
abbrev opsUnit (φ : fn_uniform.Bufs) : List (HloOp τ sig (Elt F)) :=
  [TRef.binary φ.call0.v171 φ.call0.v175 φ.v20 xori,
   TRef.nullary φ.c_2 (constantI S_ 32 9#32),
   TRef.unary φ.c_2 φ.v21 (broadcastInDim S128x100000 ![] bcast_S_S128x100000),
   TRef.binary φ.v20 φ.v21 φ.v22 Host.shrui,
   TRef.nullary φ.c_3 (constantI S_ 32 1065353216#32),
   TRef.unary φ.c_3 φ.v23 (broadcastInDim S128x100000 ![] bcast_S_S128x100000),
   TRef.binary φ.v22 φ.v23 φ.v24 ori,
   TRef.unary φ.v24 φ.v25 (bitcastToFloat .f32),
   TRef.nullary φ.cst (constant S_ .f32 0x3F800000#32),
   TRef.unary φ.cst φ.v26 (broadcastInDim S128x100000 ![] bcast_S_S128x100000),
   TRef.binary φ.v25 φ.v26 φ.v27 subf,
   TRef.binary φ.v3 φ.v2 φ.v28 subf,
   TRef.unary φ.v28 φ.v29 (broadcastInDim S128x100000 ![0, 1] bcast_S1x1_S128x100000_0_1),
   TRef.binary φ.v27 φ.v29 φ.v30 mulf,
   TRef.unary φ.v2 φ.v31 (broadcastInDim S128x100000 ![0, 1] bcast_S1x1_S128x100000_0_1),
   TRef.binary φ.v30 φ.v31 φ.v32 addf,
   TRef.unary φ.v2 φ.v33 (broadcastInDim S128x100000 ![0, 1] bcast_S1x1_S128x100000_0_1),
   TRef.binary φ.v33 φ.v32 φ.v34 maximumf]
/-- the scores; -/
abbrev opsScore : List (HloOp τ sig (Elt F)) :=
  [StableHlo.nullary main_cst_8 (constant S_ .f32 0x00800000#32),
   StableHlo.unary main_cst_8 main_v25 (broadcastInDim S128x100000 ![] bcast_S_S128x100000),
   StableHlo.binary main_v24 main_v25 main_v26 maximumf,
   StableHlo.unary main_v26 main_v27 Host.log,
   StableHlo.unary main_v27 main_v28 Host.negf,
   StableHlo.unary main_v28 main_v29 Host.log,
   StableHlo.unary main_v29 main_v30 Host.negf,
   StableHlo.unary main_v16 main_v31 Host.log,
   StableHlo.binary main_v31 main_v30 main_v32 addf]
/-- and the best of each row. -/
abbrev opsBest (arg0 : Rm) (φ : fn_argmax.Bufs) : List (HloOp τ sig (Elt F)) :=
  [TRef.nullary φ.v0 (iotaInDim S128x100000 32 1),
   TRef.nullary φ.cst (constant S_ .f32 0xFF800000#32),
   TRef.nullary φ.c (constantI S_ 32 0#32),
   TRef.quaternary arg0 φ.v0 φ.cst φ.c φ.v1_0 (fun x y u v j => (Host.argReduce reducer_argmax_f32_i32 x y u v reducesTo_S128x100000_S128_d1 h_S_ j).1),
   TRef.quaternary arg0 φ.v0 φ.cst φ.c φ.v1_1 (fun x y u v j => (Host.argReduce reducer_argmax_f32_i32 x y u v reducesTo_S128x100000_S128_d1 h_S_ j).2)]

/-- A straight line before another is one line. -/
theorem seq_then {p k : Prog (TpuEff nD τ sig (Elt F) (Pipeline.Sig Λ₀ (Fin 0) fun p => (pcfgs (F := F) p).Adm) .tc) PUnit} {A B : List (HloOp τ sig (Elt F))}
    (hp : p = seq A) (hk : IsSeq k B) : IsSeq (p >>= fun _ => k) (A ++ B) := by
  unfold IsSeq at hk ⊢; rw [hp, hk, seq_append]

theorem seq_op {k : Prog (TpuEff nD τ sig (Elt F) (Pipeline.Sig Λ₀ (Fin 0) fun p => (pcfgs (F := F) p).Adm) .tc) PUnit} {o : HloOp τ sig (Elt F)} {A B : List (HloOp τ sig (Elt F))}
    (hk : IsSeq k (A ++ B)) : IsSeq ((hlo rfl o fun _ => .ret (⟨⟩ : PUnit)) >>= fun _ => k) ((o :: A) ++ B) := IsSeq.cons hk

theorem threefry_seq (arg0 arg1 : Ws) (arg2 arg3 : Wm) (φ : fn_threefry2x32.Bufs) :
    fn_threefry2x32.body (F := F) arg0 arg1 arg2 arg3 φ = seq (opsStart arg0 arg1 arg2 arg3 φ ++ opsRounds arg0 arg1 φ) := by
  rfl

/-- The uniform variate, whole. -/
abbrev opsUniform (arg0 : W2) (arg1 arg2 : Rs) (φ : fn_uniform.Bufs) : List (HloOp τ sig (Elt F)) :=
  opsCount arg0 arg1 arg2 φ ++ ((opsStart φ.v5 φ.v7 φ.v18 φ.v17 φ.call0 ++ opsRounds φ.v5 φ.v7 φ.call0) ++ opsUnit φ)

theorem uniform_seq (arg0 : W2) (arg1 arg2 : Rs) (φ : fn_uniform.Bufs) :
    fn_uniform.body (F := F) arg0 arg1 arg2 φ = seq (opsUniform arg0 arg1 arg2 φ) := by
  show IsSeq _ _
  unfold fn_uniform.body
  iterate 22 refine seq_op ?_
  rw [List.nil_append]
  refine seq_then (threefry_seq _ _ _ _ _) ?_
  repeat first | exact IsSeq.nil | apply IsSeq.cons

theorem argmax_seq (arg0 : Rm) (φ : fn_argmax.Bufs) : fn_argmax.body (F := F) arg0 φ = seq (opsBest arg0 φ) := by
  show IsSeq _ _
  unfold fn_argmax.body
  repeat first | exact IsSeq.nil | apply IsSeq.cons

/-- The whole program. -/
abbrev ops : List (HloOp τ sig (Elt F)) :=
  opsProbs ++ (opsKey ++ (opsUniform (.of main_v23) (.of main_cst_6) (.of main_cst_7) main_call0 ++ (opsScore ++ (opsBest (.of main_v32) main_call1 ++ []))))

theorem main_seq (d : Dev nD) : IsSeq (main (F := F) d) ops := by
  unfold main
  iterate 22 refine seq_op ?_
  rw [List.nil_append]
  iterate 12 refine seq_op ?_
  rw [List.nil_append]
  refine seq_then (uniform_seq _ _ _ _) ?_
  iterate 9 refine seq_op ?_
  rw [List.nil_append]
  refine seq_then (argmax_seq _ _) ?_
  exact IsSeq.nil

end Cert.ReferenceIdeal.Hand
-- ==== Proof.Ref.lean ====
/-
  The reference's results as functions of its argument.
-/
module

public import proofs.«01_k».proof.Defs
public import proofs.«01_k».proof.Proof.Gen.ReferenceIdeal
public import proofs.«01_k».proof.Proof.RefOps

@[expose] public section

set_option maxRecDepth 16384

noncomputable section

namespace Cert.ReferenceIdeal.Hand

open Cert.ReferenceIdeal Cert.ReferenceIdeal.Gen Cert.Threefry
open Idealize.ShloMosaic Idealize.ShloMosaic.TcCoe Idealize.ShloMosaic.StableHlo Idealize.SL.Sem

variable {F : FTy → Type} [FloatOps F]

/-- The second components of an array of pairs. -/
def seconds {ι α β : Type} (f : ι → α × β) : ι → β := fun j => (f j).2
theorem seconds_at {ι α β : Type} (f : ι → α × β) (j : ι) : seconds f j = (f j).2 := rfl

section
variable (s : S128x100000.Idx → F .f32)

/-- A row value spread along its row. -/
def spread (v : S128.Idx → F .f32) : S128x100000.Idx → F .f32 :=
  broadcastInDim S128x100000 ![0, 1] bcast_S128x1_S128x100000_0_1 (broadcastInDim S128x1 ![0] bcast_S128_S128x1_0 v)
/-- The rows' maxima; -/
def rmax : S128.Idx → F .f32 :=
  maximumf (φ := .f32) (broadcastInDim S128 ![] bcast_S_S128 (constant S_ .f32 0xFF800000#32)) (Host.reduce FloatOps.maximumf s (constant S_ .f32 0xFF800000#32) reducesTo_S128x100000_S128_d1 h_S_)
/-- the exponentials; -/
def rexp : S128x100000.Idx → F .f32 := Host.exp (φ := .f32) (subf (φ := .f32) s (spread (rmax s)))
/-- a row's sum; -/
def rsum (v : S128x100000.Idx → F .f32) : S128.Idx → F .f32 := Host.reduceAdd (φ := .f32) v (constant S_ .f32 0x00000000#32) reducesTo_S128x100000_S128_d1 h_S_
/-- the softmax times one; -/
def rsoft : S128x100000.Idx → F .f32 :=
  mulf (φ := .f32) (broadcastInDim S128x100000 ![] bcast_S_S128x100000 (constant S_ .f32 0x3F800000#32)) (Host.divf (φ := .f32) (rexp s) (spread (rsum (rexp s))))
/-- the probabilities. -/
def rprobs : S128x100000.Idx → F .f32 := Host.divf (φ := .f32) (rsoft s) (spread (rsum (rsoft s)))
/-- The scores of the draw, given the noise; -/
def rscore (g : S128x100000.Idx → F .f32) : S128x100000.Idx → F .f32 :=
  addf (φ := .f32) (Host.log (φ := .f32) (rprobs s)) g
/-- each row's best score, with its column; -/
def rbest (g : S128x100000.Idx → F .f32) : S128.Idx → F .f32 × BitVec 32 :=
  Host.argReduce reducer_argmax_f32_i32 (rscore s g) (iotaInDim S128x100000 32 1) (constant S_ .f32 0xFF800000#32) (constantI S_ 32 0#32) reducesTo_S128x100000_S128_d1 h_S_
/-- and that column alone. -/
def ract (g : S128x100000.Idx → F .f32) : S128.Idx → BitVec 32 := seconds (rbest s g)
end

/-- A row-major counter from zero, 64 bits wide; -/
def count64 (j : S128x100000.Idx) : BitVec 64 := 100000#64 * BitVec.ofNat 64 (j 0).val + 1#64 * BitVec.ofNat 64 (j 1).val
/-- its upper and lower halves, each with its key added; -/
def rwords (j : S128x100000.Idx) : BitVec 32 × BitVec 32 := ((IntOp.shrui .host (count64 j) 32#64).setWidth 32 + 0#32, (count64 j).setWidth 32 + 1#32)
/-- the random bits; -/
def rbits (j : S128x100000.Idx) : BitVec 32 := IntOp.xori (cipher (rwords j)).1 (cipher (rwords j)).2
/-- a fraction stretched from `[0, 1)` to `[lo, hi)`; -/
def stretch (lo hi : S1x1.Idx → F .f32) (u : S128x100000.Idx → F .f32) : S128x100000.Idx → F .f32 :=
  maximumf (φ := .f32) (broadcastInDim S128x100000 ![0, 1] bcast_S1x1_S128x100000_0_1 lo)
    (addf (φ := .f32) (mulf (φ := .f32) u (broadcastInDim S128x100000 ![0, 1] bcast_S1x1_S128x100000_0_1 (subf (φ := .f32) hi lo)))
      (broadcastInDim S128x100000 ![0, 1] bcast_S1x1_S128x100000_0_1 lo))
/-- and the noise. -/
def rnoise : S128x100000.Idx → F .f32 :=
  gumbel hs (stretch (broadcastInDim S1x1 ![] bcast_S_S1x1 (constant S_ .f32 0x00000000#32)) (broadcastInDim S1x1 ![] bcast_S_S1x1 (constant S_ .f32 0x3F800000#32)) (unit hs rbits))

end Cert.ReferenceIdeal.Hand
-- ==== Proof.RefRead.lean ====
/-
  What each stretch of the reference's operations leaves in the buffers that the next one reads.
-/
module

public import proofs.«01_k».proof.Proof.Ref
public import Idealize.ShloMosaic.Lib.Pointwise

@[expose] public section

set_option maxRecDepth 16384
set_option maxHeartbeats 2000000

noncomputable section

namespace Cert.ReferenceIdeal.Hand

open Cert.ReferenceIdeal Cert.ReferenceIdeal.Gen Cert.Threefry
open Idealize.ShloMosaic Idealize.ShloMosaic.TcCoe Idealize.ShloMosaic.StableHlo Idealize.SL.Sem

variable {F : FTy → Type} [FloatOps F] (V : Valuation τ sig (Elt F))

/-- The buffers of the uniform variate, and of its cipher. -/
abbrev φu : fn_uniform.Bufs := main_call0
abbrev φt : fn_threefry2x32.Bufs := main_call0.call0
/-- The operations of the uniform variate, cut in four. -/
abbrev uCount : List (HloOp τ sig (Elt F)) := opsCount (.of main_v23) (.of main_cst_6) (.of main_cst_7) φu
abbrev uStart : List (HloOp τ sig (Elt F)) := opsStart φu.v5 φu.v7 φu.v18 φu.v17 φt
abbrev uRounds : List (HloOp τ sig (Elt F)) := opsRounds φu.v5 φu.v7 φt
abbrev uUnit : List (HloOp τ sig (Elt F)) := opsUnit φu
abbrev uBest : List (HloOp τ sig (Elt F)) := opsBest (.of main_v32) main_call1

theorem probs_read : (after opsProbs V (Proc.devRef .tc main_v16) : S128x100000.Idx → F .f32) = rprobs (V (Proc.devRef .tc main_arg0)) := by
  after_results
  rfl

theorem score_read : (after opsScore V (Proc.devRef .tc main_v32) : S128x100000.Idx → F .f32)
    = addf (φ := .f32) (Host.log (φ := .f32) (V (Proc.devRef .tc main_v16) : S128x100000.Idx → F .f32)) (gumbel hs (V (Proc.devRef .tc main_v24) : S128x100000.Idx → F .f32)) := by
  after_results
  rfl

theorem unit_read : (got φu.v34 (after uUnit V) : S128x100000.Idx → F .f32)
    = stretch (got φu.v2 V) (got φu.v3 V) (unit hs (xori (got φt.v171 V : S128x100000.Idx → BitVec 32) (got φt.v175 V))) := by
  simp only [after_cons, after_nil]
  simp (disch := decide) only [got_binary, got_unary, got_nullary, got_binary_ne, got_unary_ne, got_nullary_ne]
  rfl

theorem best_read : (after uBest V (Proc.devRef .tc main_v33) : S128.Idx → BitVec 32)
    = seconds (Host.argReduce reducer_argmax_f32_i32 (V (Proc.devRef .tc main_v32) : S128x100000.Idx → F .f32) (iotaInDim S128x100000 32 1) (constant S_ .f32 0xFF800000#32) (constantI S_ 32 0#32)
        reducesTo_S128x100000_S128_d1 h_S_) := by
  after_results
  rfl

/-- The key is zero and one. -/
theorem key_read : (after opsKey V (Proc.devRef .tc main_v23) : S2.Idx → BitVec 32) (ix1 (0 : Fin 2)) = 0#32
    ∧ (after opsKey V (Proc.devRef .tc main_v23) : S2.Idx → BitVec 32) (ix1 (1 : Fin 2)) = 1#32 := by
  after_results
  have e : IntOp.andi 1#32 4294967295#32 = 1#32 := by decide
  exact ⟨rfl, e⟩

theorem low_read : (after opsKey V (Proc.devRef .tc main_cst_6) : S_.Idx → F .f32) = constant S_ .f32 0x00000000#32 := by after_results
theorem high_read : (after opsKey V (Proc.devRef .tc main_cst_7) : S_.Idx → F .f32) = constant S_ .f32 0x3F800000#32 := by after_results

theorem lo_read : (got φu.v2 (after uCount V) : S1x1.Idx → F .f32) = broadcastInDim S1x1 ![] bcast_S_S1x1 (V (Proc.devRef .tc main_cst_6) : S_.Idx → F .f32) := by
  unfold got; after_results; rfl
theorem hi_read : (got φu.v3 (after uCount V) : S1x1.Idx → F .f32) = broadcastInDim S1x1 ![] bcast_S_S1x1 (V (Proc.devRef .tc main_cst_7) : S_.Idx → F .f32) := by
  unfold got; after_results; rfl

theorem part0 (x : S2.Idx → BitVec 32) (i : S_.Idx) : shapeCast S_ (extractStridedSlice S1 ![0] x slices_S2_S1_0) shapeCasts_S1_S_ i = x (ix1 (0 : Fin 2)) := by
  pointwise
theorem part1 (x : S2.Idx → BitVec 32) (i : S_.Idx) : shapeCast S_ (extractStridedSlice S1 ![1] x slices_S2_S1_1) shapeCasts_S1_S_ i = x (ix1 (1 : Fin 2)) := by
  pointwise

theorem k0_read (i : S0.Idx) : (got φu.v5 (after uCount V) : S0.Idx → BitVec 32) i = (V (Proc.devRef .tc main_v23) : S2.Idx → BitVec 32) (ix1 (0 : Fin 2)) := by
  unfold got; after_results
  exact part0 _ i
theorem k1_read (i : S0.Idx) : (got φu.v7 (after uCount V) : S0.Idx → BitVec 32) i = (V (Proc.devRef .tc main_v23) : S2.Idx → BitVec 32) (ix1 (1 : Fin 2)) := by
  unfold got; after_results
  exact part1 _ i
theorem w_read (j : S128x100000.Idx) : (got φu.v18 (after uCount V) : S128x100000.Idx → BitVec 32) j = (IntOp.shrui .host (count64 j) 32#64).setWidth 32
    ∧ (got φu.v17 (after uCount V) : S128x100000.Idx → BitVec 32) j = (count64 j).setWidth 32 := by
  unfold got; after_results
  exact ⟨rfl, rfl⟩

end Cert.ReferenceIdeal.Hand
-- ==== Proof.RefKeys.lean ====
/-
  The reference's cipher: the two words after its twenty rounds.
-/
module

public import proofs.«01_k».proof.Proof.RefRead

@[expose] public section

set_option maxRecDepth 16384
set_option maxHeartbeats 4000000

noncomputable section

namespace Cert.ReferenceIdeal.Hand

open Cert.ReferenceIdeal Cert.ReferenceIdeal.Gen Cert.Threefry
open Idealize.ShloMosaic Idealize.ShloMosaic.TcCoe Idealize.ShloMosaic.StableHlo Idealize.SL.Sem

variable {F : FTy → Type} [FloatOps F] (V : Valuation τ sig (Elt F))

/-- The three keys of the cipher, each in its buffer. -/
abbrev ks : List (Ws × BitVec 32) := [(φu.v5, 0#32), (φu.v7, 1#32), (φt.v1, 466688987#32)]

/-- The keys in place, and the two words before the first round; -/
theorem keyed_start (h0 : ∀ i : S0.Idx, (got φu.v5 V : S0.Idx → BitVec 32) i = 0#32) (h1 : ∀ i : S0.Idx, (got φu.v7 V : S0.Idx → BitVec 32) i = 1#32)
    (f : S128x100000.Idx → BitVec 32 × BitVec 32) (hf : ∀ j, ((got φu.v18 V : S128x100000.Idx → BitVec 32) j, (got φu.v17 V : S128x100000.Idx → BitVec 32) j) = f j) :
    Holds ks φt.v3 φt.v5 (after uStart V) fun j => addKey 0#32 1#32 (f j) := by
  refine ⟨fun k hk i => ?_, fun j => ?_⟩
  · simp only [List.mem_cons, List.not_mem_nil, or_false] at hk
    rcases hk with rfl | rfl | rfl
    · rw [← h0 i]
      simp only [after_cons, after_nil]
      simp (disch := decide) only [got_binary_ne, got_unary_ne, got_nullary_ne]
    · rw [← h1 i]
      simp only [after_cons, after_nil]
      simp (disch := decide) only [got_binary_ne, got_unary_ne, got_nullary_ne]
    · simp only [after_cons, after_nil]
      simp (disch := decide) only [got_binary, got_nullary, got_binary_ne, got_unary_ne, got_nullary_ne]
      have e : IntOp.xori (IntOp.xori ((got φu.v5 V : S0.Idx → BitVec 32) i) ((got φu.v7 V : S0.Idx → BitVec 32) i)) 466688986#32 = 466688987#32 := by
        rw [h0, h1]; decide
      exact e
  · rw [← hf j]
    simp only [after_cons, after_nil]
    simp (disch := decide) only [got_binary, got_unary, got_nullary, got_binary_ne, got_unary_ne, got_nullary_ne]
    have e0 : broadcastInDim S128x100000 ![] hs (got φu.v5 V : S0.Idx → BitVec 32) j = 0#32 := h0 _
    have e1 : broadcastInDim S128x100000 ![] hs (got φu.v7 V : S0.Idx → BitVec 32) j = 1#32 := h1 _
    refine Prod.ext ?_ ?_
    · exact congrArg ((got φu.v18 V : S128x100000.Idx → BitVec 32) j + ·) e0
    · exact congrArg ((got φu.v17 V : S128x100000.Idx → BitVec 32) j + ·) e1

/-- Each key is among them. -/
theorem m0 : (φu.v5, 0#32) ∈ ks := .head _
theorem m1 : (φu.v7, 1#32) ∈ ks := .tail _ (.head _)
theorem m2 : (φt.v1, 466688987#32) ∈ ks := .tail _ (.tail _ (.head _))

/-- and the words after the last. -/
theorem keyed_end {f : S128x100000.Idx → BitVec 32 × BitVec 32} (H : Holds ks φt.v3 φt.v5 V f) :
    Holds ks φt.v171 φt.v175 (after uRounds V) fun j => cipher (f j) := by
  iterate 24 refine Holds.of_app ?_
  iterate 5
    refine Holds.addHeld ?_ (by first | exact m0 | exact m1 | exact m2) (by first | exact m0 | exact m1 | exact m2) (by decide) (by decide) (by decide)
    iterate 4 refine Holds.round ?_ (by decide) (by decide) (by decide) (by decide)
  exact H

end Cert.ReferenceIdeal.Hand
-- ==== Proof.RefRun.lean ====
/-
  What the reference's stretches leave alone, and its run.
-/
module

public import proofs.«01_k».proof.Proof.RefKeys

@[expose] public section

set_option maxRecDepth 16384
set_option maxHeartbeats 4000000

noncomputable section

namespace Cert.ReferenceIdeal.Hand

open Cert.ReferenceIdeal Cert.ReferenceIdeal.Gen Cert.Threefry
open Idealize.ShloMosaic Idealize.ShloMosaic.TcCoe Idealize.ShloMosaic.StableHlo Idealize.SL.Sem

variable {F : FTy → Type} [FloatOps F] (V : Valuation τ sig (Elt F))

/-- A buffer that no operation of a stretch writes keeps its contents. -/
def Spared (b : Ref sig .tc) (L : List (HloOp τ sig (Elt F))) : Prop := L.Forall fun o => Proc.devRef (τ := τ) .tc b ∉ o.writes

theorem Spared.keep {b : Ref sig .tc} {L : List (HloOp τ sig (Elt F))} (h : Spared b L) : after L V (Proc.devRef .tc b) = V (Proc.devRef .tc b) :=
  after_of_forall_not_mem L V (List.forall_iff_forall_mem.mp h)

theorem Spared.keep_got {T : BufTy} {x : TRef sig T} {L : List (HloOp τ sig (Elt F))} (h : Spared x.ref L) : got x (after L V) = got x V :=
  congrArg x.ofBuf (h.keep V)

/-- The bounds of the variate are kept to its end, -/
theorem spared_lo : Spared φu.v2.ref (uStart (F := F) ++ uRounds) := by
  unfold Spared
  simp only [List.forall_append, List.Forall, nullary_writes, unary_writes, binary_writes, quaternary_writes, reshape_writes, Finset.mem_singleton]
  repeat' apply And.intro
  all_goals exact devRef_ne_of_ne (by decide)
theorem spared_hi : Spared φu.v3.ref (uStart (F := F) ++ uRounds) := by
  unfold Spared
  simp only [List.forall_append, List.Forall, nullary_writes, unary_writes, binary_writes, quaternary_writes, reshape_writes, Finset.mem_singleton]
  repeat' apply And.intro
  all_goals exact devRef_ne_of_ne (by decide)
/-- the probabilities after they are made, -/
theorem spared_noise : Spared main_v16 (opsKey (F := F) ++ (uCount ++ ((uStart ++ uRounds) ++ uUnit))) := by
  unfold Spared
  simp only [List.forall_append, List.Forall, nullary_writes, unary_writes, binary_writes, quaternary_writes, reshape_writes, Finset.mem_singleton]
  repeat' apply And.intro
  all_goals exact devRef_ne_of_ne (by decide)
theorem spared_draw : Spared main_v16 (opsScore (F := F) ++ uBest) := by
  unfold Spared
  simp only [List.forall_append, List.Forall, nullary_writes, unary_writes, binary_writes, quaternary_writes, reshape_writes, Finset.mem_singleton]
  repeat' apply And.intro
  all_goals exact devRef_ne_of_ne (by decide)
/-- and the argument throughout. -/
theorem spared_arg : Spared main_arg0 (ops (F := F)) := by
  unfold Spared
  simp only [List.forall_append, List.Forall, nullary_writes, unary_writes, binary_writes, quaternary_writes, reshape_writes, Finset.mem_singleton]
  repeat' apply And.intro
  all_goals first | exact trivial | exact devRef_ne_of_ne (by decide)

/-- The reference's noise. -/
theorem noise_read : gumbel hs (after (uCount ++ ((uStart ++ uRounds) ++ uUnit)) (after opsKey V) (Proc.devRef .tc main_v24) : S128x100000.Idx → F .f32) = rnoise := by
  have H := keyed_end _ (keyed_start (after uCount (after opsKey V)) (fun i => (k0_read _ i).trans (key_read V).1) (fun i => (k1_read _ i).trans (key_read V).2)
    (fun j => ((IntOp.shrui .host (count64 j) 32#64).setWidth 32, (count64 j).setWidth 32)) fun j => congrArg₂ Prod.mk (w_read _ j).1 (w_read _ j).2)
  have eu := unit_read (after (uStart ++ uRounds) (after uCount (after opsKey V)))
  have elo : got φu.v2 (after (uStart ++ uRounds) (after uCount (after opsKey V))) = got φu.v2 (after uCount (after opsKey V)) := spared_lo.keep_got _
  have ehi : got φu.v3 (after (uStart ++ uRounds) (after uCount (after opsKey V))) = got φu.v3 (after uCount (after opsKey V)) := spared_hi.keep_got _
  rw [elo, ehi, lo_read, hi_read, low_read, high_read, after_app uStart, H.bits] at eu
  rw [after_app, after_app, after_app uStart]
  exact congrArg (gumbel hs) eu

/-- The program cut at the probabilities, the noise and the draw. -/
theorem ops_cut : after ops V = after (opsScore ++ uBest) (after (opsKey ++ (uCount ++ ((uStart ++ uRounds) ++ uUnit))) (after opsProbs V)) := by
  simp only [ops, opsUniform, List.append_nil, after_app]

/-- Each operation touches buffers of the core's own, and has none fresh. -/
theorem inside : (ops (F := F)).Forall fun o => o.bufs ⊆ tcRefs τ sig := by
  simp only [List.forall_append, List.Forall, nullary_bufs_sub, unary_bufs_sub, binary_bufs_sub, quaternary_bufs_sub, reshape_bufs_sub, and_self]
theorem fresh : (ops (F := F)).Forall fun o => o.fresh = ∅ := by
  simp only [List.forall_append, List.Forall]
  repeat' apply And.intro
  all_goals first | exact trivial | rfl

/-- What the reference leaves in its results' buffers and in its argument's. -/
theorem probs_end : (after ops V (Proc.devRef .tc main_v16) : S128x100000.Idx → F .f32) = rprobs (V (Proc.devRef .tc main_arg0)) := by
  rw [ops_cut, spared_draw.keep, spared_noise.keep, probs_read]

theorem draws_end : (after ops V (Proc.devRef .tc main_v33) : S128.Idx → BitVec 32) = ract (V (Proc.devRef .tc main_arg0)) (rnoise (F := F)) := by
  have e : (after opsScore (after (opsKey ++ (uCount ++ ((uStart ++ uRounds) ++ uUnit))) (after opsProbs V)) (Proc.devRef .tc main_v32) : S128x100000.Idx → F .f32)
      = rscore (V (Proc.devRef .tc main_arg0)) rnoise := by
    rw [score_read, spared_noise.keep, probs_read, after_app, noise_read]; rfl
  rw [ops_cut, after_app opsScore, best_read, e]
  rfl

/-- A run of the reference: its results, its argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v16) = rprobs (m ((c.tc : Thread nD τ).loc main_arg0))
      ∧ r.2.mem ((c.tc : Thread nD τ).loc main_v33) = ract (m ((c.tc : Thread nD τ).loc main_arg0)) (rnoise (F := F))
      ∧ r.2.mem ((c.tc : Thread nD τ).loc main_arg0) = m ((c.tc : Thread nD τ).loc main_arg0)) :=
  θ_run_mono (run_hlo _ _ main_seq (by decide) (by decide) inside (List.forall_iff_forall_mem.mp fresh) m ρ) fun r h c =>
    ⟨(h c main_v16).trans (probs_end _), (h c main_v33).trans (draws_end _), (h c main_arg0).trans (spared_arg.keep _)⟩

/-- Its frame: the reference has no semaphore. -/
theorem quiet (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_mono (run m ρ) fun r h => ⟨fun c => (h c).2.2, sem_eq_zero_of_no_sems (by decide) r.2⟩

end Cert.ReferenceIdeal.Hand
-- ==== Proof.Pay.lean ====
/-
  The kernel's stored values read at an element, over the extended reals.
-/
module

public import proofs.«01_k».proof.Proof.KI.Ends
public import Idealize.ShloMosaic.Lib.Pointwise

@[expose] public section

set_option maxRecDepth 16384

noncomputable section

namespace Cert.KernelIdeal.Hand

open Cert.KernelIdeal Cert.KernelIdeal.Gen
open Idealize.ShloMosaic

theorem top_bits : Ideal.ofBits .f32 0xFF800000#32 = ⊥ := by
  simp [Ideal.ofBits, Ideal.ieee]

theorem pay1_at (x : Vec Ideal S2000x128 .f32) (b : Fin 128) :
    k0_pay1 (F := Ideal) x (ix2 0 b) = Finset.univ.sup fun r : Fin 2000 => (x (ix2 r b) : EReal) := by
  pointwise [k0_pay1, top_bits]
  rfl

theorem pay3_at (x : Vec Ideal S2000x128 .f32) (b : Fin 128) :
    k0_pay3 (F := Ideal) x (ix2 0 b) = ∑ r : Fin 2000, Ideal.exp (x (ix2 r b) - k0_pay1 (F := Ideal) x (ix2 0 b)) := by
  pointwise [k0_pay3]

theorem pay4_at (x : Vec Ideal S2000x128 .f32) (m : Vec Ideal S1x128 .f32) (b : Fin 128) :
    k0_pay4 (F := Ideal) x m (ix2 0 b) = max (m (ix2 0 b)) (k0_pay1 (F := Ideal) x (ix2 0 b)) := by
  pointwise [k0_pay4]

theorem pay5_at (x : Vec Ideal S2000x128 .f32) (m l : Vec Ideal S1x128 .f32) (b : Fin 128) :
    k0_pay5 (F := Ideal) x m l (ix2 0 b) = l (ix2 0 b) * Ideal.exp (m (ix2 0 b) - k0_pay4 (F := Ideal) x m (ix2 0 b))
      + ∑ r : Fin 2000, Ideal.exp (x (ix2 r b) - k0_pay4 (F := Ideal) x m (ix2 0 b)) := by
  pointwise [k0_pay5]

theorem pay6_at (x : Vec Ideal S2000x128 .f32) (m : Vec Ideal S1x128 .f32) (b : Fin 128) :
    k0_pay6 (F := Ideal) x m (ix2 0 b) = k0_pay4 (F := Ideal) x m (ix2 0 b) := by
  pointwise [k0_pay6]

theorem pay2_at (x : Vec Ideal S2000x128 .f32) (b : Fin 128) :
    k0_pay2 (F := Ideal) x (ix2 0 b) = k0_pay1 (F := Ideal) x (ix2 0 b) := by
  pointwise [k0_pay2]

theorem pay10_at (x : Vec Ideal S2000x128 .f32) (m l : Vec Ideal S1x128 .f32) (r : Fin 2000) (b : Fin 128) :
    k0_pay10 (F := Ideal) x m l (ix3 0 r b) = Ideal.exp (x (ix2 r b) - m (ix2 0 b)) * Ideal.div 1 (l (ix2 0 b)) := by
  pointwise [k0_pay10]

theorem pay11_at (x : Vec Ideal S2000x128 .f32) (g : Vec Ideal S1x2000x128 .f32) (r : Fin 2000) (b : Fin 128) :
    k0_pay11 (F := Ideal) x g (ix2 r b) = x (ix2 r b) + g (ix3 0 r b) := by
  pointwise [k0_pay11]

theorem pay12_at (x : Vec Ideal S2000x128 .f32) (g : Vec Ideal S1x2000x128 .f32) (b : Fin 128) :
    k0_pay12 (F := Ideal) x g (ix2 0 b) = Finset.univ.sup fun r : Fin 2000 => (x (ix2 r b) + g (ix3 0 r b) : EReal) := by
  pointwise [k0_pay12, pay11_at, top_bits]
  rfl

theorem pay14_at (x : Vec Ideal S2000x128 .f32) (g : Vec Ideal S1x2000x128 .f32) (b : Fin 128) :
    k0_pay14 (F := Ideal) x g (ix2 0 b) = k0_pay12 (F := Ideal) x g (ix2 0 b) := by
  pointwise [k0_pay14]

theorem pay8_at (pv bv : Vec Ideal S1x128 .f32) (b : Fin 128) :
    k0_pay8 (F := Ideal) pv bv (ix2 0 b) = if (bv (ix2 0 b) : EReal) < pv (ix2 0 b) then pv (ix2 0 b) else bv (ix2 0 b) := by
  pointwise [k0_pay8, k0_pay7]

theorem pay9_at (pv : Vec Ideal S1x128 .f32) (i : IVec S1x128 32) (bv : Vec Ideal S1x128 .f32) (a : Vec Ideal S1x128 .i32) (b : Fin 128) :
    k0_pay9 (F := Ideal) pv i bv a (ix2 0 b) = if (bv (ix2 0 b) : EReal) < pv (ix2 0 b) then i (ix2 0 b) else a (ix2 0 b) := by
  pointwise [k0_pay9, k0_pay7]

theorem pay13_at (w : BitVec 32) (x : Vec Ideal S2000x128 .f32) (g : Vec Ideal S1x2000x128 .f32) (b : Fin 128) :
    k0_pay13 (F := Ideal) w x g (ix2 0 b) = (Finset.univ : Finset (Fin 2000)).fold (IKind.minsi.op) 2147483647#32
      fun r => if (x (ix2 r b) + g (ix3 0 r b) : EReal) = k0_pay12 (F := Ideal) x g (ix2 0 b) then BitVec.ofNat 32 r.val + (w - 50#32) * 2000#32 else 1073741824#32 := by
  pointwise [k0_pay13, pay11_at]
  rfl

/-- Row `r` of block `b`. -/
def rowAt (b : Fin 50) (r : Fin 2000) : Fin 100000 := ⟨2000 * b.val + r.val, by omega⟩

theorem xblk_elt (X : S100000x128.Idx → EReal) (b : Fin 50) (r : Fin 2000) (l : Fin 128) :
    xblk (F := Ideal) X b (ix2 r l) = X (ix2 (rowAt b r) l) := by
  unfold xblk
  show X _ = X _
  congr 1
  funext a; refine Fin.ext ?_
  fin_cases a
  · show 2000 * b.val + 1 * r.val = 2000 * b.val + r.val; omega
  · show 0 + 1 * l.val = l.val; omega

theorem gblk_elt (X : S100000x128.Idx → EReal) (b : Fin 50) (r : Fin 2000) (l : Fin 128) :
    gblk (F := Ideal) X b (ix2 r l) = X (ix2 (rowAt b r) l) := by
  unfold gblk
  show X _ = X _
  congr 1
  funext a; refine Fin.ext ?_
  fin_cases a
  · show 2000 * b.val + 1 * r.val = 2000 * b.val + r.val; omega
  · show 0 + 1 * l.val = l.val; omega

theorem leadIdx (r : Fin 2000) (l : Fin 128) :
    Shape.reshapeEquiv squeezes_S1x2000x128_S2000x128.numel_eq (ix2 r l : S2000x128.Idx) = (ix3 0 r l : S1x2000x128.Idx) := by
  have h : shapeCast S2000x128 (fun i : S1x2000x128.Idx => i) shapeCasts_S1x2000x128_S2000x128 (ix2 r l) = ix3 0 r l := by
    pointwise
  exact h

theorem lead_at (w : Vec Ideal S2000x128 .f32) (r : Fin 2000) (l : Fin 128) : lead w (ix3 0 r l) = w (ix2 r l) := by
  unfold lead
  congr 1
  rw [Equiv.symm_apply_eq]
  exact (leadIdx r l).symm

theorem unlead_at (w : Vec Ideal S1x2000x128 .f32) (r : Fin 2000) (l : Fin 128) : unlead w (ix2 r l) = w (ix3 0 r l) := by
  unfold unlead
  rw [leadIdx]

theorem pp_at (X : S100000x128.Idx → EReal) (b : Fin 50) (r : Fin 2000) (l : Fin 128) :
    PP (F := Ideal) X (ix2 (rowAt b r) l) = Ideal.exp (X (ix2 (rowAt b r) l) - mAt (F := Ideal) X 50 (ix2 0 l)) * Ideal.div 1 (lAt (F := Ideal) X 50 (ix2 0 l)) := by
  have h1 : rowBlk (ix2 (rowAt b r) l) = b := Fin.ext (by show (2000 * b.val + r.val) / 2000 = b.val; omega)
  have h2 : rowIn (ix2 (rowAt b r) l) = ix2 r l := by
    funext a; refine Fin.ext ?_
    fin_cases a
    · show (2000 * b.val + r.val) % 2000 = r.val; omega
    · rfl
  unfold PP
  rw [h1, h2]
  unfold pblk
  rw [unlead_at, pay10_at, xblk_elt]

end Cert.KernelIdeal.Hand
-- ==== Proof.Math.lean ====
/-
  Facts of the extended reals behind the online softmax and the draw of an action.
-/
module

public import Idealize.ShloMosaic.Lib.Pointwise

@[expose] public section

namespace Cert.Draw

open Idealize.ShloMosaic Finset

/-! ## Exponentials below a bound -/

theorem exp_nonneg (x : EReal) : 0 ≤ Ideal.exp x := by
  induction x using EReal.rec with
  | bot => exact le_rfl
  | top => exact le_top
  | coe r => exact EReal.coe_nonneg.2 (Real.exp_pos r).le

/-- Below a bound the exponential of the distance is real. -/
theorem exp_real {x m : EReal} (h : x ≤ m) : ∃ r : ℝ, 0 ≤ r ∧ Ideal.exp (x - m) = r := by
  induction m using EReal.rec with
  | bot => obtain rfl := le_bot_iff.1 h; exact ⟨0, le_rfl, rfl⟩
  | top =>
    refine ⟨0, le_rfl, ?_⟩
    have : x - ⊤ = ⊥ := by rw [sub_eq_add_neg, EReal.neg_top, EReal.add_bot]
    rw [this]; rfl
  | coe m =>
    induction x using EReal.rec with
    | bot => exact ⟨0, le_rfl, by rw [EReal.bot_sub]; rfl⟩
    | top => exact absurd h (by simp)
    | coe x => exact ⟨Real.exp (x - m), (Real.exp_pos _).le, by rw [← EReal.coe_sub]; rfl⟩

/-- Rescaling a term to a larger bound. -/
theorem exp_split {x m m' : EReal} (h : x ≤ m) (h' : m ≤ m') : Ideal.exp (x - m) * Ideal.exp (m - m') = Ideal.exp (x - m') := by
  have et : ∀ y : EReal, Ideal.exp (y - ⊤) = 0 := fun y => by
    rw [sub_eq_add_neg, EReal.neg_top, EReal.add_bot]; rfl
  have eb : ∀ y : EReal, Ideal.exp (⊥ - y) = 0 := fun y => by rw [sub_eq_add_neg, EReal.bot_add]; rfl
  induction m' using EReal.rec with
  | bot =>
    obtain rfl := le_bot_iff.1 h'; obtain rfl := le_bot_iff.1 h
    rw [eb, zero_mul]
  | top => rw [et, et, mul_zero]
  | coe m' =>
    induction m using EReal.rec with
    | bot => obtain rfl := le_bot_iff.1 h; rw [eb, eb, zero_mul]
    | top => exact absurd h' (by simp)
    | coe m =>
      induction x using EReal.rec with
      | bot => rw [eb, eb, zero_mul]
      | top => exact absurd h (by simp)
      | coe x =>
        rw [← EReal.coe_sub, ← EReal.coe_sub, ← EReal.coe_sub]
        show ((Real.exp (x - m) : ℝ) : EReal) * ((Real.exp (m - m') : ℝ) : EReal) = ((Real.exp (x - m') : ℝ) : EReal)
        rw [← EReal.coe_mul, ← Real.exp_add]; congr 2; ring

/-- Rescaling a sum of them. -/
theorem sum_exp_mul (f : ℕ → EReal) (S : Finset ℕ) {m m' : EReal} (h : ∀ i ∈ S, f i ≤ m) (h' : m ≤ m') :
    (∑ i ∈ S, Ideal.exp (f i - m)) * Ideal.exp (m - m') = ∑ i ∈ S, Ideal.exp (f i - m') := by
  induction S using Finset.cons_induction with
  | empty => simp
  | cons a S ha ih =>
    rw [sum_cons, sum_cons, EReal.right_distrib_of_nonneg (exp_nonneg _) (sum_nonneg fun _ _ => exp_nonneg _),
      ih fun i hi => h i (mem_cons_of_mem hi), exp_split (h a (mem_cons_self ..)) h']

/-! ## Blocks -/

/-- The running maximum of the first `n`. -/
noncomputable def mx (f : ℕ → EReal) (n : ℕ) : EReal := (range n).sup f
/-- The running sum against it. -/
noncomputable def sm (f : ℕ → EReal) (n : ℕ) : EReal := ∑ i ∈ range n, Ideal.exp (f i - mx f n)

theorem le_mx (f : ℕ → EReal) {n i : ℕ} (h : i < n) : f i ≤ mx f n := le_sup (f := f) (mem_range.2 h)

theorem mx_block (f : ℕ → EReal) (n k : ℕ) : mx f (n + k) = max (mx f n) (univ.sup fun r : Fin k => f (n + r.val)) := by
  apply le_antisymm
  · refine Finset.sup_le fun i hi => ?_
    have hi := mem_range.1 hi
    by_cases h : i < n
    · exact le_max_of_le_left (le_mx f h)
    · refine le_max_of_le_right ?_
      have := le_sup (f := fun r : Fin k => f (n + r.val)) (mem_univ (⟨i - n, by omega⟩ : Fin k))
      simpa [show n + (i - n) = i by omega] using this
  · refine max_le (Finset.sup_le fun i hi => le_mx f (by have := mem_range.1 hi; omega)) (Finset.sup_le fun r _ => le_mx f (by have := r.isLt; omega))

theorem sm_block (f : ℕ → EReal) (n k : ℕ) :
    sm f (n + k) = sm f n * Ideal.exp (mx f n - mx f (n + k)) + ∑ r : Fin k, Ideal.exp (f (n + r.val) - mx f (n + k)) := by
  unfold sm
  rw [sum_exp_mul f (range n) (fun i hi => le_mx f (mem_range.1 hi)) (by rw [mx_block]; exact le_max_left _ _),
    sum_range_add, Fin.sum_univ_eq_sum_range (fun r => Ideal.exp (f (n + r) - mx f (n + k)))]

/-! ## Normalising twice -/

theorem sum_real {n : ℕ} {e : Fin n → EReal} {r : Fin n → ℝ} (h : ∀ i, e i = r i) : ∑ i, e i = ((∑ i, r i : ℝ) : EReal) := by
  have : ∀ S : Finset (Fin n), ∑ i ∈ S, e i = ((∑ i ∈ S, r i : ℝ) : EReal) := fun S => by
    induction S using Finset.cons_induction with
    | empty => rfl
    | cons a S ha ih => rw [sum_cons, sum_cons, ih, h, EReal.coe_add]
  exact this univ

/-- One over the sum, times a term, is the term over the sum, normalised again. -/
theorem norm_twice {n : ℕ} (e : Fin n → EReal) (he : ∀ i, ∃ r : ℝ, 0 ≤ r ∧ e i = r) (i : Fin n) :
    e i * Ideal.div 1 (∑ j, e j)
      = Ideal.div (1 * Ideal.div (e i) (0 + ∑ j, e j)) (0 + ∑ k, 1 * Ideal.div (e k) (0 + ∑ j, e j)) := by
  choose r hr he using he
  have hs := sum_real he
  simp only [zero_add, one_mul]
  rw [hs]
  by_cases h0 : ∑ j, r j = 0
  · have hz : ∀ j, e j = 0 := fun j => by
      rw [he, (Finset.sum_eq_zero_iff_of_nonneg fun j _ => hr j).1 h0 j (mem_univ j), EReal.coe_zero]
    have d0 : Ideal.div 0 0 = ⊥ := by simp [Ideal.div]
    rw [h0, EReal.coe_zero, hz i, zero_mul, d0]
    have : ∑ k : Fin n, Ideal.div (e k) 0 = ⊥ := by
      rw [← Finset.add_sum_erase _ _ (mem_univ i), hz i, d0, EReal.bot_add]
    rw [this]
    simp [Ideal.div]
  · have hd : ∀ j, Ideal.div (e j) ((∑ j, r j : ℝ) : EReal) = ((r j * (1 / ∑ j, r j) : ℝ) : EReal) := fun j => by
      rw [Ideal.div_coe h0, he, ← EReal.coe_mul]
    have h1 : ∑ j, r j * (1 / ∑ j, r j) = 1 := by rw [← Finset.sum_mul]; field_simp
    rw [sum_real hd, h1, hd, he i, Ideal.div_coe h0, Ideal.div_coe one_ne_zero, one_mul, ← EReal.coe_mul, ← EReal.coe_mul]
    simp

/-! ## The log-probability orders as the score does -/

/-- With no entry above all reals, the log of a probability plus noise is the entry plus the noise less one real. -/
theorem log_shift {n : ℕ} (x : Fin n → EReal) (hx : ∀ i, x i < ⊤) :
    ∃ K : ℝ, ∀ i (g : EReal), Ideal.log (Ideal.exp (x i - univ.sup x) * Ideal.div 1 (∑ j, Ideal.exp (x j - univ.sup x))) + g = (x i + g) - K := by
  have hle : ∀ i, x i ≤ univ.sup x := fun i => le_sup (mem_univ i)
  have et : ∀ y : EReal, (⊥ : EReal) - y = ⊥ := fun y => by rw [sub_eq_add_neg, EReal.bot_add]
  have hlog0 : Ideal.log 0 = ⊥ := by
    show (if (0 : ℝ) ≤ 0 then (⊥ : EReal) else _) = ⊥
    simp
  generalize hM : univ.sup x = M at hle ⊢
  by_cases hb : M = ⊥
  · refine ⟨0, fun i g => ?_⟩
    have : x i = ⊥ := le_bot_iff.1 (hb ▸ hle i)
    rw [this, et, show Ideal.exp ⊥ = 0 from rfl, zero_mul, hlog0, EReal.bot_add, et]
  · have hn : (univ : Finset (Fin n)).Nonempty := by
      rw [Finset.nonempty_iff_ne_empty]; rintro h; rw [h, Finset.sup_empty] at hM; exact hb hM.symm
    obtain ⟨i0, -, h0⟩ := Finset.exists_mem_eq_sup univ hn x
    rw [hM] at h0
    obtain ⟨μ, rfl⟩ : ∃ μ : ℝ, M = μ := by
      induction M using EReal.rec with
      | bot => exact absurd rfl hb
      | top => exact absurd h0.symm (hx i0).ne
      | coe r => exact ⟨r, rfl⟩
    choose r hr he using fun i => exp_real (hle i)
    have hs := sum_real he
    have hpos : 0 < ∑ j, r j := by
      refine lt_of_lt_of_le ?_ (Finset.single_le_sum (f := r) (fun j _ => hr j) (mem_univ i0))
      have := he i0
      rw [← h0, ← EReal.coe_sub, sub_self] at this
      have h1 : ((Real.exp 0 : ℝ) : EReal) = r i0 := this
      rw [← EReal.coe_injective h1]; exact Real.exp_pos 0
    refine ⟨μ + Real.log (∑ j, r j), fun i g => ?_⟩
    rw [hs, Ideal.div_coe hpos.ne', one_mul]
    induction hxi : x i using EReal.rec with
    | bot => rw [et, show Ideal.exp ⊥ = 0 from rfl, zero_mul, hlog0, EReal.bot_add, et]
    | top => exact absurd hxi (hx i).ne
    | coe ρ =>
      rw [← EReal.coe_sub, show Ideal.exp ((ρ - μ : ℝ) : EReal) = ((Real.exp (ρ - μ) : ℝ) : EReal) from rfl, ← EReal.coe_mul]
      have hp : 0 < Real.exp (ρ - μ) * (1 / ∑ j, r j) := by positivity
      have hl : Ideal.log ((Real.exp (ρ - μ) * (1 / ∑ j, r j) : ℝ) : EReal) = ((ρ - (μ + Real.log (∑ j, r j)) : ℝ) : EReal) := by
        show (if Real.exp (ρ - μ) * (1 / ∑ j, r j) ≤ 0 then (⊥ : EReal) else _) = _
        rw [if_neg (not_le.2 hp), Real.log_mul (Real.exp_pos _).ne' (by positivity), Real.log_exp, one_div, Real.log_inv]
        congr 1; ring
      rw [hl, EReal.coe_sub, sub_eq_add_neg, sub_eq_add_neg, add_right_comm]

/-! ## First best index -/

/-- `a` is the first index below `n` whose value no other exceeds. -/
def First (v : ℕ → EReal) (n a : ℕ) : Prop := a < n ∧ (∀ i < n, v i ≤ v a) ∧ ∀ i < a, v i < v a

theorem First.unique {v : ℕ → EReal} {n a b : ℕ} (ha : First v n a) (hb : First v n b) : a = b := by
  rcases lt_trichotomy a b with h | h | h
  · exact absurd (hb.2.2 a h) (not_lt.2 (ha.2.1 b hb.1))
  · exact h
  · exact absurd (ha.2.2 b h) (not_lt.2 (hb.2.1 a ha.1))

theorem sub_real_lt (K : ℝ) (x y : EReal) : x - K < y - K ↔ x < y := by
  have : ∀ z : EReal, z - K + K = z := fun z => EReal.sub_add_cancel
  constructor
  · intro h
    by_contra hn
    exact absurd h (not_lt.2 (EReal.sub_le_sub (not_lt.1 hn) le_rfl))
  · intro h
    by_contra hn
    have := add_le_add_left (not_lt.1 hn) (K : EReal)
    rw [EReal.sub_add_cancel, EReal.sub_add_cancel] at this
    exact absurd h (not_lt.2 this)

/-- A common real shift moves no first best index. -/
theorem First.shift {v t : ℕ → EReal} {n a : ℕ} (K : ℝ) (h : ∀ i < n, t i = v i - K) : First v n a → First t n a := by
  rintro ⟨h1, h2, h3⟩
  refine ⟨h1, fun i hi => ?_, fun i hi => ?_⟩
  · rw [h i hi, h a h1]; exact EReal.sub_le_sub (h2 i hi) le_rfl
  · rw [h i (by omega), h a h1, sub_real_lt]; exact h3 i hi

/-- A later block beats the running best only where it is strictly better. -/
theorem First.block {v : ℕ → EReal} {n k a p : ℕ} (ha : First v n a) (hp : First (fun r => v (n + r)) k p) :
    First v (n + k) (if v a < v (n + p) then n + p else a) := by
  obtain ⟨a1, a2, a3⟩ := ha
  obtain ⟨p1, p2, p3⟩ := hp
  have tail : ∀ i, n ≤ i → i < n + k → v i ≤ v (n + p) := fun i h1 h2 => by
    have := p2 (i - n) (by omega); simpa [show n + (i - n) = i by omega] using this
  split_ifs with h
  · refine ⟨by omega, fun i hi => ?_, fun i hi => ?_⟩
    · by_cases hin : i < n
      · exact (a2 i hin).trans h.le
      · exact tail i (by omega) hi
    · by_cases hin : i < n
      · exact (a2 i hin).trans_lt h
      · have := p3 (i - n) (by omega); simpa [show n + (i - n) = i by omega] using this
  · refine ⟨by omega, fun i hi => ?_, a3⟩
    by_cases hin : i < n
    · exact a2 i hin
    · exact (tail i (by omega) hi).trans (not_lt.1 h)

/-- There is one, where there is an index. -/
theorem First.exists (v : ℕ → EReal) : ∀ n, 0 < n → ∃ a, First v n a
  | 0, h => absurd h (lt_irrefl 0)
  | 1, _ => ⟨0, one_pos, fun i hi => by rw [show i = 0 by omega], fun i hi => absurd hi (by omega)⟩
  | n + 2, _ => by
    obtain ⟨a, ha⟩ := First.exists v (n + 1) (by omega)
    exact ⟨_, ha.block (k := 1) (p := 0) ⟨one_pos, fun i hi => by rw [show i = 0 by omega], fun i hi => absurd hi (by omega)⟩⟩

theorem First.mx_eq {v : ℕ → EReal} {n a : ℕ} (h : First v n a) : mx v n = v a :=
  le_antisymm (Finset.sup_le fun i hi => h.2.1 i (mem_range.1 hi)) (le_mx v h.1)

end Cert.Draw
-- ==== Proof.Value.lean ====
/-
  What the kernel's grid computes, over the extended reals: the softmax of each column and its first best row.
-/
module

public import proofs.«01_k».proof.Proof.Pay
public import proofs.«01_k».proof.Proof.Math

@[expose] public section

set_option maxRecDepth 16384

noncomputable section

namespace Cert.KernelIdeal.Hand

open Cert.KernelIdeal Cert.KernelIdeal.Gen Cert.Draw
open Idealize.ShloMosaic

variable (X GT : S100000x128.Idx → EReal) (l : Fin 128)

/-- Column `l` of an array as a sequence, least past its end. -/
def col (n : ℕ) : EReal := if h : n < 100000 then X (ix2 ⟨n, h⟩ l) else ⊥
/-- A column's scores. -/
def sc (n : ℕ) : EReal := col X l n + col GT l n

theorem col_row (b : Fin 50) (r : Fin 2000) : col X l (2000 * b.val + r.val) = X (ix2 (rowAt b r) l) := by
  unfold col; rw [dif_pos (by omega)]; rfl

theorem col_fin (i : Fin 100000) : col X l i.val = X (ix2 i l) := by
  unfold col; rw [dif_pos i.isLt]

theorem mx_zero (f : ℕ → EReal) : mx f 0 = ⊥ := rfl
theorem sm_zero (f : ℕ → EReal) : sm f 0 = 0 := rfl

theorem pay1_col (b : Fin 50) : k0_pay1 (F := Ideal) (xblk X b) (ix2 0 l) = Finset.univ.sup fun r : Fin 2000 => col X l (2000 * b.val + r.val) := by
  rw [pay1_at]; exact congrArg Finset.univ.sup (funext fun r => by rw [xblk_elt, col_row])

theorem pay12_col (b : Fin 50) :
    k0_pay12 (F := Ideal) (xblk X b) (lead (gblk GT b)) (ix2 0 l) = Finset.univ.sup fun r : Fin 2000 => sc X GT l (2000 * b.val + r.val) := by
  rw [pay12_at]; congr 1; funext r; rw [xblk_elt, lead_at, gblk_elt, sc, col_row, col_row]

theorem bk_cast {n : ℕ} (h : n < 50) : (Ring.bk 50 n).val = n := Ring.bk_val h

/-- After `n` blocks the running maximum is that of the rows seen. -/
theorem mAt_col : ∀ n, 0 < n → n ≤ 50 → mAt (F := Ideal) X n (ix2 0 l) = mx (col X l) (2000 * n)
  | 0, h, _ => absurd h (lt_irrefl 0)
  | n + 1, _, hn => by
    rw [Nat.mul_succ, mx_block]
    by_cases h0 : n = 0
    · subst h0
      rw [mAt, if_pos rfl, pay2_at, pay1_col, Nat.mul_zero, mx_zero, max_eq_right bot_le]
      rfl
    · rw [mAt, if_neg h0, pay6_at, pay4_at, pay1_col, bk_cast (by omega), mAt_col n (by omega) (by omega)]

/-- After `n` blocks the running sum is that of the exponentials below the running maximum. -/
theorem lAt_col : ∀ n, 0 < n → n ≤ 50 → lAt (F := Ideal) X n (ix2 0 l) = sm (col X l) (2000 * n)
  | 0, h, _ => absurd h (lt_irrefl 0)
  | n + 1, _, hn => by
    have hm := mAt_col X l (n + 1) (by omega) hn
    rw [Nat.mul_succ, sm_block, ← Nat.mul_succ, ← hm]
    by_cases h0 : n = 0
    · subst h0
      rw [lAt, if_pos rfl, pay3_at, Nat.mul_zero, sm_zero, zero_mul, zero_add, mAt, if_pos rfl, pay2_at]
      refine Finset.sum_congr rfl fun r _ => ?_
      rw [xblk_elt, ← col_row X]; rfl
    · rw [lAt, if_neg h0, pay5_at, lAt_col n (by omega) (by omega), mAt, if_neg h0, pay6_at, mAt_col X l n (by omega) (by omega)]
      congr 1
      refine Finset.sum_congr rfl fun r _ => ?_
      rw [xblk_elt, ← col_row X, bk_cast (by omega)]

/-- After `n` blocks the best score is the greatest of the rows seen. -/
theorem bvAt_col : ∀ n, 0 < n → n ≤ 50 → bvAt (F := Ideal) X GT n (ix2 0 l) = mx (sc X GT l) (2000 * n)
  | 0, h, _ => absurd h (lt_irrefl 0)
  | n + 1, _, hn => by
    rw [Nat.mul_succ, mx_block]
    by_cases h0 : n = 0
    · subst h0
      rw [bvAt, if_pos rfl, pay14_at, pay12_col, Nat.mul_zero, mx_zero, max_eq_right bot_le]
      rfl
    · rw [bvAt, if_neg h0, pay8_at, pay12_col, bk_cast (by omega), bvAt_col n (by omega) (by omega)]
      split_ifs with h
      · rw [max_eq_right h.le]
      · rw [max_eq_left (not_lt.1 h)]

/-! ## The first best row of a block -/

theorem fold_min {n : ℕ} (b : BitVec 32) (g : Fin n → BitVec 32) (S : Finset (Fin n)) :
    (S.fold IKind.minsi.op b g = b ∨ ∃ i ∈ S, S.fold IKind.minsi.op b g = g i) ∧ ∀ i ∈ S, (S.fold IKind.minsi.op b g).toInt ≤ (g i).toInt := by
  induction S using Finset.cons_induction with
  | empty => exact ⟨.inl rfl, fun i hi => absurd hi (Finset.notMem_empty i)⟩
  | cons a S ha ih =>
    obtain ⟨i1, i2⟩ := ih
    rw [Finset.fold_cons]
    generalize S.fold IKind.minsi.op b g = w at i1 i2
    show ((if (g a).slt w then g a else w) = b ∨ ∃ i ∈ _, (if (g a).slt w then g a else w) = g i) ∧ ∀ i ∈ _, (if (g a).slt w then g a else w).toInt ≤ _
    by_cases h : (g a).slt w
    · rw [if_pos h]
      have h' : (g a).toInt < w.toInt := by simpa [BitVec.slt] using h
      refine ⟨.inr ⟨a, Finset.mem_cons_self .., rfl⟩, fun i hi => ?_⟩
      rcases Finset.mem_cons.1 hi with rfl | hi
      · exact le_rfl
      · exact h'.le.trans (i2 i hi)
    · rw [if_neg h]
      have h' : w.toInt ≤ (g a).toInt := by simpa [BitVec.slt] using h
      refine ⟨i1.imp id fun ⟨i, hi, e⟩ => ⟨i, Finset.mem_cons_of_mem hi, e⟩, fun i hi => ?_⟩
      rcases Finset.mem_cons.1 hi with rfl | hi
      · exact h'
      · exact i2 i hi

theorem toInt_small {n : ℕ} (h : n < 2 ^ 31) : (BitVec.ofNat 32 n).toInt = n := by
  rw [BitVec.toInt_eq_toNat_of_lt] <;> rw [BitVec.toNat_ofNat] <;> omega

/-- Among a block's rows, those short of the maximum masked by a large word, the least word is the first best row. -/
theorem fold_first (v : ℕ → EReal) (p n : ℕ) (hp : First (fun r => v (n + r)) 2000 p) (hn : n + 2000 ≤ 100000) :
    (Finset.univ : Finset (Fin 2000)).fold IKind.minsi.op 2147483647#32
      (fun r => if v (n + r.val) = v (n + p) then BitVec.ofNat 32 (n + r.val) else 1073741824#32) = BitVec.ofNat 32 (n + p) := by
  obtain ⟨h1, h2, h3⟩ := hp
  obtain ⟨hm, hle⟩ := fold_min 2147483647#32 (fun r : Fin 2000 => if v (n + r.val) = v (n + p) then BitVec.ofNat 32 (n + r.val) else 1073741824#32) Finset.univ
  generalize (Finset.univ : Finset (Fin 2000)).fold IKind.minsi.op _ _ = w at hm hle ⊢
  have hw : w.toInt ≤ (n + p : ℕ) := by
    have := hle ⟨p, h1⟩ (Finset.mem_univ _)
    rwa [if_pos rfl, toInt_small (by show n + p < _; omega)] at this
  rcases hm with rfl | ⟨r, -, rfl⟩
  · exact absurd hw (by rw [show (2147483647#32).toInt = 2147483647 from by decide]; omega)
  · have hr := r.isLt
    by_cases h : v (n + r.val) = v (n + p)
    · simp only [if_pos h] at hw ⊢
      rw [toInt_small (by omega)] at hw
      by_cases hlt : r.val < p
      · exact absurd h (h3 r.val hlt).ne
      · congr 1; omega
    · simp only [if_neg h] at hw
      exact absurd hw (by rw [show (1073741824#32).toInt = 1073741824 from by decide]; omega)

theorem word_row (n : ℕ) (r : ℕ) : BitVec.ofNat 32 r + (BitVec.ofNat 32 (50 + n) - 50#32) * 2000#32 = BitVec.ofNat 32 (2000 * n + r) := by
  have e : BitVec.ofNat 32 (50 + n) - 50#32 = BitVec.ofNat 32 n := by
    rw [BitVec.ofNat_add, show BitVec.ofNat 32 50 = 50#32 from rfl, BitVec.add_comm, BitVec.add_sub_cancel]
  rw [e, show (2000#32 : BitVec 32) = BitVec.ofNat 32 2000 from rfl, ← BitVec.ofNat_mul, ← BitVec.ofNat_add]
  congr 1; ring

/-- A block's candidate row. -/
theorem pay13_col (b : Fin 50) (p : ℕ) (hp : First (fun r => sc X GT l (2000 * b.val + r)) 2000 p) :
    k0_pay13 (F := Ideal) (BitVec.ofNat 32 (50 + b.val)) (xblk X b) (lead (gblk GT b)) (ix2 0 l) = BitVec.ofNat 32 (2000 * b.val + p) := by
  have hmax : k0_pay12 (F := Ideal) (xblk X b) (lead (gblk GT b)) (ix2 0 l) = sc X GT l (2000 * b.val + p) := by
    rw [pay12_col]
    refine le_antisymm (Finset.sup_le fun r _ => hp.2.1 r.val r.isLt) ?_
    exact Finset.le_sup (f := fun r : Fin 2000 => sc X GT l (2000 * b.val + r.val)) (Finset.mem_univ ⟨p, hp.1⟩)
  have hb := b.isLt
  rw [pay13_at, hmax, ← fold_first (sc X GT l) p (2000 * b.val) hp (by omega)]
  refine congrArg (fun f => (Finset.univ : Finset (Fin 2000)).fold IKind.minsi.op 2147483647#32 f) (funext fun r => ?_)
  rw [xblk_elt, lead_at, gblk_elt, word_row, ← col_row X, ← col_row GT]; rfl

/-- After `n` blocks the best row is the first best of the rows seen. -/
theorem aAt_col : ∀ n, 0 < n → n ≤ 50 → ∃ a, First (sc X GT l) (2000 * n) a ∧ aAt (F := Ideal) X GT n (ix2 0 l) = BitVec.ofNat 32 a
  | 0, h, _ => absurd h (lt_irrefl 0)
  | n + 1, _, hn => by
    obtain ⟨p, hp⟩ := First.exists (fun r => sc X GT l (2000 * n + r)) 2000 (by norm_num)
    by_cases h0 : n = 0
    · subst h0
      refine ⟨p, ?_, ?_⟩
      · simpa using hp
      · rw [aAt, if_pos rfl]
        have := pay13_col X GT l 0 p hp
        simpa using this
    · obtain ⟨a, ha, e⟩ := aAt_col n (by omega) (by omega)
      refine ⟨_, ha.block hp, ?_⟩
      have hb : (Ring.bk 50 n).val = n := bk_cast (by omega)
      have h13 := pay13_col X GT l (Ring.bk 50 n) p (by rw [hb]; exact hp)
      rw [hb] at h13
      have h12 : k0_pay12 (F := Ideal) (xblk X (Ring.bk 50 n)) (lead (gblk GT (Ring.bk 50 n))) (ix2 0 l) = sc X GT l (2000 * n + p) := by
        rw [pay12_col, hb]
        refine le_antisymm (Finset.sup_le fun r _ => hp.2.1 r.val r.isLt) ?_
        exact Finset.le_sup (f := fun r : Fin 2000 => sc X GT l (2000 * n + r.val)) (Finset.mem_univ ⟨p, hp.1⟩)
      rw [aAt, if_neg h0, pay9_at, h13, h12, bvAt_col X GT l n (by omega) (by omega), ha.mx_eq, e]
      split_ifs <;> rfl

/-- The output at a row: the exponential below the column's maximum, times one over the column's sum. -/
theorem pp_col (i : Fin 100000) :
    PP (F := Ideal) X (ix2 i l) = Ideal.exp (X (ix2 i l) - Finset.univ.sup fun k : Fin 100000 => X (ix2 k l))
      * Ideal.div 1 (∑ j : Fin 100000, Ideal.exp (X (ix2 j l) - Finset.univ.sup fun k : Fin 100000 => X (ix2 k l))) := by
  have hi := i.isLt
  obtain ⟨b, r, rfl⟩ : ∃ (b : Fin 50) (r : Fin 2000), i = rowAt b r :=
    ⟨⟨i.val / 2000, by omega⟩, ⟨i.val % 2000, Nat.mod_lt _ (by norm_num)⟩, Fin.ext (by show i.val = 2000 * (i.val / 2000) + i.val % 2000; omega)⟩
  have hmx : mx (col X l) 100000 = Finset.univ.sup fun k : Fin 100000 => X (ix2 k l) := by
    have := mx_block (col X l) 0 100000
    rw [mx_zero, max_eq_right bot_le, zero_add] at this
    rw [this]; exact congrArg Finset.univ.sup (funext fun k => by rw [zero_add, col_fin])
  have hsm : sm (col X l) 100000 = ∑ j : Fin 100000, Ideal.exp (X (ix2 j l) - mx (col X l) 100000) := by
    unfold sm
    rw [← Fin.sum_univ_eq_sum_range (fun r => Ideal.exp (col X l r - mx (col X l) 100000))]
    exact Finset.sum_congr rfl fun j _ => by rw [col_fin]
  rw [pp_at, mAt_col X l 50 (by norm_num) le_rfl, lAt_col X l 50 (by norm_num) le_rfl, show 2000 * 50 = 100000 from rfl, hsm, hmx]

end Cert.KernelIdeal.Hand
-- ==== Proof.RefValue.lean ====
/-
  The reference's results read at an element, over the extended reals.
-/
module

public import proofs.«01_k».proof.Proof.Ref
public import proofs.«01_k».proof.Proof.Math
public import Idealize.ShloMosaic.Lib.Pointwise

@[expose] public section

set_option maxRecDepth 16384

noncomputable section

namespace Cert.ReferenceIdeal.Hand

open Cert.ReferenceIdeal Cert.ReferenceIdeal.Gen Cert.Draw Cert.Threefry
open Idealize.ShloMosaic

variable (s : S128x100000.Idx → EReal) (g : S128x100000.Idx → EReal) (b : Fin 128)

theorem ninf_bits : Ideal.ofBits .f32 0xFF800000#32 = ⊥ := by
  simp [Ideal.ofBits, Ideal.ieee]

theorem spread_at (v : S128.Idx → EReal) (k : Fin 100000) : spread (F := Ideal) v (ix2 b k) = v (ix1 b) := by
  pointwise [spread]

/-- A row's maximum, with the least value's bits where a fold starts. -/
theorem rowmax_at {n0 n1 : ℕ} (v : (⟨2, ![n0, n1]⟩ : Shape).Idx → EReal) (h : (⟨2, ![n0, n1]⟩ : Shape).ReducesTo [1] ⟨1, ![n0]⟩)
    (h0 : 0 < S_.numel) (b : Fin n0) :
    Host.reduce (FloatOps.maximumf (F := Ideal) (φ := .f32)) v (constant (F := Ideal) S_ .f32 0xFF800000#32) h h0 (ix1 b) = Finset.univ.sup fun k : Fin n1 => v (ix2 b k) := by
  pointwise [ninf_bits]
  rfl

theorem max_at {S : Shape} (x y : S.Idx → EReal) (j : S.Idx) : maximumf (F := Ideal) (φ := .f32) x y j = max (x j) (y j) := rfl
theorem div_at {S : Shape} (x y : S.Idx → EReal) (j : S.Idx) : Host.divf (F := Ideal) (φ := .f32) x y j = Ideal.div (x j) (y j) := rfl
theorem log_at {S : Shape} (x : S.Idx → EReal) (j : S.Idx) : Host.log (F := Ideal) (φ := .f32) x j = Ideal.log (x j) := rfl
theorem add_at {S : Shape} (x y : S.Idx → EReal) (j : S.Idx) : addf (F := Ideal) (φ := .f32) x y j = x j + y j := rfl

theorem floor_at (j : S128.Idx) : broadcastInDim S128 ![] bcast_S_S128 (constant (F := Ideal) S_ .f32 0xFF800000#32) j = (⊥ : EReal) := ninf_bits

theorem rmax_at : rmax (F := Ideal) s (ix1 b) = Finset.univ.sup fun k : Fin 100000 => s (ix2 b k) := by
  unfold rmax
  rw [max_at, floor_at, max_eq_right bot_le]
  exact rowmax_at s _ _ b

theorem rexp_at (k : Fin 100000) : rexp (F := Ideal) s (ix2 b k) = Ideal.exp (s (ix2 b k) - Finset.univ.sup fun k : Fin 100000 => s (ix2 b k)) := by
  pointwise [rexp, spread_at, rmax_at]

theorem rsum_at (v : S128x100000.Idx → EReal) : rsum (F := Ideal) v (ix1 b) = 0 + ∑ k : Fin 100000, v (ix2 b k) := by
  pointwise [rsum]

theorem rsoft_at (k : Fin 100000) : rsoft (F := Ideal) s (ix2 b k) = 1 * Ideal.div (rexp (F := Ideal) s (ix2 b k)) (0 + ∑ j : Fin 100000, rexp (F := Ideal) s (ix2 b j)) := by
  pointwise [rsoft, spread_at, rsum_at]

theorem rprobs_at (k : Fin 100000) :
    rprobs (F := Ideal) s (ix2 b k) = Ideal.div (1 * Ideal.div (rexp (F := Ideal) s (ix2 b k)) (0 + ∑ j : Fin 100000, rexp (F := Ideal) s (ix2 b j)))
      (0 + ∑ i : Fin 100000, 1 * Ideal.div (rexp (F := Ideal) s (ix2 b i)) (0 + ∑ j : Fin 100000, rexp (F := Ideal) s (ix2 b j))) := by
  unfold rprobs
  rw [div_at, spread_at, rsum_at]
  simp only [rsoft_at]

/-- A probability: the exponential below the row's maximum, times one over the row's sum. -/
theorem rprobs_row (k : Fin 100000) :
    rprobs (F := Ideal) s (ix2 b k) = Ideal.exp (s (ix2 b k) - Finset.univ.sup fun k : Fin 100000 => s (ix2 b k))
      * Ideal.div 1 (∑ j : Fin 100000, Ideal.exp (s (ix2 b j) - Finset.univ.sup fun k : Fin 100000 => s (ix2 b k))) := by
  rw [rprobs_at]
  simp only [rexp_at]
  exact (norm_twice (fun k : Fin 100000 => Ideal.exp (s (ix2 b k) - Finset.univ.sup fun k : Fin 100000 => s (ix2 b k)))
    (fun i => exp_real (Finset.le_sup (f := fun k : Fin 100000 => s (ix2 b k)) (Finset.mem_univ i))) k).symm

theorem rscore_at (k : Fin 100000) : rscore (F := Ideal) s g (ix2 b k) = Ideal.log (rprobs (F := Ideal) s (ix2 b k)) + g (ix2 b k) := by
  unfold rscore
  rw [add_at, log_at]

/-! ## The noise -/

/-- The least normal number is not negative. -/
theorem tiny_nonneg : (0 : EReal) ≤ Ideal.ofBits .f32 0x00800000#32 := by
  simp [Ideal.ofBits, Ideal.ieee]
  exact mul_nonneg (by exact_mod_cast Nat.zero_le 8388608) (EReal.coe_nonneg.2 (by positivity))

theorem zero_bits : Ideal.ofBits .f32 0x00000000#32 = 0 := by
  simp [Ideal.ofBits, Ideal.ieee]
theorem one_bits : Ideal.ofBits .f32 0x3F800000#32 = 1 := by
  simp [Ideal.ofBits, Ideal.ieee]
  rw [← EReal.coe_mul, ← EReal.coe_one, EReal.coe_eq_coe_iff]
  norm_num

/-- The noise of a fraction does not see a bound at zero. -/
theorem gumbel_max (u : EReal) : gumbel1 (F := Ideal) (max 0 u) = gumbel1 (F := Ideal) u := by
  have e : max (max 0 u) (Ideal.ofBits .f32 0x00800000#32) = max u (Ideal.ofBits .f32 0x00800000#32) := by
    rw [max_comm 0 u, max_assoc, max_eq_right tiny_nonneg]
  exact congrArg (fun z : EReal => -Ideal.log (-Ideal.log z)) e

/-- A fraction stretched to `[l, h)`, at an entry. -/
theorem stretch_at (lo hi : S1x1.Idx → EReal) (l h : EReal) (hl : ∀ i, lo i = l) (hh : ∀ i, hi i = h) (u : S128x100000.Idx → EReal) (j : S128x100000.Idx) :
    stretch (F := Ideal) lo hi u j = max l (u j * (h - l) + l) := by
  unfold stretch
  have e1 : broadcastInDim S128x100000 ![0, 1] bcast_S1x1_S128x100000_0_1 lo j = l := hl _
  have e2 : broadcastInDim S128x100000 ![0, 1] bcast_S1x1_S128x100000_0_1 (subf (F := Ideal) (φ := .f32) hi lo) j = h - l := by rw [← hl, ← hh]; rfl
  show max (broadcastInDim S128x100000 ![0, 1] bcast_S1x1_S128x100000_0_1 lo j)
    (u j * broadcastInDim S128x100000 ![0, 1] bcast_S1x1_S128x100000_0_1 (subf (F := Ideal) (φ := .f32) hi lo) j + broadcastInDim S128x100000 ![0, 1] bcast_S1x1_S128x100000_0_1 lo j) = _
  rw [e1, e2]

/-- The noise at an entry is that of the entry's bits. -/
theorem rnoise_at (j : S128x100000.Idx) : rnoise (F := Ideal) j = gumbel1 (unit1 (F := Ideal) (rbits j)) := by
  unfold rnoise
  have e := stretch_at (broadcastInDim S1x1 ![] bcast_S_S1x1 (constant (F := Ideal) S_ .f32 0x00000000#32)) (broadcastInDim S1x1 ![] bcast_S_S1x1 (constant (F := Ideal) S_ .f32 0x3F800000#32)) 0 1
    (fun _ => zero_bits) (fun _ => one_bits) (unit (F := Ideal) hs rbits) j
  rw [gumbel_at, e, unit_at, sub_zero, mul_one, add_zero, gumbel_max]

/-! ## The arg-max's fold -/

/-- Of two pairs the first beats the second: a greater value, or the same at no later an index. -/
def Beats (x y : EReal × BitVec 32) : Prop := y.1 ≤ x.1 ∧ (y.1 = x.1 → x.2.toInt ≤ y.2.toInt)

theorem Beats.refl (x : EReal × BitVec 32) : Beats x x := ⟨le_rfl, fun _ => le_rfl⟩
theorem Beats.trans {x y z : EReal × BitVec 32} (h : Beats x y) (h' : Beats y z) : Beats x z :=
  ⟨h'.1.trans h.1, fun e => (h.2 (le_antisymm h.1 (e ▸ h'.1))).trans (h'.2 (le_antisymm h'.1 (e ▸ h.1)))⟩

/-- The reducer returns one of its two pairs, and that one beats both. -/
theorem reducer_best (x y : EReal × BitVec 32) :
    (reducer_argmax_f32_i32 (F := Ideal) x y = x ∨ reducer_argmax_f32_i32 (F := Ideal) x y = y)
      ∧ Beats (reducer_argmax_f32_i32 (F := Ideal) x y) x ∧ Beats (reducer_argmax_f32_i32 (F := Ideal) x y) y := by
  obtain ⟨x1, x2⟩ := x
  obtain ⟨y1, y2⟩ := y
  rcases lt_trichotomy y1 x1 with h | h | h
  · have e : reducer_argmax_f32_i32 (F := Ideal) (x1, x2) (y1, y2) = (x1, x2) := by
      simp [reducer_argmax_f32_i32, Ideal.cmpf_def, Ideal.cmp, IntOp.ori, IntOp.andi, IntOp.cmpi, Scalar.select, h, h.ne']
    rw [e]; exact ⟨.inl rfl, .refl _, h.le, fun e => absurd e h.ne⟩
  · subst h
    by_cases h2 : x2.slt y2
    · have e : reducer_argmax_f32_i32 (F := Ideal) (y1, x2) (y1, y2) = (y1, x2) := by
        simp [reducer_argmax_f32_i32, Ideal.cmpf_def, Ideal.cmp, IntOp.ori, IntOp.andi, IntOp.cmpi, Scalar.select, h2]
      have h' : x2.toInt < y2.toInt := by simpa [BitVec.slt] using h2
      rw [e]; exact ⟨.inl rfl, .refl _, le_rfl, fun _ => h'.le⟩
    · have e : reducer_argmax_f32_i32 (F := Ideal) (y1, x2) (y1, y2) = (y1, y2) := by
        simp [reducer_argmax_f32_i32, Ideal.cmpf_def, Ideal.cmp, IntOp.ori, IntOp.andi, IntOp.cmpi, Scalar.select, h2]
      have h' : y2.toInt ≤ x2.toInt := by simpa [BitVec.slt] using h2
      rw [e]; exact ⟨.inr rfl, ⟨le_rfl, fun _ => h'⟩, .refl _⟩
  · have e : reducer_argmax_f32_i32 (F := Ideal) (x1, x2) (y1, y2) = (y1, y2) := by
      simp [reducer_argmax_f32_i32, Ideal.cmpf_def, Ideal.cmp, IntOp.ori, IntOp.andi, IntOp.cmpi, Scalar.select, h.not_gt, h.ne]
    rw [e]; exact ⟨.inr rfl, ⟨h.le, fun e => absurd e h.ne⟩, .refl _⟩

theorem foldl_best (L : List (EReal × BitVec 32)) : ∀ x,
    (L.foldl (reducer_argmax_f32_i32 (F := Ideal)) x = x ∨ L.foldl (reducer_argmax_f32_i32 (F := Ideal)) x ∈ L)
      ∧ Beats (L.foldl (reducer_argmax_f32_i32 (F := Ideal)) x) x ∧ ∀ y ∈ L, Beats (L.foldl (reducer_argmax_f32_i32 (F := Ideal)) x) y := by
  induction L with
  | nil => exact fun x => ⟨.inl rfl, .refl x, fun y hy => absurd hy (List.not_mem_nil)⟩
  | cons a L ih =>
    intro x
    obtain ⟨r1, r2, r3⟩ := reducer_best x a
    obtain ⟨i1, i2, i3⟩ := ih (reducer_argmax_f32_i32 (F := Ideal) x a)
    rw [List.foldl_cons]
    refine ⟨?_, i2.trans r2, fun y hy => ?_⟩
    · rcases i1 with i1 | i1
      · rw [i1]; exact r1.imp id fun e => by rw [e]; exact List.mem_cons_self
      · exact .inr (List.mem_cons_of_mem _ i1)
    · rcases List.mem_cons.1 hy with rfl | hy
      · exact i2.trans r3
      · exact i3 y hy

theorem toInt_word {n : ℕ} (h : n < 2 ^ 31) : (BitVec.ofNat 32 n).toInt = n := by
  rw [BitVec.toInt_eq_toNat_of_lt] <;> rw [BitVec.toNat_ofNat] <;> omega

/-- The pairs folded at a row are the row's elements with their indices. -/
theorem mem_fiber {n0 n1 : ℕ} {α β : Type} (x : (⟨2, ![n0, n1]⟩ : Shape).Idx → α) (y : (⟨2, ![n0, n1]⟩ : Shape).Idx → β)
    (h : (⟨2, ![n0, n1]⟩ : Shape).ReducesTo [1] ⟨1, ![n0]⟩) (b : Fin n0) (p : α × β) :
    p ∈ Host.argReduceFiber x y h (ix1 b) ↔ ∃ k : Fin n1, (x (ix2 b k), y (ix2 b k)) = p := by
  unfold Host.argReduceFiber
  rw [List.mem_map]
  have hd := fun i => Shape.ReducesTo.fiber_r2_a1 h (ix1 b) i
  constructor
  · rintro ⟨n, hn, rfl⟩
    have hn := of_decide_eq_true (List.mem_filter.1 hn).2
    obtain ⟨k, hk⟩ := (hd _).1 hn
    exact ⟨k, by rw [← hk]; rfl⟩
  · rintro ⟨k, rfl⟩
    refine ⟨Shape.rowMajor _ (ix2 b k), List.mem_filter.2 ⟨List.mem_finRange _, decide_eq_true ?_⟩, ?_⟩
    · rw [Equiv.symm_apply_apply]; exact (hd _).2 ⟨k, rfl⟩
    · rw [Equiv.symm_apply_apply]

theorem iota_at {n0 n1 : ℕ} (b : Fin n0) (k : Fin n1) : iotaInDim ⟨2, ![n0, n1]⟩ 32 1 (ix2 b k) = BitVec.ofNat 32 k.val := rfl

/-- The arg-max of a row is its first best column. -/
theorem argmax_at {n0 n1 : ℕ} (hn : n1 < 2 ^ 31) (v : (⟨2, ![n0, n1]⟩ : Shape).Idx → EReal) (h : (⟨2, ![n0, n1]⟩ : Shape).ReducesTo [1] ⟨1, ![n0]⟩)
    (h0 : 0 < S_.numel) (b : Fin n0) (t : ℕ → EReal) (ht : ∀ k : Fin n1, t k.val = v (ix2 b k)) (a : ℕ) (ha : First t n1 a) :
    ∃ w, Host.argReduce (reducer_argmax_f32_i32 (F := Ideal)) v (iotaInDim ⟨2, ![n0, n1]⟩ 32 1) (constant (F := Ideal) S_ .f32 0xFF800000#32) (constantI S_ 32 0#32) h h0 (ix1 b)
      = (w, BitVec.ofNat 32 a) := by
  obtain ⟨a1, a2, a3⟩ := ha
  rw [Ideal.argReduce_eq_reduce2, Host.reduce2_eq_foldl_fiber]
  have hfib : ∀ y, y ∈ Host.argReduceFiber v (iotaInDim ⟨2, ![n0, n1]⟩ 32 1) h (ix1 b) ↔ ∃ k : Fin n1, (t k.val, BitVec.ofNat 32 k.val) = y := by
    intro y
    rw [mem_fiber]
    simp only [iota_at, ← ht]
  generalize Host.argReduceFiber v (iotaInDim ⟨2, ![n0, n1]⟩ 32 1) h (ix1 b) = L at hfib
  have hinit : ((constant (F := Ideal) S_ .f32 0xFF800000#32 (Shape.Idx.first h0), constantI S_ 32 0#32 (Shape.Idx.first h0)) : EReal × BitVec 32) = (⊥, 0#32) :=
    Prod.ext ninf_bits rfl
  rw [hinit]
  obtain ⟨f1, f2, f3⟩ := foldl_best L (⊥, 0#32)
  have fa := f3 _ ((hfib _).2 ⟨⟨a, a1⟩, rfl⟩)
  generalize L.foldl (reducer_argmax_f32_i32 (F := Ideal)) (⊥, 0#32) = w at f1 f2 f3 fa ⊢
  rcases f1 with rfl | f1
  · have hta : t a = ⊥ := le_bot_iff.1 fa.1
    by_cases h0 : a = 0
    · subst h0; exact ⟨⊥, rfl⟩
    · exact absurd (a3 0 (by omega)) (by rw [hta]; exact not_lt_bot)
  · obtain ⟨k, rfl⟩ := (hfib w).1 f1
    have hk := k.isLt
    have e : t k.val = t a := le_antisymm (a2 k.val hk) fa.1
    have h1 := fa.2 e.symm
    rw [toInt_word (by omega), toInt_word (by show a < _; omega)] at h1
    have h2 : ¬ k.val < a := fun h => absurd e (a3 k.val h).ne
    have h1 : k.val ≤ a := by exact_mod_cast h1
    have h3 : k.val = a := by omega
    exact ⟨t k.val, by rw [h3]⟩

/-- The drawn action is the first best column of the row's scores. -/
theorem ract_at (t : ℕ → EReal) (ht : ∀ k : Fin 100000, t k.val = rscore (F := Ideal) s g (ix2 b k)) (a : ℕ) (ha : First t 100000 a) :
    ract (F := Ideal) s g (ix1 b) = BitVec.ofNat 32 a := by
  obtain ⟨w, hw⟩ : ∃ w, rbest (F := Ideal) s g (ix1 b) = (w, BitVec.ofNat 32 a) :=
    argmax_at (by norm_num) (rscore (F := Ideal) s g) reducesTo_S128x100000_S128_d1 h_S_ b t ht a ha
  exact (seconds_at _ _).trans (congrArg Prod.snd hw)

end Cert.ReferenceIdeal.Hand
-- ==== Proof.Alg.lean ====
/-
  The kernel and the reference agree over the extended reals.
-/
module

public import proofs.«01_k».proof.Defs
public import proofs.«01_k».proof.Proof.Gen.Pre_no_plus_inf
public import proofs.«01_k».proof.Proof.Table
public import proofs.«01_k».proof.Proof.Value
public import proofs.«01_k».proof.Proof.RefValue
public import proofs.«01_k».proof.Proof.RefRun

@[expose] public section

set_option maxRecDepth 16384

noncomputable section

namespace Cert.Agree

open Idealize.ShloMosaic Cert.Draw Cert.Threefry

/-! ## The precondition -/

theorem pinf_bits : Ideal.ofBits .f32 0x7F800000#32 = ⊤ := by
  simp [Ideal.ofBits, Ideal.ieee]

/-- A conjunction of bits is one only where each is. -/
theorem foldl_and {ι : Type} (v : ι → BitVec 1) (L : List ι) : ∀ b, L.foldl (fun r i => IntOp.andi r (v i)) b = 1#1 → b = 1#1 ∧ ∀ i ∈ L, v i = 1#1 := by
  induction L with
  | nil => exact fun b h => ⟨h, fun i hi => absurd hi List.not_mem_nil⟩
  | cons a L ih =>
    intro b h
    obtain ⟨h1, h2⟩ := ih _ h
    have h3 : ∀ x y : BitVec 1, IntOp.andi x y = 1#1 → x = 1#1 ∧ y = 1#1 := by decide
    obtain ⟨h4, h5⟩ := h3 _ _ h1
    refine ⟨h4, fun i hi => ?_⟩
    rcases List.mem_cons.1 hi with rfl | hi
    · exact h5
    · exact h2 i hi

theorem reduce_and {s t u : Shape} {axes : List (Fin s.rank)} (v : s.Idx → BitVec 1) (c : u.Idx → BitVec 1) (h : s.ReducesTo axes t) (hu : 0 < u.numel) (j : t.Idx)
    (e : Host.reduce IntOp.andi v c h hu j = 1#1) (i : s.Idx) (hi : h.drop i = j) : v i = 1#1 := by
  rw [Host.reduce_eq_foldl] at e
  refine (foldl_and v _ _ e).2 i (List.mem_filter.2 ⟨List.mem_map.2 ⟨s.rowMajor i, List.mem_finRange _, ?_⟩, decide_eq_true hi⟩)
  exact Equiv.symm_apply_apply _ _

theorem less_at {S : Shape} (x y : S.Idx → EReal) (j : S.Idx) (h : cmpf (F := Ideal) (φ := .f32) .olt x y j = 1#1) : x j < y j := by
  have : Ideal.cmp .olt (x j) (y j) = 1#1 := h
  by_contra hn
  simp [Ideal.cmp, hn] at this

/-- Under the precondition every logit is below plus infinity. -/
theorem below {x : Cert.Pre_no_plus_inf.S128x100000.Idx → EReal}
    (h : Cert.Pre_no_plus_inf.fn (F := Ideal) x = fun _ => 1#1) (i : Cert.Pre_no_plus_inf.S128x100000.Idx) : x i < ⊤ := by
  have e := congrFun h ix0
  unfold Cert.Pre_no_plus_inf.fn at e
  have e2 := reduce_and _ _ _ _ _ e i (funext fun a => a.elim0)
  have e3 := less_at _ _ _ e2
  have e4 : broadcastInDim Cert.Pre_no_plus_inf.S128x100000 ![] Cert.Pre_no_plus_inf.Facts.bcast_S_S128x100000 (constant (F := Ideal) Cert.Pre_no_plus_inf.S_ .f32 0x7F800000#32) i = (⊤ : EReal) := pinf_bits
  rwa [e4] at e3

/-! ## The two results -/

section
open Cert.KernelIdeal Cert.KernelIdeal.Gen

variable (x : S128x100000.Idx → EReal) (gt : S100000x128.Idx → EReal)

/-- The logits as the kernel reads them, a row a column. -/
def turn : S100000x128.Idx → EReal := transpose S100000x128 [1, 0] x transposes_S128x100000_S100000x128_1_0

theorem turn_at (i : Fin 100000) (b : Fin 128) : turn x (ix2 i b) = x (ix2 b i) := by
  unfold turn; pointwise

theorem back_at (y : S100000x128.Idx → EReal) (b : Fin 128) (i : Fin 100000) :
    transpose S128x100000 [1, 0] y transposes_S100000x128_S128x100000_1_0 (ix2 b i) = y (ix2 i b) := by
  pointwise

theorem flat_at (y : S1x128.Idx → BitVec 32) (b : Fin 128) : shapeCast S128 y shapeCasts_S1x128_S128 (ix1 b) = y (ix2 0 b) := by
  pointwise

/-- The kernel's probability, read on the logits as given. -/
theorem prob_row (b : Fin 128) (i : Fin 100000) : Hand.PP (F := Ideal) (turn x) (ix2 i b) = Cert.ReferenceIdeal.Hand.rprobs (F := Ideal) x (ix2 b i) := by
  rw [Hand.pp_col, Cert.ReferenceIdeal.Hand.rprobs_row]
  simp only [turn_at]

/-- The probabilities agree. -/
theorem probs_eq : transpose S128x100000 [1, 0] (Hand.PP (F := Ideal) (turn x)) transposes_S100000x128_S128x100000_1_0 = Cert.ReferenceIdeal.Hand.rprobs (F := Ideal) x := by
  funext j
  obtain ⟨b, i, rfl⟩ : ∃ (b : Fin 128) (i : Fin 100000), j = ix2 b i := ⟨j 0, j 1, (ix2_eta j).symm⟩
  rw [back_at]
  exact prob_row x b i

/-- Where no logit is plus infinity the draws agree: a row's log-probabilities are its logits less one real number. -/
theorem draws_eq (g : S128x100000.Idx → EReal) (hg : ∀ (b : Fin 128) (i : Fin 100000), gt (ix2 i b) = g (ix2 b i)) (hx : ∀ j, x j < ⊤) :
    shapeCast S128 (Hand.aAt (F := Ideal) (turn x) gt 50) shapeCasts_S1x128_S128 = Cert.ReferenceIdeal.Hand.ract (F := Ideal) x g := by
  funext j
  obtain ⟨b, rfl⟩ : ∃ b : Fin 128, j = ix1 b := ⟨j 0, (ix1_eta j).symm⟩
  obtain ⟨a, ha, e⟩ := Hand.aAt_col (turn x) gt b 50 (by norm_num) le_rfl
  rw [show 2000 * 50 = 100000 from rfl] at ha
  obtain ⟨K, hK⟩ := log_shift (fun k : Fin 100000 => x (ix2 b k)) fun k => hx _
  rw [flat_at, e]
  refine (Cert.ReferenceIdeal.Hand.ract_at x g b (fun n => Hand.sc (turn x) gt b n - K) (fun k => ?_) a (ha.shift K fun i _ => rfl)).symm
  rw [Cert.ReferenceIdeal.Hand.rscore_at, Cert.ReferenceIdeal.Hand.rprobs_row, hK, Hand.sc, Hand.col_fin, Hand.col_fin, turn_at, hg]

end

/-! ## The noise -/

/-- Row `b`'s entry `i` has the same two words in both programs, -/
theorem words_eq (b : Fin 128) (i : Fin 100000) : Cert.ReferenceIdeal.Hand.rwords (ix2 b i) = Cert.KernelIdeal.Hand.words0 (ix2 i b) := by
  have hb := b.isLt
  have hi := i.isLt
  have e : Cert.ReferenceIdeal.Hand.count64 (ix2 b i) = BitVec.ofNat 64 (100000 * b.val + i.val) := by
    show 100000#64 * BitVec.ofNat 64 b.val + 1#64 * BitVec.ofNat 64 i.val = _
    apply BitVec.eq_of_toNat_eq
    simp only [BitVec.toNat_add, BitVec.toNat_mul, BitVec.toNat_ofNat]
    omega
  refine Prod.ext ?_ ?_
  · show (IntOp.shrui .host (Cert.ReferenceIdeal.Hand.count64 (ix2 b i)) 32#64).setWidth 32 + 0#32 = 0#32
    rw [e]
    have e2 : IntOp.shrui .host (BitVec.ofNat 64 (100000 * b.val + i.val)) 32#64 = BitVec.ofNat 64 (100000 * b.val + i.val) >>> (32#64) := if_pos (by decide)
    rw [e2]
    apply BitVec.eq_of_toNat_eq
    simp only [BitVec.toNat_add, BitVec.toNat_setWidth, BitVec.toNat_ushiftRight, BitVec.ushiftRight_eq', BitVec.toNat_ofNat, Nat.shiftRight_eq_div_pow, show 32 % 2 ^ 64 = 32 from rfl]
    have h1 : (100000 * b.val + i.val) % 2 ^ 64 = 100000 * b.val + i.val := Nat.mod_eq_of_lt (by omega)
    have h2 : (100000 * b.val + i.val) / 2 ^ 32 = 0 := Nat.div_eq_of_lt (by omega)
    rw [h1, h2]
  · show (Cert.ReferenceIdeal.Hand.count64 (ix2 b i)).setWidth 32 + 1#32 = BitVec.ofNat 32 b.val * 100000#32 + BitVec.ofNat 32 i.val + 1#32
    rw [e]
    apply BitVec.eq_of_toNat_eq
    simp only [BitVec.toNat_add, BitVec.toNat_mul, BitVec.toNat_setWidth, BitVec.toNat_ofNat]
    omega

/-- and so the same noise. -/
theorem noise_eq (b : Fin 128) (i : Fin 100000) : gumbel (F := Ideal) Cert.KernelIdeal.Hand.hb (unit Cert.KernelIdeal.Hand.hb Cert.KernelIdeal.Hand.bits) (ix2 i b) = Cert.ReferenceIdeal.Hand.rnoise (F := Ideal) (ix2 b i) := by
  rw [Cert.ReferenceIdeal.Hand.rnoise_at, gumbel_at, unit_at]
  have e : Cert.KernelIdeal.Hand.bits (ix2 i b) = Cert.ReferenceIdeal.Hand.rbits (ix2 b i) := by
    unfold Cert.KernelIdeal.Hand.bits Cert.ReferenceIdeal.Hand.rbits
    rw [words_eq]
  exact congrArg (fun w => gumbel1 (F := Ideal) (unit1 w)) e

/-- From memories that agree on the logits, none of them plus infinity, both programs run, with the same two results. -/
theorem agree : Cert.algebraic_KernelIdeal_ReferenceIdeal_pre_no_plus_inf := by
  intro m g m' g' hpre hagree
  refine ⟨_, _, θ_run_mono (Cert.KernelIdeal.Hand.run m g) fun r h c => ⟨(h.1 c).2.1, (h.1 c).2.2, (h.1 c).1⟩,
    θ_run_mono (Cert.ReferenceIdeal.Hand.run m' g') fun r h c => ⟨?_, ?_, (h c).2.2⟩⟩
  · rw [(h c).1, hagree c, Cert.KernelIdeal.Hand.Xin_eq]
    exact (probs_eq _).symm
  · rw [(h c).2.1, hagree c, Cert.KernelIdeal.Hand.Xin_eq, Cert.KernelIdeal.Hand.Gin_eq]
    exact (draws_eq _ _ _ noise_eq (below (hpre c))).symm

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_plus_inf
public import proofs.«01_k».proof.Proof.K.Run
public import proofs.«01_k».proof.Proof.KI.Run
public import proofs.«01_k».proof.Proof.Table
public import proofs.«01_k».proof.Proof.RefRun
public import proofs.«01_k».proof.Proof.Alg
public import Idealize.ShloMosaic.Adequacy
public import Idealize.ShloMosaic.Init

@[expose] public section

noncomputable section

namespace Cert.Proof

open Idealize.ShloMosaic Idealize.SL.Sem

/-- The program runs, leaves its argument and ends with every semaphore at zero. -/
theorem frame_kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0) :=
  θ_run_mono (Cert.Kernel.Hand.run m g) fun _ h => ⟨fun c => (h.1 c).1, h.2⟩

/-- Its ideal reading likewise. -/
theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  θ_run_mono (Cert.KernelIdeal.Hand.run m g) fun _ h => ⟨fun c => (h.1 c).1, h.2⟩

/-- Every claim, with the facts the programs and the precondition state. -/
theorem claim : Cert.Claim := ⟨Cert.Kernel.Gen.facts, Cert.KernelIdeal.Gen.facts, Cert.ReferenceIdeal.Gen.facts, Cert.Pre_no_plus_inf.Gen.facts,
  fun m g _ => frame_kernel m g, fun m g _ => frame_ideal m g, fun m g _ => frame_ideal m g, fun m g _ => Cert.ReferenceIdeal.Hand.quiet m g,
  fun m g _ => Cert.ReferenceIdeal.Hand.quiet m g, trivial, Cert.Agree.agree⟩

end Cert.Proof

end
